-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![32768, 1024]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Pre_finite_ReferenceIdeal.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Kernel.lean ====
abbrev S8192x1024 : Shape := ⟨2, ![8192, 1024]⟩
abbrev S2048x1024 : Shape := ⟨2, ![2048, 1024]⟩
abbrev S_ : Shape := ⟨0, ![]⟩
abbrev S8 : Shape := ⟨1, ![8]⟩
abbrev S24 : Shape := ⟨1, ![24]⟩
abbrev S1 : Shape := ⟨1, ![1]⟩
abbrev S256x1024 : Shape := ⟨2, ![256, 1024]⟩

abbrev nBuf : Space → Nat
  | .hbm => 2
  | .vmem => 3
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .local _ .vmem, ⟨0, _⟩ => ⟨S8192x1024, .f32⟩
  | .local _ .vmem, ⟨1, _⟩ => ⟨S2048x1024, .f32⟩
  | .local _ .vmem, ⟨2, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 2 → Bool
  | ⟨0, _⟩ => false
  | ⟨1, _⟩ => true
  | _ => false

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  (ofTc nBuf bufTy 2 82 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c0_i32_73 : BitVec 32 := 0#32
  ![v11.toNat, 0]
def k0_dev1 (d0 : Dev nD) : Nat :=
  let c0_i32_79 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_78 : BitVec 32 := 8#32
  let v158 : BitVec 32 := Scalar.muli v2 c8_i32_78
  let v159 : BitVec 32 := Scalar.addi c0_i32_79 v158
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_80 : BitVec 32 := 4#32
  let v160 : BitVec 32 := Scalar.muli v5 c4_i32_80
  let v161 : BitVec 32 := Scalar.addi v159 v160
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_81 : BitVec 32 := 1#32
  let v162 : BitVec 32 := Scalar.muli v34 c1_i32_81
  let v163 : BitVec 32 := Scalar.addi v161 v162
  v163.toNat
def k0_dev2 (d0 : Dev nD) : Nat :=
  let c0_i32_84 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_83 : BitVec 32 := 8#32
  let v164 : BitVec 32 := Scalar.muli v2 c8_i32_83
  let v165 : BitVec 32 := Scalar.addi c0_i32_84 v164
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_85 : BitVec 32 := 4#32
  let v166 : BitVec 32 := Scalar.muli v5 c4_i32_85
  let v167 : BitVec 32 := Scalar.addi v165 v166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let c0_i32 : BitVec 32 := 0#32
  let v13 : BitVec 1 := Scalar.cmpi .eq c4_i32_4 c0_i32
  let c1_i32_5 : BitVec 32 := 1#32
  let v14 : BitVec 32 := Scalar.select v13 c1_i32_5 c4_i32_4
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_86 : BitVec 32 := 1#32
  let v168 : BitVec 32 := Scalar.muli v22 c1_i32_86
  let v169 : BitVec 32 := Scalar.addi v167 v168
  v169.toNat
def k0_dev3 (d0 : Dev nD) : Nat :=
  let c0_i32_89 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c1_i32_20 : BitVec 32 := 1#32
  let v41 : BitVec 32 := Scalar.addi v40 c1_i32_20
  let c4_i32_21 : BitVec 32 := 4#32
  let c0_i32_22 : BitVec 32 := 0#32
  let v42 : BitVec 1 := Scalar.cmpi .eq c4_i32_21 c0_i32_22
  let c1_i32_23 : BitVec 32 := 1#32
  let v43 : BitVec 32 := Scalar.select v42 c1_i32_23 c4_i32_21
  let v44 : BitVec 32 := Scalar.remsi v41 v43
  let c0_i32_25 : BitVec 32 := 0#32
  let v46 : BitVec 1 := Scalar.cmpi .slt v44 c0_i32_25
  let c0_i32_26 : BitVec 32 := 0#32
  let v47 : BitVec 1 := Scalar.cmpi .slt v43 c0_i32_26
  let v48 : BitVec 1 := Scalar.xori v46 v47
  let c0_i32_24 : BitVec 32 := 0#32
  let v45 : BitVec 1 := Scalar.cmpi .ne v44 c0_i32_24
  let v49 : BitVec 1 := Scalar.andi v48 v45
  let v50 : BitVec 32 := Scalar.addi v44 v43
  let v51 : BitVec 32 := Scalar.select v49 v50 v44
  let c0_i32_34 : BitVec 32 := 0#32
  let v64 : BitVec 1 := Scalar.cmpi .sgt v51 c0_i32_34
  let v65 : BitVec 32 := Scalar.extui v64
  let c0_i32_35 : BitVec 32 := 0#32
  let v66 : BitVec 1 := Scalar.cmpi .slt v51 c0_i32_35
  let v67 : BitVec 32 := Scalar.extui v66
  let v68 : BitVec 32 := Scalar.subi v65 v67
  let c2_i32_33 : BitVec 32 := 2#32
  let c0_i32_36 : BitVec 32 := 0#32
  let v69 : BitVec 1 := Scalar.cmpi .sgt c2_i32_33 c0_i32_36
  let v70 : BitVec 32 := Scalar.extui v69
  let c0_i32_37 : BitVec 32 := 0#32
  let v71 : BitVec 1 := Scalar.cmpi .slt c2_i32_33 c0_i32_37
  let v72 : BitVec 32 := Scalar.extui v71
  let v73 : BitVec 32 := Scalar.subi v70 v72
  let v74 : BitVec 1 := Scalar.cmpi .ne v68 v73
  let v75 : BitVec 32 := Scalar.remsi v51 c2_i32_33
  let c0_i32_38 : BitVec 32 := 0#32
  let v76 : BitVec 1 := Scalar.cmpi .ne v75 c0_i32_38
  let v77 : BitVec 1 := Scalar.andi v74 v76
  let v63 : BitVec 32 := Scalar.divsi v51 c2_i32_33
  let c1_i32_39 : BitVec 32 := 1#32
  let v78 : BitVec 32 := Scalar.subi v63 c1_i32_39
  let v79 : BitVec 32 := Scalar.select v77 v78 v63
  let v80 : BitVec 32 := Scalar.xori v51 v79
  let c0_i32_48 : BitVec 32 := 0#32
  let v100 : BitVec 1 := Scalar.cmpi .sgt v80 c0_i32_48
  let v101 : BitVec 32 := Scalar.extui v100
  let c0_i32_49 : BitVec 32 := 0#32
  let v102 : BitVec 1 := Scalar.cmpi .slt v80 c0_i32_49
  let v103 : BitVec 32 := Scalar.extui v102
  let v104 : BitVec 32 := Scalar.subi v101 v103
  let c2_i32_47 : BitVec 32 := 2#32
  let c0_i32_50 : BitVec 32 := 0#32
  let v105 : BitVec 1 := Scalar.cmpi .sgt c2_i32_47 c0_i32_50
  let v106 : BitVec 32 := Scalar.extui v105
  let c0_i32_51 : BitVec 32 := 0#32
  let v107 : BitVec 1 := Scalar.cmpi .slt c2_i32_47 c0_i32_51
  let v108 : BitVec 32 := Scalar.extui v107
  let v109 : BitVec 32 := Scalar.subi v106 v108
  let v110 : BitVec 1 := Scalar.cmpi .ne v104 v109
  let v111 : BitVec 32 := Scalar.remsi v80 c2_i32_47
  let c0_i32_52 : BitVec 32 := 0#32
  let v112 : BitVec 1 := Scalar.cmpi .ne v111 c0_i32_52
  let v113 : BitVec 1 := Scalar.andi v110 v112
  let v99 : BitVec 32 := Scalar.divsi v80 c2_i32_47
  let c1_i32_53 : BitVec 32 := 1#32
  let v114 : BitVec 32 := Scalar.subi v99 c1_i32_53
  let v115 : BitVec 32 := Scalar.select v113 v114 v99
  let c8_i32_88 : BitVec 32 := 8#32
  let v170 : BitVec 32 := Scalar.muli v115 c8_i32_88
  let v171 : BitVec 32 := Scalar.addi c0_i32_89 v170
  let c2_i32_54 : BitVec 32 := 2#32
  let c0_i32_55 : BitVec 32 := 0#32
  let v116 : BitVec 1 := Scalar.cmpi .eq c2_i32_54 c0_i32_55
  let c1_i32_56 : BitVec 32 := 1#32
  let v117 : BitVec 32 := Scalar.select v116 c1_i32_56 c2_i32_54
  let v118 : BitVec 32 := Scalar.remsi v80 v117
  let c0_i32_58 : BitVec 32 := 0#32
  let v120 : BitVec 1 := Scalar.cmpi .slt v118 c0_i32_58
  let c0_i32_59 : BitVec 32 := 0#32
  let v121 : BitVec 1 := Scalar.cmpi .slt v117 c0_i32_59
  let v122 : BitVec 1 := Scalar.xori v120 v121
  let c0_i32_57 : BitVec 32 := 0#32
  let v119 : BitVec 1 := Scalar.cmpi .ne v118 c0_i32_57
  let v123 : BitVec 1 := Scalar.andi v122 v119
  let v124 : BitVec 32 := Scalar.addi v118 v117
  let v125 : BitVec 32 := Scalar.select v123 v124 v118
  let c4_i32_90 : BitVec 32 := 4#32
  let v172 : BitVec 32 := Scalar.muli v125 c4_i32_90
  let v173 : BitVec 32 := Scalar.addi v171 v172
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v174 : BitVec 32 := Scalar.muli v8 c1_i32_91
  let v175 : BitVec 32 := Scalar.addi v173 v174
  v175.toNat
def k0_dev4 (d0 : Dev nD) : Nat :=
  let c0_i32_94 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c3_i32 : BitVec 32 := 3#32
  let v52 : BitVec 32 := Scalar.addi v40 c3_i32
  let c4_i32_27 : BitVec 32 := 4#32
  let c0_i32_28 : BitVec 32 := 0#32
  let v53 : BitVec 1 := Scalar.cmpi .eq c4_i32_27 c0_i32_28
  let c1_i32_29 : BitVec 32 := 1#32
  let v54 : BitVec 32 := Scalar.select v53 c1_i32_29 c4_i32_27
  let v55 : BitVec 32 := Scalar.remsi v52 v54
  let c0_i32_31 : BitVec 32 := 0#32
  let v57 : BitVec 1 := Scalar.cmpi .slt v55 c0_i32_31
  let c0_i32_32 : BitVec 32 := 0#32
  let v58 : BitVec 1 := Scalar.cmpi .slt v54 c0_i32_32
  let v59 : BitVec 1 := Scalar.xori v57 v58
  let c0_i32_30 : BitVec 32 := 0#32
  let v56 : BitVec 1 := Scalar.cmpi .ne v55 c0_i32_30
  let v60 : BitVec 1 := Scalar.andi v59 v56
  let v61 : BitVec 32 := Scalar.addi v55 v54
  let v62 : BitVec 32 := Scalar.select v60 v61 v55
  let c0_i32_41 : BitVec 32 := 0#32
  let v82 : BitVec 1 := Scalar.cmpi .sgt v62 c0_i32_41
  let v83 : BitVec 32 := Scalar.extui v82
  let c0_i32_42 : BitVec 32 := 0#32
  let v84 : BitVec 1 := Scalar.cmpi .slt v62 c0_i32_42
  let v85 : BitVec 32 := Scalar.extui v84
  let v86 : BitVec 32 := Scalar.subi v83 v85
  let c2_i32_40 : BitVec 32 := 2#32
  let c0_i32_43 : BitVec 32 := 0#32
  let v87 : BitVec 1 := Scalar.cmpi .sgt c2_i32_40 c0_i32_43
  let v88 : BitVec 32 := Scalar.extui v87
  let c0_i32_44 : BitVec 32 := 0#32
  let v89 : BitVec 1 := Scalar.cmpi .slt c2_i32_40 c0_i32_44
  let v90 : BitVec 32 := Scalar.extui v89
  let v91 : BitVec 32 := Scalar.subi v88 v90
  let v92 : BitVec 1 := Scalar.cmpi .ne v86 v91
  let v93 : BitVec 32 := Scalar.remsi v62 c2_i32_40
  let c0_i32_45 : BitVec 32 := 0#32
  let v94 : BitVec 1 := Scalar.cmpi .ne v93 c0_i32_45
  let v95 : BitVec 1 := Scalar.andi v92 v94
  let v81 : BitVec 32 := Scalar.divsi v62 c2_i32_40
  let c1_i32_46 : BitVec 32 := 1#32
  let v96 : BitVec 32 := Scalar.subi v81 c1_i32_46
  let v97 : BitVec 32 := Scalar.select v95 v96 v81
  let v98 : BitVec 32 := Scalar.xori v62 v97
  let c0_i32_61 : BitVec 32 := 0#32
  let v127 : BitVec 1 := Scalar.cmpi .sgt v98 c0_i32_61
  let v128 : BitVec 32 := Scalar.extui v127
  let c0_i32_62 : BitVec 32 := 0#32
  let v129 : BitVec 1 := Scalar.cmpi .slt v98 c0_i32_62
  let v130 : BitVec 32 := Scalar.extui v129
  let v131 : BitVec 32 := Scalar.subi v128 v130
  let c2_i32_60 : BitVec 32 := 2#32
  let c0_i32_63 : BitVec 32 := 0#32
  let v132 : BitVec 1 := Scalar.cmpi .sgt c2_i32_60 c0_i32_63
  let v133 : BitVec 32 := Scalar.extui v132
  let c0_i32_64 : BitVec 32 := 0#32
  let v134 : BitVec 1 := Scalar.cmpi .slt c2_i32_60 c0_i32_64
  let v135 : BitVec 32 := Scalar.extui v134
  let v136 : BitVec 32 := Scalar.subi v133 v135
  let v137 : BitVec 1 := Scalar.cmpi .ne v131 v136
  let v138 : BitVec 32 := Scalar.remsi v98 c2_i32_60
  let c0_i32_65 : BitVec 32 := 0#32
  let v139 : BitVec 1 := Scalar.cmpi .ne v138 c0_i32_65
  let v140 : BitVec 1 := Scalar.andi v137 v139
  let v126 : BitVec 32 := Scalar.divsi v98 c2_i32_60
  let c1_i32_66 : BitVec 32 := 1#32
  let v141 : BitVec 32 := Scalar.subi v126 c1_i32_66
  let v142 : BitVec 32 := Scalar.select v140 v141 v126
  let c8_i32_93 : BitVec 32 := 8#32
  let v176 : BitVec 32 := Scalar.muli v142 c8_i32_93
  let v177 : BitVec 32 := Scalar.addi c0_i32_94 v176
  let c2_i32_67 : BitVec 32 := 2#32
  let c0_i32_68 : BitVec 32 := 0#32
  let v143 : BitVec 1 := Scalar.cmpi .eq c2_i32_67 c0_i32_68
  let c1_i32_69 : BitVec 32 := 1#32
  let v144 : BitVec 32 := Scalar.select v143 c1_i32_69 c2_i32_67
  let v145 : BitVec 32 := Scalar.remsi v98 v144
  let c0_i32_71 : BitVec 32 := 0#32
  let v147 : BitVec 1 := Scalar.cmpi .slt v145 c0_i32_71
  let c0_i32_72 : BitVec 32 := 0#32
  let v148 : BitVec 1 := Scalar.cmpi .slt v144 c0_i32_72
  let v149 : BitVec 1 := Scalar.xori v147 v148
  let c0_i32_70 : BitVec 32 := 0#32
  let v146 : BitVec 1 := Scalar.cmpi .ne v145 c0_i32_70
  let v150 : BitVec 1 := Scalar.andi v149 v146
  let v151 : BitVec 32 := Scalar.addi v145 v144
  let v152 : BitVec 32 := Scalar.select v150 v151 v145
  let c4_i32_95 : BitVec 32 := 4#32
  let v178 : BitVec 32 := Scalar.muli v152 c4_i32_95
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_96 : BitVec 32 := 1#32
  let v180 : BitVec 32 := Scalar.muli v8 c1_i32_96
  let v181 : BitVec 32 := Scalar.addi v179 v180
  v181.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_98 : BitVec 32 := 0#32
  let v182 : BitVec 1 := Scalar.cmpi .eq v8 c0_i32_98
  let v183 : BitVec 32 := Scalar.extui v182
  let c0_i32_99 : BitVec 32 := 0#32
  let v184 : BitVec 1 := Scalar.cmpi .ne v183 c0_i32_99
  v184

def k0_off2 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c0_i32_1254 : BitVec 32 := 0#32
  let v1972 : BitVec 32 := Scalar.addi v11 c0_i32_1254
  let c0_i32_1263 : BitVec 32 := 0#32
  ![v1972.toNat, 0]
def k0_dev5 (d0 : Dev nD) : Nat :=
  let c0_i32_1258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1257 : BitVec 32 := 8#32
  let v1973 : BitVec 32 := Scalar.muli v2 c8_i32_1257
  let v1974 : BitVec 32 := Scalar.addi c0_i32_1258 v1973
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1259 : BitVec 32 := 4#32
  let v1975 : BitVec 32 := Scalar.muli v5 c4_i32_1259
  let v1976 : BitVec 32 := Scalar.addi v1974 v1975
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let c0_i32 : BitVec 32 := 0#32
  let v13 : BitVec 1 := Scalar.cmpi .eq c4_i32_4 c0_i32
  let c1_i32_5 : BitVec 32 := 1#32
  let v14 : BitVec 32 := Scalar.select v13 c1_i32_5 c4_i32_4
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_1260 : BitVec 32 := 1#32
  let v1977 : BitVec 32 := Scalar.muli v22 c1_i32_1260
  let v1978 : BitVec 32 := Scalar.addi v1976 v1977
  v1978.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_100 : BitVec 32 := 3#32
  let v185 : BitVec 1 := Scalar.cmpi .eq v8 c3_i32_100
  let v186 : BitVec 32 := Scalar.extui v185
  let c0_i32_101 : BitVec 32 := 0#32
  let v187 : BitVec 1 := Scalar.cmpi .ne v186 c0_i32_101
  v187

def k0_off3 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c0_i32_1254 : BitVec 32 := 0#32
  let v1972 : BitVec 32 := Scalar.addi v11 c0_i32_1254
  let c0_i32_1263 : BitVec 32 := 0#32
  ![v1972.toNat, 0]
def k0_dev6 (d0 : Dev nD) : Nat :=
  let c0_i32_1258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1257 : BitVec 32 := 8#32
  let v1973 : BitVec 32 := Scalar.muli v2 c8_i32_1257
  let v1974 : BitVec 32 := Scalar.addi c0_i32_1258 v1973
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1259 : BitVec 32 := 4#32
  let v1975 : BitVec 32 := Scalar.muli v5 c4_i32_1259
  let v1976 : BitVec 32 := Scalar.addi v1974 v1975
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_1260 : BitVec 32 := 1#32
  let v1977 : BitVec 32 := Scalar.muli v34 c1_i32_1260
  let v1978 : BitVec 32 := Scalar.addi v1976 v1977
  v1978.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v35 : BitVec 1 := Scalar.cmpi .eq v8 c1_i32_17
  let c2_i32_18 : BitVec 32 := 2#32
  let v36 : BitVec 1 := Scalar.cmpi .eq v8 c2_i32_18
  let v37 : BitVec 1 := Scalar.ori v35 v36
  let v188 : BitVec 32 := Scalar.extui v37
  let c0_i32_102 : BitVec 32 := 0#32
  let v189 : BitVec 1 := Scalar.cmpi .ne v188 c0_i32_102
  v189

def k0_off4 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c0_i32_1265 : BitVec 32 := 0#32
  let v1983 : BitVec 32 := Scalar.addi v11 c0_i32_1265
  let v1984 : Index := Scalar.indexCast v1983
  let c0_1266 : Index := 0#32
  ![v1984.toNat, 0]
def k0_dev7 (d0 : Dev nD) : Nat :=
  let c0_i32_1272 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1271 : BitVec 32 := 8#32
  let v1991 : BitVec 32 := Scalar.muli v2 c8_i32_1271
  let v1992 : BitVec 32 := Scalar.addi c0_i32_1272 v1991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1273 : BitVec 32 := 4#32
  let v1993 : BitVec 32 := Scalar.muli v5 c4_i32_1273
  let v1994 : BitVec 32 := Scalar.addi v1992 v1993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let c0_i32 : BitVec 32 := 0#32
  let v13 : BitVec 1 := Scalar.cmpi .eq c4_i32_4 c0_i32
  let c1_i32_5 : BitVec 32 := 1#32
  let v14 : BitVec 32 := Scalar.select v13 c1_i32_5 c4_i32_4
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_1274 : BitVec 32 := 1#32
  let v1995 : BitVec 32 := Scalar.muli v22 c1_i32_1274
  let v1996 : BitVec 32 := Scalar.addi v1994 v1995
  v1996.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_103 : BitVec 32 := 3#32
  let v190 : BitVec 1 := Scalar.cmpi .eq v8 c3_i32_103
  let v191 : BitVec 32 := Scalar.extui v190
  let c0_i32_104 : BitVec 32 := 0#32
  let v192 : BitVec 1 := Scalar.cmpi .ne v191 c0_i32_104
  v192

def k0_off5 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c0_i32_1265 : BitVec 32 := 0#32
  let v1983 : BitVec 32 := Scalar.addi v11 c0_i32_1265
  let v1984 : Index := Scalar.indexCast v1983
  let c0_1266 : Index := 0#32
  ![v1984.toNat, 0]
def k0_off6 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c0_i32_1269 : BitVec 32 := 0#32
  let v1991 : BitVec 32 := Scalar.addi v11 c0_i32_1269
  let c0_i32_1273 : BitVec 32 := 0#32
  ![v1991.toNat, 0]
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let v193 : BitVec 1 := Scalar.cmpi .eq v8 c0_i32_105
  let v194 : BitVec 32 := Scalar.extui v193
  let c0_i32_106 : BitVec 32 := 0#32
  let v195 : BitVec 1 := Scalar.cmpi .ne v194 c0_i32_106
  v195

def k0_off7 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c256_i32_1254 : BitVec 32 := 256#32
  let v1972 : BitVec 32 := Scalar.addi v11 c256_i32_1254
  let c0_i32_1263 : BitVec 32 := 0#32
  ![v1972.toNat, 0]
def k0_dev8 (d0 : Dev nD) : Nat :=
  let c0_i32_1258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1257 : BitVec 32 := 8#32
  let v1973 : BitVec 32 := Scalar.muli v2 c8_i32_1257
  let v1974 : BitVec 32 := Scalar.addi c0_i32_1258 v1973
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1259 : BitVec 32 := 4#32
  let v1975 : BitVec 32 := Scalar.muli v5 c4_i32_1259
  let v1976 : BitVec 32 := Scalar.addi v1974 v1975
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let c0_i32 : BitVec 32 := 0#32
  let v13 : BitVec 1 := Scalar.cmpi .eq c4_i32_4 c0_i32
  let c1_i32_5 : BitVec 32 := 1#32
  let v14 : BitVec 32 := Scalar.select v13 c1_i32_5 c4_i32_4
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_1260 : BitVec 32 := 1#32
  let v1977 : BitVec 32 := Scalar.muli v22 c1_i32_1260
  let v1978 : BitVec 32 := Scalar.addi v1976 v1977
  v1978.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_107 : BitVec 32 := 3#32
  let v196 : BitVec 1 := Scalar.cmpi .eq v8 c3_i32_107
  let v197 : BitVec 32 := Scalar.extui v196
  let c0_i32_108 : BitVec 32 := 0#32
  let v198 : BitVec 1 := Scalar.cmpi .ne v197 c0_i32_108
  v198

def k0_off8 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c256_i32_1254 : BitVec 32 := 256#32
  let v1972 : BitVec 32 := Scalar.addi v11 c256_i32_1254
  let c0_i32_1263 : BitVec 32 := 0#32
  ![v1972.toNat, 0]
def k0_dev9 (d0 : Dev nD) : Nat :=
  let c0_i32_1258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1257 : BitVec 32 := 8#32
  let v1973 : BitVec 32 := Scalar.muli v2 c8_i32_1257
  let v1974 : BitVec 32 := Scalar.addi c0_i32_1258 v1973
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1259 : BitVec 32 := 4#32
  let v1975 : BitVec 32 := Scalar.muli v5 c4_i32_1259
  let v1976 : BitVec 32 := Scalar.addi v1974 v1975
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_1260 : BitVec 32 := 1#32
  let v1977 : BitVec 32 := Scalar.muli v34 c1_i32_1260
  let v1978 : BitVec 32 := Scalar.addi v1976 v1977
  v1978.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v35 : BitVec 1 := Scalar.cmpi .eq v8 c1_i32_17
  let c2_i32_18 : BitVec 32 := 2#32
  let v36 : BitVec 1 := Scalar.cmpi .eq v8 c2_i32_18
  let v37 : BitVec 1 := Scalar.ori v35 v36
  let v199 : BitVec 32 := Scalar.extui v37
  let c0_i32_109 : BitVec 32 := 0#32
  let v200 : BitVec 1 := Scalar.cmpi .ne v199 c0_i32_109
  v200

def k0_off9 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c256_i32_1264 : BitVec 32 := 256#32
  let v1983 : BitVec 32 := Scalar.addi v11 c256_i32_1264
  let v1984 : Index := Scalar.indexCast v1983
  let c0_1265 : Index := 0#32
  ![v1984.toNat, 0]
def k0_dev10 (d0 : Dev nD) : Nat :=
  let c0_i32_1271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1270 : BitVec 32 := 8#32
  let v1991 : BitVec 32 := Scalar.muli v2 c8_i32_1270
  let v1992 : BitVec 32 := Scalar.addi c0_i32_1271 v1991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1272 : BitVec 32 := 4#32
  let v1993 : BitVec 32 := Scalar.muli v5 c4_i32_1272
  let v1994 : BitVec 32 := Scalar.addi v1992 v1993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let c0_i32 : BitVec 32 := 0#32
  let v13 : BitVec 1 := Scalar.cmpi .eq c4_i32_4 c0_i32
  let c1_i32_5 : BitVec 32 := 1#32
  let v14 : BitVec 32 := Scalar.select v13 c1_i32_5 c4_i32_4
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_1273 : BitVec 32 := 1#32
  let v1995 : BitVec 32 := Scalar.muli v22 c1_i32_1273
  let v1996 : BitVec 32 := Scalar.addi v1994 v1995
  v1996.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_110 : BitVec 32 := 3#32
  let v201 : BitVec 1 := Scalar.cmpi .eq v8 c3_i32_110
  let v202 : BitVec 32 := Scalar.extui v201
  let c0_i32_111 : BitVec 32 := 0#32
  let v203 : BitVec 1 := Scalar.cmpi .ne v202 c0_i32_111
  v203

def k0_off10 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c256_i32_1264 : BitVec 32 := 256#32
  let v1983 : BitVec 32 := Scalar.addi v11 c256_i32_1264
  let v1984 : Index := Scalar.indexCast v1983
  let c0_1265 : Index := 0#32
  ![v1984.toNat, 0]
def k0_off11 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c256_i32_1268 : BitVec 32 := 256#32
  let v1991 : BitVec 32 := Scalar.addi v11 c256_i32_1268
  let c0_i32_1272 : BitVec 32 := 0#32
  ![v1991.toNat, 0]
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_112 : BitVec 32 := 0#32
  let v204 : BitVec 1 := Scalar.cmpi .eq v8 c0_i32_112
  let v205 : BitVec 32 := Scalar.extui v204
  let c0_i32_113 : BitVec 32 := 0#32
  let v206 : BitVec 1 := Scalar.cmpi .ne v205 c0_i32_113
  v206

def k0_off12 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c512_i32_1254 : BitVec 32 := 512#32
  let v1972 : BitVec 32 := Scalar.addi v11 c512_i32_1254
  let c0_i32_1263 : BitVec 32 := 0#32
  ![v1972.toNat, 0]
def k0_dev11 (d0 : Dev nD) : Nat :=
  let c0_i32_1258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1257 : BitVec 32 := 8#32
  let v1973 : BitVec 32 := Scalar.muli v2 c8_i32_1257
  let v1974 : BitVec 32 := Scalar.addi c0_i32_1258 v1973
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1259 : BitVec 32 := 4#32
  let v1975 : BitVec 32 := Scalar.muli v5 c4_i32_1259
  let v1976 : BitVec 32 := Scalar.addi v1974 v1975
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let c0_i32 : BitVec 32 := 0#32
  let v13 : BitVec 1 := Scalar.cmpi .eq c4_i32_4 c0_i32
  let c1_i32_5 : BitVec 32 := 1#32
  let v14 : BitVec 32 := Scalar.select v13 c1_i32_5 c4_i32_4
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_1260 : BitVec 32 := 1#32
  let v1977 : BitVec 32 := Scalar.muli v22 c1_i32_1260
  let v1978 : BitVec 32 := Scalar.addi v1976 v1977
  v1978.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_114 : BitVec 32 := 3#32
  let v207 : BitVec 1 := Scalar.cmpi .eq v8 c3_i32_114
  let v208 : BitVec 32 := Scalar.extui v207
  let c0_i32_115 : BitVec 32 := 0#32
  let v209 : BitVec 1 := Scalar.cmpi .ne v208 c0_i32_115
  v209

def k0_off13 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c512_i32_1254 : BitVec 32 := 512#32
  let v1972 : BitVec 32 := Scalar.addi v11 c512_i32_1254
  let c0_i32_1263 : BitVec 32 := 0#32
  ![v1972.toNat, 0]
def k0_dev12 (d0 : Dev nD) : Nat :=
  let c0_i32_1258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1257 : BitVec 32 := 8#32
  let v1973 : BitVec 32 := Scalar.muli v2 c8_i32_1257
  let v1974 : BitVec 32 := Scalar.addi c0_i32_1258 v1973
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1259 : BitVec 32 := 4#32
  let v1975 : BitVec 32 := Scalar.muli v5 c4_i32_1259
  let v1976 : BitVec 32 := Scalar.addi v1974 v1975
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_1260 : BitVec 32 := 1#32
  let v1977 : BitVec 32 := Scalar.muli v34 c1_i32_1260
  let v1978 : BitVec 32 := Scalar.addi v1976 v1977
  v1978.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v35 : BitVec 1 := Scalar.cmpi .eq v8 c1_i32_17
  let c2_i32_18 : BitVec 32 := 2#32
  let v36 : BitVec 1 := Scalar.cmpi .eq v8 c2_i32_18
  let v37 : BitVec 1 := Scalar.ori v35 v36
  let v210 : BitVec 32 := Scalar.extui v37
  let c0_i32_116 : BitVec 32 := 0#32
  let v211 : BitVec 1 := Scalar.cmpi .ne v210 c0_i32_116
  v211

def k0_off14 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c512_i32_1264 : BitVec 32 := 512#32
  let v1983 : BitVec 32 := Scalar.addi v11 c512_i32_1264
  let v1984 : Index := Scalar.indexCast v1983
  let c0_1265 : Index := 0#32
  ![v1984.toNat, 0]
def k0_dev13 (d0 : Dev nD) : Nat :=
  let c0_i32_1271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1270 : BitVec 32 := 8#32
  let v1991 : BitVec 32 := Scalar.muli v2 c8_i32_1270
  let v1992 : BitVec 32 := Scalar.addi c0_i32_1271 v1991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1272 : BitVec 32 := 4#32
  let v1993 : BitVec 32 := Scalar.muli v5 c4_i32_1272
  let v1994 : BitVec 32 := Scalar.addi v1992 v1993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let c0_i32 : BitVec 32 := 0#32
  let v13 : BitVec 1 := Scalar.cmpi .eq c4_i32_4 c0_i32
  let c1_i32_5 : BitVec 32 := 1#32
  let v14 : BitVec 32 := Scalar.select v13 c1_i32_5 c4_i32_4
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_1273 : BitVec 32 := 1#32
  let v1995 : BitVec 32 := Scalar.muli v22 c1_i32_1273
  let v1996 : BitVec 32 := Scalar.addi v1994 v1995
  v1996.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_117 : BitVec 32 := 3#32
  let v212 : BitVec 1 := Scalar.cmpi .eq v8 c3_i32_117
  let v213 : BitVec 32 := Scalar.extui v212
  let c0_i32_118 : BitVec 32 := 0#32
  let v214 : BitVec 1 := Scalar.cmpi .ne v213 c0_i32_118
  v214

def k0_off15 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c512_i32_1264 : BitVec 32 := 512#32
  let v1983 : BitVec 32 := Scalar.addi v11 c512_i32_1264
  let v1984 : Index := Scalar.indexCast v1983
  let c0_1265 : Index := 0#32
  ![v1984.toNat, 0]
def k0_off16 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c512_i32_1268 : BitVec 32 := 512#32
  let v1991 : BitVec 32 := Scalar.addi v11 c512_i32_1268
  let c0_i32_1272 : BitVec 32 := 0#32
  ![v1991.toNat, 0]
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_119 : BitVec 32 := 2#32
  let v215 : BitVec 1 := Scalar.cmpi .eq v8 c2_i32_119
  let v216 : BitVec 32 := Scalar.extui v215
  let c0_i32_120 : BitVec 32 := 0#32
  let v217 : BitVec 1 := Scalar.cmpi .ne v216 c0_i32_120
  v217

def k0_off17 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c0_i32_1265 : BitVec 32 := 0#32
  let v1983 : BitVec 32 := Scalar.addi v11 c0_i32_1265
  let v1984 : Index := Scalar.indexCast v1983
  let c0_1266 : Index := 0#32
  ![v1984.toNat, 0]
def k0_dev14 (d0 : Dev nD) : Nat :=
  let c0_i32_1272 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1271 : BitVec 32 := 8#32
  let v1991 : BitVec 32 := Scalar.muli v2 c8_i32_1271
  let v1992 : BitVec 32 := Scalar.addi c0_i32_1272 v1991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1273 : BitVec 32 := 4#32
  let v1993 : BitVec 32 := Scalar.muli v5 c4_i32_1273
  let v1994 : BitVec 32 := Scalar.addi v1992 v1993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_1274 : BitVec 32 := 1#32
  let v1995 : BitVec 32 := Scalar.muli v34 c1_i32_1274
  let v1996 : BitVec 32 := Scalar.addi v1994 v1995
  v1996.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_121 : BitVec 32 := 0#32
  let v218 : BitVec 1 := Scalar.cmpi .eq v8 c0_i32_121
  let v219 : BitVec 32 := Scalar.extui v218
  let c0_i32_122 : BitVec 32 := 0#32
  let v220 : BitVec 1 := Scalar.cmpi .ne v219 c0_i32_122
  v220

def k0_off18 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c768_i32_1254 : BitVec 32 := 768#32
  let v1972 : BitVec 32 := Scalar.addi v11 c768_i32_1254
  let c0_i32_1263 : BitVec 32 := 0#32
  ![v1972.toNat, 0]
def k0_dev15 (d0 : Dev nD) : Nat :=
  let c0_i32_1258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1257 : BitVec 32 := 8#32
  let v1973 : BitVec 32 := Scalar.muli v2 c8_i32_1257
  let v1974 : BitVec 32 := Scalar.addi c0_i32_1258 v1973
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1259 : BitVec 32 := 4#32
  let v1975 : BitVec 32 := Scalar.muli v5 c4_i32_1259
  let v1976 : BitVec 32 := Scalar.addi v1974 v1975
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let c0_i32 : BitVec 32 := 0#32
  let v13 : BitVec 1 := Scalar.cmpi .eq c4_i32_4 c0_i32
  let c1_i32_5 : BitVec 32 := 1#32
  let v14 : BitVec 32 := Scalar.select v13 c1_i32_5 c4_i32_4
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_1260 : BitVec 32 := 1#32
  let v1977 : BitVec 32 := Scalar.muli v22 c1_i32_1260
  let v1978 : BitVec 32 := Scalar.addi v1976 v1977
  v1978.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_123 : BitVec 32 := 3#32
  let v221 : BitVec 1 := Scalar.cmpi .eq v8 c3_i32_123
  let v222 : BitVec 32 := Scalar.extui v221
  let c0_i32_124 : BitVec 32 := 0#32
  let v223 : BitVec 1 := Scalar.cmpi .ne v222 c0_i32_124
  v223

def k0_off19 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c768_i32_1254 : BitVec 32 := 768#32
  let v1972 : BitVec 32 := Scalar.addi v11 c768_i32_1254
  let c0_i32_1263 : BitVec 32 := 0#32
  ![v1972.toNat, 0]
def k0_dev16 (d0 : Dev nD) : Nat :=
  let c0_i32_1258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1257 : BitVec 32 := 8#32
  let v1973 : BitVec 32 := Scalar.muli v2 c8_i32_1257
  let v1974 : BitVec 32 := Scalar.addi c0_i32_1258 v1973
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1259 : BitVec 32 := 4#32
  let v1975 : BitVec 32 := Scalar.muli v5 c4_i32_1259
  let v1976 : BitVec 32 := Scalar.addi v1974 v1975
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_1260 : BitVec 32 := 1#32
  let v1977 : BitVec 32 := Scalar.muli v34 c1_i32_1260
  let v1978 : BitVec 32 := Scalar.addi v1976 v1977
  v1978.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v35 : BitVec 1 := Scalar.cmpi .eq v8 c1_i32_17
  let c2_i32_18 : BitVec 32 := 2#32
  let v36 : BitVec 1 := Scalar.cmpi .eq v8 c2_i32_18
  let v37 : BitVec 1 := Scalar.ori v35 v36
  let v224 : BitVec 32 := Scalar.extui v37
  let c0_i32_125 : BitVec 32 := 0#32
  let v225 : BitVec 1 := Scalar.cmpi .ne v224 c0_i32_125
  v225

def k0_off20 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c768_i32_1264 : BitVec 32 := 768#32
  let v1983 : BitVec 32 := Scalar.addi v11 c768_i32_1264
  let v1984 : Index := Scalar.indexCast v1983
  let c0_1265 : Index := 0#32
  ![v1984.toNat, 0]
def k0_dev17 (d0 : Dev nD) : Nat :=
  let c0_i32_1271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1270 : BitVec 32 := 8#32
  let v1991 : BitVec 32 := Scalar.muli v2 c8_i32_1270
  let v1992 : BitVec 32 := Scalar.addi c0_i32_1271 v1991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1272 : BitVec 32 := 4#32
  let v1993 : BitVec 32 := Scalar.muli v5 c4_i32_1272
  let v1994 : BitVec 32 := Scalar.addi v1992 v1993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let c0_i32 : BitVec 32 := 0#32
  let v13 : BitVec 1 := Scalar.cmpi .eq c4_i32_4 c0_i32
  let c1_i32_5 : BitVec 32 := 1#32
  let v14 : BitVec 32 := Scalar.select v13 c1_i32_5 c4_i32_4
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_1273 : BitVec 32 := 1#32
  let v1995 : BitVec 32 := Scalar.muli v22 c1_i32_1273
  let v1996 : BitVec 32 := Scalar.addi v1994 v1995
  v1996.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_126 : BitVec 32 := 3#32
  let v226 : BitVec 1 := Scalar.cmpi .eq v8 c3_i32_126
  let v227 : BitVec 32 := Scalar.extui v226
  let c0_i32_127 : BitVec 32 := 0#32
  let v228 : BitVec 1 := Scalar.cmpi .ne v227 c0_i32_127
  v228

def k0_off21 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c768_i32_1264 : BitVec 32 := 768#32
  let v1983 : BitVec 32 := Scalar.addi v11 c768_i32_1264
  let v1984 : Index := Scalar.indexCast v1983
  let c0_1265 : Index := 0#32
  ![v1984.toNat, 0]
def k0_off22 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c768_i32_1268 : BitVec 32 := 768#32
  let v1991 : BitVec 32 := Scalar.addi v11 c768_i32_1268
  let c0_i32_1272 : BitVec 32 := 0#32
  ![v1991.toNat, 0]
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_128 : BitVec 32 := 2#32
  let v229 : BitVec 1 := Scalar.cmpi .eq v8 c2_i32_128
  let v230 : BitVec 32 := Scalar.extui v229
  let c0_i32_129 : BitVec 32 := 0#32
  let v231 : BitVec 1 := Scalar.cmpi .ne v230 c0_i32_129
  v231

def k0_off23 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c256_i32_1264 : BitVec 32 := 256#32
  let v1983 : BitVec 32 := Scalar.addi v11 c256_i32_1264
  let v1984 : Index := Scalar.indexCast v1983
  let c0_1265 : Index := 0#32
  ![v1984.toNat, 0]
def k0_dev18 (d0 : Dev nD) : Nat :=
  let c0_i32_1271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1270 : BitVec 32 := 8#32
  let v1991 : BitVec 32 := Scalar.muli v2 c8_i32_1270
  let v1992 : BitVec 32 := Scalar.addi c0_i32_1271 v1991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1272 : BitVec 32 := 4#32
  let v1993 : BitVec 32 := Scalar.muli v5 c4_i32_1272
  let v1994 : BitVec 32 := Scalar.addi v1992 v1993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_1273 : BitVec 32 := 1#32
  let v1995 : BitVec 32 := Scalar.muli v34 c1_i32_1273
  let v1996 : BitVec 32 := Scalar.addi v1994 v1995
  v1996.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_130 : BitVec 32 := 0#32
  let v232 : BitVec 1 := Scalar.cmpi .eq v8 c0_i32_130
  let v233 : BitVec 32 := Scalar.extui v232
  let c0_i32_131 : BitVec 32 := 0#32
  let v234 : BitVec 1 := Scalar.cmpi .ne v233 c0_i32_131
  v234

def k0_off24 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1024_i32_1254 : BitVec 32 := 1024#32
  let v1972 : BitVec 32 := Scalar.addi v11 c1024_i32_1254
  let c0_i32_1263 : BitVec 32 := 0#32
  ![v1972.toNat, 0]
def k0_dev19 (d0 : Dev nD) : Nat :=
  let c0_i32_1258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1257 : BitVec 32 := 8#32
  let v1973 : BitVec 32 := Scalar.muli v2 c8_i32_1257
  let v1974 : BitVec 32 := Scalar.addi c0_i32_1258 v1973
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1259 : BitVec 32 := 4#32
  let v1975 : BitVec 32 := Scalar.muli v5 c4_i32_1259
  let v1976 : BitVec 32 := Scalar.addi v1974 v1975
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let c0_i32 : BitVec 32 := 0#32
  let v13 : BitVec 1 := Scalar.cmpi .eq c4_i32_4 c0_i32
  let c1_i32_5 : BitVec 32 := 1#32
  let v14 : BitVec 32 := Scalar.select v13 c1_i32_5 c4_i32_4
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_1260 : BitVec 32 := 1#32
  let v1977 : BitVec 32 := Scalar.muli v22 c1_i32_1260
  let v1978 : BitVec 32 := Scalar.addi v1976 v1977
  v1978.toNat
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_132 : BitVec 32 := 3#32
  let v235 : BitVec 1 := Scalar.cmpi .eq v8 c3_i32_132
  let v236 : BitVec 32 := Scalar.extui v235
  let c0_i32_133 : BitVec 32 := 0#32
  let v237 : BitVec 1 := Scalar.cmpi .ne v236 c0_i32_133
  v237

def k0_off25 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1024_i32_1254 : BitVec 32 := 1024#32
  let v1972 : BitVec 32 := Scalar.addi v11 c1024_i32_1254
  let c0_i32_1263 : BitVec 32 := 0#32
  ![v1972.toNat, 0]
def k0_dev20 (d0 : Dev nD) : Nat :=
  let c0_i32_1258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1257 : BitVec 32 := 8#32
  let v1973 : BitVec 32 := Scalar.muli v2 c8_i32_1257
  let v1974 : BitVec 32 := Scalar.addi c0_i32_1258 v1973
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1259 : BitVec 32 := 4#32
  let v1975 : BitVec 32 := Scalar.muli v5 c4_i32_1259
  let v1976 : BitVec 32 := Scalar.addi v1974 v1975
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_1260 : BitVec 32 := 1#32
  let v1977 : BitVec 32 := Scalar.muli v34 c1_i32_1260
  let v1978 : BitVec 32 := Scalar.addi v1976 v1977
  v1978.toNat
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v35 : BitVec 1 := Scalar.cmpi .eq v8 c1_i32_17
  let c2_i32_18 : BitVec 32 := 2#32
  let v36 : BitVec 1 := Scalar.cmpi .eq v8 c2_i32_18
  let v37 : BitVec 1 := Scalar.ori v35 v36
  let v238 : BitVec 32 := Scalar.extui v37
  let c0_i32_134 : BitVec 32 := 0#32
  let v239 : BitVec 1 := Scalar.cmpi .ne v238 c0_i32_134
  v239

def k0_off26 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1024_i32_1264 : BitVec 32 := 1024#32
  let v1983 : BitVec 32 := Scalar.addi v11 c1024_i32_1264
  let v1984 : Index := Scalar.indexCast v1983
  let c0_1265 : Index := 0#32
  ![v1984.toNat, 0]
def k0_dev21 (d0 : Dev nD) : Nat :=
  let c0_i32_1271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1270 : BitVec 32 := 8#32
  let v1991 : BitVec 32 := Scalar.muli v2 c8_i32_1270
  let v1992 : BitVec 32 := Scalar.addi c0_i32_1271 v1991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1272 : BitVec 32 := 4#32
  let v1993 : BitVec 32 := Scalar.muli v5 c4_i32_1272
  let v1994 : BitVec 32 := Scalar.addi v1992 v1993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let c0_i32 : BitVec 32 := 0#32
  let v13 : BitVec 1 := Scalar.cmpi .eq c4_i32_4 c0_i32
  let c1_i32_5 : BitVec 32 := 1#32
  let v14 : BitVec 32 := Scalar.select v13 c1_i32_5 c4_i32_4
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_1273 : BitVec 32 := 1#32
  let v1995 : BitVec 32 := Scalar.muli v22 c1_i32_1273
  let v1996 : BitVec 32 := Scalar.addi v1994 v1995
  v1996.toNat
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_135 : BitVec 32 := 3#32
  let v240 : BitVec 1 := Scalar.cmpi .eq v8 c3_i32_135
  let v241 : BitVec 32 := Scalar.extui v240
  let c0_i32_136 : BitVec 32 := 0#32
  let v242 : BitVec 1 := Scalar.cmpi .ne v241 c0_i32_136
  v242

def k0_off27 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1024_i32_1264 : BitVec 32 := 1024#32
  let v1983 : BitVec 32 := Scalar.addi v11 c1024_i32_1264
  let v1984 : Index := Scalar.indexCast v1983
  let c0_1265 : Index := 0#32
  ![v1984.toNat, 0]
def k0_off28 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1024_i32_1268 : BitVec 32 := 1024#32
  let v1991 : BitVec 32 := Scalar.addi v11 c1024_i32_1268
  let c0_i32_1272 : BitVec 32 := 0#32
  ![v1991.toNat, 0]
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_137 : BitVec 32 := 2#32
  let v243 : BitVec 1 := Scalar.cmpi .eq v8 c2_i32_137
  let v244 : BitVec 32 := Scalar.extui v243
  let c0_i32_138 : BitVec 32 := 0#32
  let v245 : BitVec 1 := Scalar.cmpi .ne v244 c0_i32_138
  v245

def k0_off29 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c512_i32_1264 : BitVec 32 := 512#32
  let v1983 : BitVec 32 := Scalar.addi v11 c512_i32_1264
  let v1984 : Index := Scalar.indexCast v1983
  let c0_1265 : Index := 0#32
  ![v1984.toNat, 0]
def k0_dev22 (d0 : Dev nD) : Nat :=
  let c0_i32_1271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1270 : BitVec 32 := 8#32
  let v1991 : BitVec 32 := Scalar.muli v2 c8_i32_1270
  let v1992 : BitVec 32 := Scalar.addi c0_i32_1271 v1991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1272 : BitVec 32 := 4#32
  let v1993 : BitVec 32 := Scalar.muli v5 c4_i32_1272
  let v1994 : BitVec 32 := Scalar.addi v1992 v1993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_1273 : BitVec 32 := 1#32
  let v1995 : BitVec 32 := Scalar.muli v34 c1_i32_1273
  let v1996 : BitVec 32 := Scalar.addi v1994 v1995
  v1996.toNat
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_139 : BitVec 32 := 1#32
  let v246 : BitVec 1 := Scalar.cmpi .eq v8 c1_i32_139
  let v247 : BitVec 32 := Scalar.extui v246
  let c0_i32_140 : BitVec 32 := 0#32
  let v248 : BitVec 1 := Scalar.cmpi .ne v247 c0_i32_140
  v248

def k0_off30 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c0_i32_1265 : BitVec 32 := 0#32
  let v1983 : BitVec 32 := Scalar.addi v11 c0_i32_1265
  let v1984 : Index := Scalar.indexCast v1983
  let c0_1266 : Index := 0#32
  ![v1984.toNat, 0]
def k0_dev23 (d0 : Dev nD) : Nat :=
  let c0_i32_1272 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1271 : BitVec 32 := 8#32
  let v1991 : BitVec 32 := Scalar.muli v2 c8_i32_1271
  let v1992 : BitVec 32 := Scalar.addi c0_i32_1272 v1991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1273 : BitVec 32 := 4#32
  let v1993 : BitVec 32 := Scalar.muli v5 c4_i32_1273
  let v1994 : BitVec 32 := Scalar.addi v1992 v1993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_1274 : BitVec 32 := 1#32
  let v1995 : BitVec 32 := Scalar.muli v34 c1_i32_1274
  let v1996 : BitVec 32 := Scalar.addi v1994 v1995
  v1996.toNat
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_141 : BitVec 32 := 0#32
  let v249 : BitVec 1 := Scalar.cmpi .eq v8 c0_i32_141
  let v250 : BitVec 32 := Scalar.extui v249
  let c0_i32_142 : BitVec 32 := 0#32
  let v251 : BitVec 1 := Scalar.cmpi .ne v250 c0_i32_142
  v251

def k0_off31 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1280_i32_1254 : BitVec 32 := 1280#32
  let v1972 : BitVec 32 := Scalar.addi v11 c1280_i32_1254
  let c0_i32_1263 : BitVec 32 := 0#32
  ![v1972.toNat, 0]
def k0_dev24 (d0 : Dev nD) : Nat :=
  let c0_i32_1258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1257 : BitVec 32 := 8#32
  let v1973 : BitVec 32 := Scalar.muli v2 c8_i32_1257
  let v1974 : BitVec 32 := Scalar.addi c0_i32_1258 v1973
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1259 : BitVec 32 := 4#32
  let v1975 : BitVec 32 := Scalar.muli v5 c4_i32_1259
  let v1976 : BitVec 32 := Scalar.addi v1974 v1975
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let c0_i32 : BitVec 32 := 0#32
  let v13 : BitVec 1 := Scalar.cmpi .eq c4_i32_4 c0_i32
  let c1_i32_5 : BitVec 32 := 1#32
  let v14 : BitVec 32 := Scalar.select v13 c1_i32_5 c4_i32_4
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_1260 : BitVec 32 := 1#32
  let v1977 : BitVec 32 := Scalar.muli v22 c1_i32_1260
  let v1978 : BitVec 32 := Scalar.addi v1976 v1977
  v1978.toNat
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_143 : BitVec 32 := 3#32
  let v252 : BitVec 1 := Scalar.cmpi .eq v8 c3_i32_143
  let v253 : BitVec 32 := Scalar.extui v252
  let c0_i32_144 : BitVec 32 := 0#32
  let v254 : BitVec 1 := Scalar.cmpi .ne v253 c0_i32_144
  v254

def k0_off32 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1280_i32_1254 : BitVec 32 := 1280#32
  let v1972 : BitVec 32 := Scalar.addi v11 c1280_i32_1254
  let c0_i32_1263 : BitVec 32 := 0#32
  ![v1972.toNat, 0]
def k0_dev25 (d0 : Dev nD) : Nat :=
  let c0_i32_1258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1257 : BitVec 32 := 8#32
  let v1973 : BitVec 32 := Scalar.muli v2 c8_i32_1257
  let v1974 : BitVec 32 := Scalar.addi c0_i32_1258 v1973
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1259 : BitVec 32 := 4#32
  let v1975 : BitVec 32 := Scalar.muli v5 c4_i32_1259
  let v1976 : BitVec 32 := Scalar.addi v1974 v1975
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_1260 : BitVec 32 := 1#32
  let v1977 : BitVec 32 := Scalar.muli v34 c1_i32_1260
  let v1978 : BitVec 32 := Scalar.addi v1976 v1977
  v1978.toNat
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v35 : BitVec 1 := Scalar.cmpi .eq v8 c1_i32_17
  let c2_i32_18 : BitVec 32 := 2#32
  let v36 : BitVec 1 := Scalar.cmpi .eq v8 c2_i32_18
  let v37 : BitVec 1 := Scalar.ori v35 v36
  let v255 : BitVec 32 := Scalar.extui v37
  let c0_i32_145 : BitVec 32 := 0#32
  let v256 : BitVec 1 := Scalar.cmpi .ne v255 c0_i32_145
  v256

def k0_off33 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1280_i32_1264 : BitVec 32 := 1280#32
  let v1983 : BitVec 32 := Scalar.addi v11 c1280_i32_1264
  let v1984 : Index := Scalar.indexCast v1983
  let c0_1265 : Index := 0#32
  ![v1984.toNat, 0]
def k0_dev26 (d0 : Dev nD) : Nat :=
  let c0_i32_1271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1270 : BitVec 32 := 8#32
  let v1991 : BitVec 32 := Scalar.muli v2 c8_i32_1270
  let v1992 : BitVec 32 := Scalar.addi c0_i32_1271 v1991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1272 : BitVec 32 := 4#32
  let v1993 : BitVec 32 := Scalar.muli v5 c4_i32_1272
  let v1994 : BitVec 32 := Scalar.addi v1992 v1993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let c0_i32 : BitVec 32 := 0#32
  let v13 : BitVec 1 := Scalar.cmpi .eq c4_i32_4 c0_i32
  let c1_i32_5 : BitVec 32 := 1#32
  let v14 : BitVec 32 := Scalar.select v13 c1_i32_5 c4_i32_4
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_1273 : BitVec 32 := 1#32
  let v1995 : BitVec 32 := Scalar.muli v22 c1_i32_1273
  let v1996 : BitVec 32 := Scalar.addi v1994 v1995
  v1996.toNat
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_146 : BitVec 32 := 3#32
  let v257 : BitVec 1 := Scalar.cmpi .eq v8 c3_i32_146
  let v258 : BitVec 32 := Scalar.extui v257
  let c0_i32_147 : BitVec 32 := 0#32
  let v259 : BitVec 1 := Scalar.cmpi .ne v258 c0_i32_147
  v259

def k0_off34 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1280_i32_1264 : BitVec 32 := 1280#32
  let v1983 : BitVec 32 := Scalar.addi v11 c1280_i32_1264
  let v1984 : Index := Scalar.indexCast v1983
  let c0_1265 : Index := 0#32
  ![v1984.toNat, 0]
def k0_off35 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1280_i32_1268 : BitVec 32 := 1280#32
  let v1991 : BitVec 32 := Scalar.addi v11 c1280_i32_1268
  let c0_i32_1272 : BitVec 32 := 0#32
  ![v1991.toNat, 0]
def k0_cond29 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_148 : BitVec 32 := 2#32
  let v260 : BitVec 1 := Scalar.cmpi .eq v8 c2_i32_148
  let v261 : BitVec 32 := Scalar.extui v260
  let c0_i32_149 : BitVec 32 := 0#32
  let v262 : BitVec 1 := Scalar.cmpi .ne v261 c0_i32_149
  v262

def k0_off36 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c768_i32_1264 : BitVec 32 := 768#32
  let v1983 : BitVec 32 := Scalar.addi v11 c768_i32_1264
  let v1984 : Index := Scalar.indexCast v1983
  let c0_1265 : Index := 0#32
  ![v1984.toNat, 0]
def k0_dev27 (d0 : Dev nD) : Nat :=
  let c0_i32_1271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1270 : BitVec 32 := 8#32
  let v1991 : BitVec 32 := Scalar.muli v2 c8_i32_1270
  let v1992 : BitVec 32 := Scalar.addi c0_i32_1271 v1991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1272 : BitVec 32 := 4#32
  let v1993 : BitVec 32 := Scalar.muli v5 c4_i32_1272
  let v1994 : BitVec 32 := Scalar.addi v1992 v1993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_1273 : BitVec 32 := 1#32
  let v1995 : BitVec 32 := Scalar.muli v34 c1_i32_1273
  let v1996 : BitVec 32 := Scalar.addi v1994 v1995
  v1996.toNat
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_150 : BitVec 32 := 1#32
  let v263 : BitVec 1 := Scalar.cmpi .eq v8 c1_i32_150
  let v264 : BitVec 32 := Scalar.extui v263
  let c0_i32_151 : BitVec 32 := 0#32
  let v265 : BitVec 1 := Scalar.cmpi .ne v264 c0_i32_151
  v265

def k0_off37 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c256_i32_1264 : BitVec 32 := 256#32
  let v1983 : BitVec 32 := Scalar.addi v11 c256_i32_1264
  let v1984 : Index := Scalar.indexCast v1983
  let c0_1265 : Index := 0#32
  ![v1984.toNat, 0]
def k0_dev28 (d0 : Dev nD) : Nat :=
  let c0_i32_1271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1270 : BitVec 32 := 8#32
  let v1991 : BitVec 32 := Scalar.muli v2 c8_i32_1270
  let v1992 : BitVec 32 := Scalar.addi c0_i32_1271 v1991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1272 : BitVec 32 := 4#32
  let v1993 : BitVec 32 := Scalar.muli v5 c4_i32_1272
  let v1994 : BitVec 32 := Scalar.addi v1992 v1993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_1273 : BitVec 32 := 1#32
  let v1995 : BitVec 32 := Scalar.muli v34 c1_i32_1273
  let v1996 : BitVec 32 := Scalar.addi v1994 v1995
  v1996.toNat
def k0_cond31 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_152 : BitVec 32 := 0#32
  let v266 : BitVec 1 := Scalar.cmpi .eq v8 c0_i32_152
  let v267 : BitVec 32 := Scalar.extui v266
  let c0_i32_153 : BitVec 32 := 0#32
  let v268 : BitVec 1 := Scalar.cmpi .ne v267 c0_i32_153
  v268

def k0_off38 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1536_i32_1254 : BitVec 32 := 1536#32
  let v1972 : BitVec 32 := Scalar.addi v11 c1536_i32_1254
  let c0_i32_1263 : BitVec 32 := 0#32
  ![v1972.toNat, 0]
def k0_dev29 (d0 : Dev nD) : Nat :=
  let c0_i32_1258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1257 : BitVec 32 := 8#32
  let v1973 : BitVec 32 := Scalar.muli v2 c8_i32_1257
  let v1974 : BitVec 32 := Scalar.addi c0_i32_1258 v1973
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1259 : BitVec 32 := 4#32
  let v1975 : BitVec 32 := Scalar.muli v5 c4_i32_1259
  let v1976 : BitVec 32 := Scalar.addi v1974 v1975
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let c0_i32 : BitVec 32 := 0#32
  let v13 : BitVec 1 := Scalar.cmpi .eq c4_i32_4 c0_i32
  let c1_i32_5 : BitVec 32 := 1#32
  let v14 : BitVec 32 := Scalar.select v13 c1_i32_5 c4_i32_4
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_1260 : BitVec 32 := 1#32
  let v1977 : BitVec 32 := Scalar.muli v22 c1_i32_1260
  let v1978 : BitVec 32 := Scalar.addi v1976 v1977
  v1978.toNat
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_154 : BitVec 32 := 3#32
  let v269 : BitVec 1 := Scalar.cmpi .eq v8 c3_i32_154
  let v270 : BitVec 32 := Scalar.extui v269
  let c0_i32_155 : BitVec 32 := 0#32
  let v271 : BitVec 1 := Scalar.cmpi .ne v270 c0_i32_155
  v271

def k0_off39 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1536_i32_1254 : BitVec 32 := 1536#32
  let v1972 : BitVec 32 := Scalar.addi v11 c1536_i32_1254
  let c0_i32_1263 : BitVec 32 := 0#32
  ![v1972.toNat, 0]
def k0_dev30 (d0 : Dev nD) : Nat :=
  let c0_i32_1258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1257 : BitVec 32 := 8#32
  let v1973 : BitVec 32 := Scalar.muli v2 c8_i32_1257
  let v1974 : BitVec 32 := Scalar.addi c0_i32_1258 v1973
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1259 : BitVec 32 := 4#32
  let v1975 : BitVec 32 := Scalar.muli v5 c4_i32_1259
  let v1976 : BitVec 32 := Scalar.addi v1974 v1975
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_1260 : BitVec 32 := 1#32
  let v1977 : BitVec 32 := Scalar.muli v34 c1_i32_1260
  let v1978 : BitVec 32 := Scalar.addi v1976 v1977
  v1978.toNat
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v35 : BitVec 1 := Scalar.cmpi .eq v8 c1_i32_17
  let c2_i32_18 : BitVec 32 := 2#32
  let v36 : BitVec 1 := Scalar.cmpi .eq v8 c2_i32_18
  let v37 : BitVec 1 := Scalar.ori v35 v36
  let v272 : BitVec 32 := Scalar.extui v37
  let c0_i32_156 : BitVec 32 := 0#32
  let v273 : BitVec 1 := Scalar.cmpi .ne v272 c0_i32_156
  v273

def k0_off40 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1536_i32_1264 : BitVec 32 := 1536#32
  let v1983 : BitVec 32 := Scalar.addi v11 c1536_i32_1264
  let v1984 : Index := Scalar.indexCast v1983
  let c0_1265 : Index := 0#32
  ![v1984.toNat, 0]
def k0_dev31 (d0 : Dev nD) : Nat :=
  let c0_i32_1271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1270 : BitVec 32 := 8#32
  let v1991 : BitVec 32 := Scalar.muli v2 c8_i32_1270
  let v1992 : BitVec 32 := Scalar.addi c0_i32_1271 v1991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1272 : BitVec 32 := 4#32
  let v1993 : BitVec 32 := Scalar.muli v5 c4_i32_1272
  let v1994 : BitVec 32 := Scalar.addi v1992 v1993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let c0_i32 : BitVec 32 := 0#32
  let v13 : BitVec 1 := Scalar.cmpi .eq c4_i32_4 c0_i32
  let c1_i32_5 : BitVec 32 := 1#32
  let v14 : BitVec 32 := Scalar.select v13 c1_i32_5 c4_i32_4
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_1273 : BitVec 32 := 1#32
  let v1995 : BitVec 32 := Scalar.muli v22 c1_i32_1273
  let v1996 : BitVec 32 := Scalar.addi v1994 v1995
  v1996.toNat
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_157 : BitVec 32 := 3#32
  let v274 : BitVec 1 := Scalar.cmpi .eq v8 c3_i32_157
  let v275 : BitVec 32 := Scalar.extui v274
  let c0_i32_158 : BitVec 32 := 0#32
  let v276 : BitVec 1 := Scalar.cmpi .ne v275 c0_i32_158
  v276

def k0_off41 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1536_i32_1264 : BitVec 32 := 1536#32
  let v1983 : BitVec 32 := Scalar.addi v11 c1536_i32_1264
  let v1984 : Index := Scalar.indexCast v1983
  let c0_1265 : Index := 0#32
  ![v1984.toNat, 0]
def k0_off42 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1536_i32_1268 : BitVec 32 := 1536#32
  let v1991 : BitVec 32 := Scalar.addi v11 c1536_i32_1268
  let c0_i32_1272 : BitVec 32 := 0#32
  ![v1991.toNat, 0]
def k0_cond35 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_159 : BitVec 32 := 2#32
  let v277 : BitVec 1 := Scalar.cmpi .eq v8 c2_i32_159
  let v278 : BitVec 32 := Scalar.extui v277
  let c0_i32_160 : BitVec 32 := 0#32
  let v279 : BitVec 1 := Scalar.cmpi .ne v278 c0_i32_160
  v279

def k0_off43 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1024_i32_1264 : BitVec 32 := 1024#32
  let v1983 : BitVec 32 := Scalar.addi v11 c1024_i32_1264
  let v1984 : Index := Scalar.indexCast v1983
  let c0_1265 : Index := 0#32
  ![v1984.toNat, 0]
def k0_dev32 (d0 : Dev nD) : Nat :=
  let c0_i32_1271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1270 : BitVec 32 := 8#32
  let v1991 : BitVec 32 := Scalar.muli v2 c8_i32_1270
  let v1992 : BitVec 32 := Scalar.addi c0_i32_1271 v1991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1272 : BitVec 32 := 4#32
  let v1993 : BitVec 32 := Scalar.muli v5 c4_i32_1272
  let v1994 : BitVec 32 := Scalar.addi v1992 v1993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_1273 : BitVec 32 := 1#32
  let v1995 : BitVec 32 := Scalar.muli v34 c1_i32_1273
  let v1996 : BitVec 32 := Scalar.addi v1994 v1995
  v1996.toNat
def k0_cond36 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_161 : BitVec 32 := 1#32
  let v280 : BitVec 1 := Scalar.cmpi .eq v8 c1_i32_161
  let v281 : BitVec 32 := Scalar.extui v280
  let c0_i32_162 : BitVec 32 := 0#32
  let v282 : BitVec 1 := Scalar.cmpi .ne v281 c0_i32_162
  v282

def k0_off44 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c512_i32_1264 : BitVec 32 := 512#32
  let v1983 : BitVec 32 := Scalar.addi v11 c512_i32_1264
  let v1984 : Index := Scalar.indexCast v1983
  let c0_1265 : Index := 0#32
  ![v1984.toNat, 0]
def k0_dev33 (d0 : Dev nD) : Nat :=
  let c0_i32_1271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1270 : BitVec 32 := 8#32
  let v1991 : BitVec 32 := Scalar.muli v2 c8_i32_1270
  let v1992 : BitVec 32 := Scalar.addi c0_i32_1271 v1991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1272 : BitVec 32 := 4#32
  let v1993 : BitVec 32 := Scalar.muli v5 c4_i32_1272
  let v1994 : BitVec 32 := Scalar.addi v1992 v1993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_1273 : BitVec 32 := 1#32
  let v1995 : BitVec 32 := Scalar.muli v34 c1_i32_1273
  let v1996 : BitVec 32 := Scalar.addi v1994 v1995
  v1996.toNat
def k0_cond37 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_163 : BitVec 32 := 0#32
  let v283 : BitVec 1 := Scalar.cmpi .eq v8 c0_i32_163
  let v284 : BitVec 32 := Scalar.extui v283
  let c0_i32_164 : BitVec 32 := 0#32
  let v285 : BitVec 1 := Scalar.cmpi .ne v284 c0_i32_164
  v285

def k0_off45 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c0_i32_1264 : BitVec 32 := 0#32
  let v1982 : BitVec 32 := Scalar.addi v11 c0_i32_1264
  let c0_i32_1268 : BitVec 32 := 0#32
  ![v1982.toNat, 0]
def k0_off46 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c0_i32_1271 : BitVec 32 := 0#32
  let v1987 : BitVec 32 := Scalar.addi v11 c0_i32_1271
  let v1988 : Index := Scalar.indexCast v1987
  let c0 : Index := 0#32
  ![v1988.toNat, 0]
def k0_cond38 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_165 : BitVec 32 := 0#32
  let v286 : BitVec 1 := Scalar.cmpi .eq v8 c0_i32_165
  let v287 : BitVec 32 := Scalar.extui v286
  let c0_i32_166 : BitVec 32 := 0#32
  let v288 : BitVec 1 := Scalar.cmpi .ne v287 c0_i32_166
  v288

def k0_off47 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1792_i32_1254 : BitVec 32 := 1792#32
  let v1972 : BitVec 32 := Scalar.addi v11 c1792_i32_1254
  let c0_i32_1263 : BitVec 32 := 0#32
  ![v1972.toNat, 0]
def k0_dev34 (d0 : Dev nD) : Nat :=
  let c0_i32_1258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1257 : BitVec 32 := 8#32
  let v1973 : BitVec 32 := Scalar.muli v2 c8_i32_1257
  let v1974 : BitVec 32 := Scalar.addi c0_i32_1258 v1973
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1259 : BitVec 32 := 4#32
  let v1975 : BitVec 32 := Scalar.muli v5 c4_i32_1259
  let v1976 : BitVec 32 := Scalar.addi v1974 v1975
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let c0_i32 : BitVec 32 := 0#32
  let v13 : BitVec 1 := Scalar.cmpi .eq c4_i32_4 c0_i32
  let c1_i32_5 : BitVec 32 := 1#32
  let v14 : BitVec 32 := Scalar.select v13 c1_i32_5 c4_i32_4
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_1260 : BitVec 32 := 1#32
  let v1977 : BitVec 32 := Scalar.muli v22 c1_i32_1260
  let v1978 : BitVec 32 := Scalar.addi v1976 v1977
  v1978.toNat
def k0_cond39 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_167 : BitVec 32 := 3#32
  let v289 : BitVec 1 := Scalar.cmpi .eq v8 c3_i32_167
  let v290 : BitVec 32 := Scalar.extui v289
  let c0_i32_168 : BitVec 32 := 0#32
  let v291 : BitVec 1 := Scalar.cmpi .ne v290 c0_i32_168
  v291

def k0_off48 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1792_i32_1254 : BitVec 32 := 1792#32
  let v1972 : BitVec 32 := Scalar.addi v11 c1792_i32_1254
  let c0_i32_1263 : BitVec 32 := 0#32
  ![v1972.toNat, 0]
def k0_dev35 (d0 : Dev nD) : Nat :=
  let c0_i32_1258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1257 : BitVec 32 := 8#32
  let v1973 : BitVec 32 := Scalar.muli v2 c8_i32_1257
  let v1974 : BitVec 32 := Scalar.addi c0_i32_1258 v1973
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1259 : BitVec 32 := 4#32
  let v1975 : BitVec 32 := Scalar.muli v5 c4_i32_1259
  let v1976 : BitVec 32 := Scalar.addi v1974 v1975
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_1260 : BitVec 32 := 1#32
  let v1977 : BitVec 32 := Scalar.muli v34 c1_i32_1260
  let v1978 : BitVec 32 := Scalar.addi v1976 v1977
  v1978.toNat
def k0_cond40 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v35 : BitVec 1 := Scalar.cmpi .eq v8 c1_i32_17
  let c2_i32_18 : BitVec 32 := 2#32
  let v36 : BitVec 1 := Scalar.cmpi .eq v8 c2_i32_18
  let v37 : BitVec 1 := Scalar.ori v35 v36
  let v292 : BitVec 32 := Scalar.extui v37
  let c0_i32_169 : BitVec 32 := 0#32
  let v293 : BitVec 1 := Scalar.cmpi .ne v292 c0_i32_169
  v293

def k0_off49 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1792_i32_1264 : BitVec 32 := 1792#32
  let v1983 : BitVec 32 := Scalar.addi v11 c1792_i32_1264
  let v1984 : Index := Scalar.indexCast v1983
  let c0_1265 : Index := 0#32
  ![v1984.toNat, 0]
def k0_dev36 (d0 : Dev nD) : Nat :=
  let c0_i32_1271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1270 : BitVec 32 := 8#32
  let v1991 : BitVec 32 := Scalar.muli v2 c8_i32_1270
  let v1992 : BitVec 32 := Scalar.addi c0_i32_1271 v1991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1272 : BitVec 32 := 4#32
  let v1993 : BitVec 32 := Scalar.muli v5 c4_i32_1272
  let v1994 : BitVec 32 := Scalar.addi v1992 v1993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let c0_i32 : BitVec 32 := 0#32
  let v13 : BitVec 1 := Scalar.cmpi .eq c4_i32_4 c0_i32
  let c1_i32_5 : BitVec 32 := 1#32
  let v14 : BitVec 32 := Scalar.select v13 c1_i32_5 c4_i32_4
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_1273 : BitVec 32 := 1#32
  let v1995 : BitVec 32 := Scalar.muli v22 c1_i32_1273
  let v1996 : BitVec 32 := Scalar.addi v1994 v1995
  v1996.toNat
def k0_cond41 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_170 : BitVec 32 := 3#32
  let v294 : BitVec 1 := Scalar.cmpi .eq v8 c3_i32_170
  let v295 : BitVec 32 := Scalar.extui v294
  let c0_i32_171 : BitVec 32 := 0#32
  let v296 : BitVec 1 := Scalar.cmpi .ne v295 c0_i32_171
  v296

def k0_off50 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1792_i32_1264 : BitVec 32 := 1792#32
  let v1983 : BitVec 32 := Scalar.addi v11 c1792_i32_1264
  let v1984 : Index := Scalar.indexCast v1983
  let c0_1265 : Index := 0#32
  ![v1984.toNat, 0]
def k0_off51 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1792_i32_1268 : BitVec 32 := 1792#32
  let v1991 : BitVec 32 := Scalar.addi v11 c1792_i32_1268
  let c0_i32_1272 : BitVec 32 := 0#32
  ![v1991.toNat, 0]
def k0_cond42 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_172 : BitVec 32 := 2#32
  let v297 : BitVec 1 := Scalar.cmpi .eq v8 c2_i32_172
  let v298 : BitVec 32 := Scalar.extui v297
  let c0_i32_173 : BitVec 32 := 0#32
  let v299 : BitVec 1 := Scalar.cmpi .ne v298 c0_i32_173
  v299

def k0_off52 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1280_i32_1264 : BitVec 32 := 1280#32
  let v1983 : BitVec 32 := Scalar.addi v11 c1280_i32_1264
  let v1984 : Index := Scalar.indexCast v1983
  let c0_1265 : Index := 0#32
  ![v1984.toNat, 0]
def k0_dev37 (d0 : Dev nD) : Nat :=
  let c0_i32_1271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1270 : BitVec 32 := 8#32
  let v1991 : BitVec 32 := Scalar.muli v2 c8_i32_1270
  let v1992 : BitVec 32 := Scalar.addi c0_i32_1271 v1991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1272 : BitVec 32 := 4#32
  let v1993 : BitVec 32 := Scalar.muli v5 c4_i32_1272
  let v1994 : BitVec 32 := Scalar.addi v1992 v1993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_1273 : BitVec 32 := 1#32
  let v1995 : BitVec 32 := Scalar.muli v34 c1_i32_1273
  let v1996 : BitVec 32 := Scalar.addi v1994 v1995
  v1996.toNat
def k0_cond43 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_174 : BitVec 32 := 1#32
  let v300 : BitVec 1 := Scalar.cmpi .eq v8 c1_i32_174
  let v301 : BitVec 32 := Scalar.extui v300
  let c0_i32_175 : BitVec 32 := 0#32
  let v302 : BitVec 1 := Scalar.cmpi .ne v301 c0_i32_175
  v302

def k0_off53 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c768_i32_1264 : BitVec 32 := 768#32
  let v1983 : BitVec 32 := Scalar.addi v11 c768_i32_1264
  let v1984 : Index := Scalar.indexCast v1983
  let c0_1265 : Index := 0#32
  ![v1984.toNat, 0]
def k0_dev38 (d0 : Dev nD) : Nat :=
  let c0_i32_1271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1270 : BitVec 32 := 8#32
  let v1991 : BitVec 32 := Scalar.muli v2 c8_i32_1270
  let v1992 : BitVec 32 := Scalar.addi c0_i32_1271 v1991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1272 : BitVec 32 := 4#32
  let v1993 : BitVec 32 := Scalar.muli v5 c4_i32_1272
  let v1994 : BitVec 32 := Scalar.addi v1992 v1993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_1273 : BitVec 32 := 1#32
  let v1995 : BitVec 32 := Scalar.muli v34 c1_i32_1273
  let v1996 : BitVec 32 := Scalar.addi v1994 v1995
  v1996.toNat
def k0_cond44 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v303 : BitVec 1 := Scalar.cmpi .eq v8 c0_i32_176
  let v304 : BitVec 32 := Scalar.extui v303
  let c0_i32_177 : BitVec 32 := 0#32
  let v305 : BitVec 1 := Scalar.cmpi .ne v304 c0_i32_177
  v305

def k0_off54 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c256_i32_1264 : BitVec 32 := 256#32
  let v1982 : BitVec 32 := Scalar.addi v11 c256_i32_1264
  let c0_i32_1268 : BitVec 32 := 0#32
  ![v1982.toNat, 0]
def k0_off55 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c256_i32_1271 : BitVec 32 := 256#32
  let v1987 : BitVec 32 := Scalar.addi v11 c256_i32_1271
  let v1988 : Index := Scalar.indexCast v1987
  let c0 : Index := 0#32
  ![v1988.toNat, 0]
def k0_off56 (d0 : Dev nD) (c0_i32_179 : BitVec 32) (c0_i32_194 : BitVec 32) : Fin 2 → Nat :=
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c4_i32_178 : BitVec 32 := 4#32
  let v306 : BitVec 32 := Scalar.addi v40 c4_i32_178
  let v307 : BitVec 32 := Scalar.subi v306 c0_i32_179
  let c4_i32_180 : BitVec 32 := 4#32
  let c0_i32_181 : BitVec 32 := 0#32
  let v308 : BitVec 1 := Scalar.cmpi .eq c4_i32_180 c0_i32_181
  let c1_i32_182 : BitVec 32 := 1#32
  let v309 : BitVec 32 := Scalar.select v308 c1_i32_182 c4_i32_180
  let v310 : BitVec 32 := Scalar.remsi v307 v309
  let c0_i32_184 : BitVec 32 := 0#32
  let v312 : BitVec 1 := Scalar.cmpi .slt v310 c0_i32_184
  let c0_i32_185 : BitVec 32 := 0#32
  let v313 : BitVec 1 := Scalar.cmpi .slt v309 c0_i32_185
  let v314 : BitVec 1 := Scalar.xori v312 v313
  let c0_i32_183 : BitVec 32 := 0#32
  let v311 : BitVec 1 := Scalar.cmpi .ne v310 c0_i32_183
  let v315 : BitVec 1 := Scalar.andi v314 v311
  let v316 : BitVec 32 := Scalar.addi v310 v309
  let v317 : BitVec 32 := Scalar.select v315 v316 v310
  let c0_i32_187 : BitVec 32 := 0#32
  let v319 : BitVec 1 := Scalar.cmpi .sgt v317 c0_i32_187
  let v320 : BitVec 32 := Scalar.extui v319
  let c0_i32_188 : BitVec 32 := 0#32
  let v321 : BitVec 1 := Scalar.cmpi .slt v317 c0_i32_188
  let v322 : BitVec 32 := Scalar.extui v321
  let v323 : BitVec 32 := Scalar.subi v320 v322
  let c2_i32_186 : BitVec 32 := 2#32
  let c0_i32_189 : BitVec 32 := 0#32
  let v324 : BitVec 1 := Scalar.cmpi .sgt c2_i32_186 c0_i32_189
  let v325 : BitVec 32 := Scalar.extui v324
  let c0_i32_190 : BitVec 32 := 0#32
  let v326 : BitVec 1 := Scalar.cmpi .slt c2_i32_186 c0_i32_190
  let v327 : BitVec 32 := Scalar.extui v326
  let v328 : BitVec 32 := Scalar.subi v325 v327
  let v329 : BitVec 1 := Scalar.cmpi .ne v323 v328
  let v330 : BitVec 32 := Scalar.remsi v317 c2_i32_186
  let c0_i32_191 : BitVec 32 := 0#32
  let v331 : BitVec 1 := Scalar.cmpi .ne v330 c0_i32_191
  let v332 : BitVec 1 := Scalar.andi v329 v331
  let v318 : BitVec 32 := Scalar.divsi v317 c2_i32_186
  let c1_i32_192 : BitVec 32 := 1#32
  let v333 : BitVec 32 := Scalar.subi v318 c1_i32_192
  let v334 : BitVec 32 := Scalar.select v332 v333 v318
  let v335 : BitVec 32 := Scalar.xori v317 v334
  let c2048_i32_193 : BitVec 32 := 2048#32
  let v336 : BitVec 32 := Scalar.muli v335 c2048_i32_193
  let v337 : BitVec 32 := Scalar.addi v336 c0_i32_194
  let c0_i32_201 : BitVec 32 := 0#32
  ![v337.toNat, 0]
def k0_dev39 (d0 : Dev nD) : Nat :=
  let c0_i32_198 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c1_i32_20 : BitVec 32 := 1#32
  let v41 : BitVec 32 := Scalar.addi v40 c1_i32_20
  let c4_i32_21 : BitVec 32 := 4#32
  let c0_i32_22 : BitVec 32 := 0#32
  let v42 : BitVec 1 := Scalar.cmpi .eq c4_i32_21 c0_i32_22
  let c1_i32_23 : BitVec 32 := 1#32
  let v43 : BitVec 32 := Scalar.select v42 c1_i32_23 c4_i32_21
  let v44 : BitVec 32 := Scalar.remsi v41 v43
  let c0_i32_25 : BitVec 32 := 0#32
  let v46 : BitVec 1 := Scalar.cmpi .slt v44 c0_i32_25
  let c0_i32_26 : BitVec 32 := 0#32
  let v47 : BitVec 1 := Scalar.cmpi .slt v43 c0_i32_26
  let v48 : BitVec 1 := Scalar.xori v46 v47
  let c0_i32_24 : BitVec 32 := 0#32
  let v45 : BitVec 1 := Scalar.cmpi .ne v44 c0_i32_24
  let v49 : BitVec 1 := Scalar.andi v48 v45
  let v50 : BitVec 32 := Scalar.addi v44 v43
  let v51 : BitVec 32 := Scalar.select v49 v50 v44
  let c0_i32_34 : BitVec 32 := 0#32
  let v64 : BitVec 1 := Scalar.cmpi .sgt v51 c0_i32_34
  let v65 : BitVec 32 := Scalar.extui v64
  let c0_i32_35 : BitVec 32 := 0#32
  let v66 : BitVec 1 := Scalar.cmpi .slt v51 c0_i32_35
  let v67 : BitVec 32 := Scalar.extui v66
  let v68 : BitVec 32 := Scalar.subi v65 v67
  let c2_i32_33 : BitVec 32 := 2#32
  let c0_i32_36 : BitVec 32 := 0#32
  let v69 : BitVec 1 := Scalar.cmpi .sgt c2_i32_33 c0_i32_36
  let v70 : BitVec 32 := Scalar.extui v69
  let c0_i32_37 : BitVec 32 := 0#32
  let v71 : BitVec 1 := Scalar.cmpi .slt c2_i32_33 c0_i32_37
  let v72 : BitVec 32 := Scalar.extui v71
  let v73 : BitVec 32 := Scalar.subi v70 v72
  let v74 : BitVec 1 := Scalar.cmpi .ne v68 v73
  let v75 : BitVec 32 := Scalar.remsi v51 c2_i32_33
  let c0_i32_38 : BitVec 32 := 0#32
  let v76 : BitVec 1 := Scalar.cmpi .ne v75 c0_i32_38
  let v77 : BitVec 1 := Scalar.andi v74 v76
  let v63 : BitVec 32 := Scalar.divsi v51 c2_i32_33
  let c1_i32_39 : BitVec 32 := 1#32
  let v78 : BitVec 32 := Scalar.subi v63 c1_i32_39
  let v79 : BitVec 32 := Scalar.select v77 v78 v63
  let v80 : BitVec 32 := Scalar.xori v51 v79
  let c0_i32_48 : BitVec 32 := 0#32
  let v100 : BitVec 1 := Scalar.cmpi .sgt v80 c0_i32_48
  let v101 : BitVec 32 := Scalar.extui v100
  let c0_i32_49 : BitVec 32 := 0#32
  let v102 : BitVec 1 := Scalar.cmpi .slt v80 c0_i32_49
  let v103 : BitVec 32 := Scalar.extui v102
  let v104 : BitVec 32 := Scalar.subi v101 v103
  let c2_i32_47 : BitVec 32 := 2#32
  let c0_i32_50 : BitVec 32 := 0#32
  let v105 : BitVec 1 := Scalar.cmpi .sgt c2_i32_47 c0_i32_50
  let v106 : BitVec 32 := Scalar.extui v105
  let c0_i32_51 : BitVec 32 := 0#32
  let v107 : BitVec 1 := Scalar.cmpi .slt c2_i32_47 c0_i32_51
  let v108 : BitVec 32 := Scalar.extui v107
  let v109 : BitVec 32 := Scalar.subi v106 v108
  let v110 : BitVec 1 := Scalar.cmpi .ne v104 v109
  let v111 : BitVec 32 := Scalar.remsi v80 c2_i32_47
  let c0_i32_52 : BitVec 32 := 0#32
  let v112 : BitVec 1 := Scalar.cmpi .ne v111 c0_i32_52
  let v113 : BitVec 1 := Scalar.andi v110 v112
  let v99 : BitVec 32 := Scalar.divsi v80 c2_i32_47
  let c1_i32_53 : BitVec 32 := 1#32
  let v114 : BitVec 32 := Scalar.subi v99 c1_i32_53
  let v115 : BitVec 32 := Scalar.select v113 v114 v99
  let c8_i32_197 : BitVec 32 := 8#32
  let v338 : BitVec 32 := Scalar.muli v115 c8_i32_197
  let v339 : BitVec 32 := Scalar.addi c0_i32_198 v338
  let c2_i32_54 : BitVec 32 := 2#32
  let c0_i32_55 : BitVec 32 := 0#32
  let v116 : BitVec 1 := Scalar.cmpi .eq c2_i32_54 c0_i32_55
  let c1_i32_56 : BitVec 32 := 1#32
  let v117 : BitVec 32 := Scalar.select v116 c1_i32_56 c2_i32_54
  let v118 : BitVec 32 := Scalar.remsi v80 v117
  let c0_i32_58 : BitVec 32 := 0#32
  let v120 : BitVec 1 := Scalar.cmpi .slt v118 c0_i32_58
  let c0_i32_59 : BitVec 32 := 0#32
  let v121 : BitVec 1 := Scalar.cmpi .slt v117 c0_i32_59
  let v122 : BitVec 1 := Scalar.xori v120 v121
  let c0_i32_57 : BitVec 32 := 0#32
  let v119 : BitVec 1 := Scalar.cmpi .ne v118 c0_i32_57
  let v123 : BitVec 1 := Scalar.andi v122 v119
  let v124 : BitVec 32 := Scalar.addi v118 v117
  let v125 : BitVec 32 := Scalar.select v123 v124 v118
  let c4_i32_199 : BitVec 32 := 4#32
  let v340 : BitVec 32 := Scalar.muli v125 c4_i32_199
  let v341 : BitVec 32 := Scalar.addi v339 v340
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_200 : BitVec 32 := 1#32
  let v342 : BitVec 32 := Scalar.muli v8 c1_i32_200
  let v343 : BitVec 32 := Scalar.addi v341 v342
  v343.toNat
def k0_cond45 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_203 : BitVec 32 := 2#32
  let v350 : BitVec 1 := Scalar.cmpi .eq v8 c2_i32_203
  let v351 : BitVec 32 := Scalar.extui v350
  let c0_i32_204 : BitVec 32 := 0#32
  let v352 : BitVec 1 := Scalar.cmpi .ne v351 c0_i32_204
  v352

def k0_off57 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1536_i32_1264 : BitVec 32 := 1536#32
  let v1983 : BitVec 32 := Scalar.addi v11 c1536_i32_1264
  let v1984 : Index := Scalar.indexCast v1983
  let c0_1265 : Index := 0#32
  ![v1984.toNat, 0]
def k0_dev40 (d0 : Dev nD) : Nat :=
  let c0_i32_1271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1270 : BitVec 32 := 8#32
  let v1991 : BitVec 32 := Scalar.muli v2 c8_i32_1270
  let v1992 : BitVec 32 := Scalar.addi c0_i32_1271 v1991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1272 : BitVec 32 := 4#32
  let v1993 : BitVec 32 := Scalar.muli v5 c4_i32_1272
  let v1994 : BitVec 32 := Scalar.addi v1992 v1993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_1273 : BitVec 32 := 1#32
  let v1995 : BitVec 32 := Scalar.muli v34 c1_i32_1273
  let v1996 : BitVec 32 := Scalar.addi v1994 v1995
  v1996.toNat
def k0_cond46 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_205 : BitVec 32 := 1#32
  let v353 : BitVec 1 := Scalar.cmpi .eq v8 c1_i32_205
  let v354 : BitVec 32 := Scalar.extui v353
  let c0_i32_206 : BitVec 32 := 0#32
  let v355 : BitVec 1 := Scalar.cmpi .ne v354 c0_i32_206
  v355

def k0_off58 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1024_i32_1264 : BitVec 32 := 1024#32
  let v1983 : BitVec 32 := Scalar.addi v11 c1024_i32_1264
  let v1984 : Index := Scalar.indexCast v1983
  let c0_1265 : Index := 0#32
  ![v1984.toNat, 0]
def k0_dev41 (d0 : Dev nD) : Nat :=
  let c0_i32_1271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1270 : BitVec 32 := 8#32
  let v1991 : BitVec 32 := Scalar.muli v2 c8_i32_1270
  let v1992 : BitVec 32 := Scalar.addi c0_i32_1271 v1991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1272 : BitVec 32 := 4#32
  let v1993 : BitVec 32 := Scalar.muli v5 c4_i32_1272
  let v1994 : BitVec 32 := Scalar.addi v1992 v1993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_1273 : BitVec 32 := 1#32
  let v1995 : BitVec 32 := Scalar.muli v34 c1_i32_1273
  let v1996 : BitVec 32 := Scalar.addi v1994 v1995
  v1996.toNat
def k0_cond47 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_207 : BitVec 32 := 0#32
  let v356 : BitVec 1 := Scalar.cmpi .eq v8 c0_i32_207
  let v357 : BitVec 32 := Scalar.extui v356
  let c0_i32_208 : BitVec 32 := 0#32
  let v358 : BitVec 1 := Scalar.cmpi .ne v357 c0_i32_208
  v358

def k0_off59 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c512_i32_1264 : BitVec 32 := 512#32
  let v1982 : BitVec 32 := Scalar.addi v11 c512_i32_1264
  let c0_i32_1268 : BitVec 32 := 0#32
  ![v1982.toNat, 0]
def k0_off60 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c512_i32_1271 : BitVec 32 := 512#32
  let v1987 : BitVec 32 := Scalar.addi v11 c512_i32_1271
  let v1988 : Index := Scalar.indexCast v1987
  let c0 : Index := 0#32
  ![v1988.toNat, 0]
def k0_dev42 (d0 : Dev nD) : Nat :=
  let c0_i32_228 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c1_i32_20 : BitVec 32 := 1#32
  let v41 : BitVec 32 := Scalar.addi v40 c1_i32_20
  let c4_i32_21 : BitVec 32 := 4#32
  let c0_i32_22 : BitVec 32 := 0#32
  let v42 : BitVec 1 := Scalar.cmpi .eq c4_i32_21 c0_i32_22
  let c1_i32_23 : BitVec 32 := 1#32
  let v43 : BitVec 32 := Scalar.select v42 c1_i32_23 c4_i32_21
  let v44 : BitVec 32 := Scalar.remsi v41 v43
  let c0_i32_25 : BitVec 32 := 0#32
  let v46 : BitVec 1 := Scalar.cmpi .slt v44 c0_i32_25
  let c0_i32_26 : BitVec 32 := 0#32
  let v47 : BitVec 1 := Scalar.cmpi .slt v43 c0_i32_26
  let v48 : BitVec 1 := Scalar.xori v46 v47
  let c0_i32_24 : BitVec 32 := 0#32
  let v45 : BitVec 1 := Scalar.cmpi .ne v44 c0_i32_24
  let v49 : BitVec 1 := Scalar.andi v48 v45
  let v50 : BitVec 32 := Scalar.addi v44 v43
  let v51 : BitVec 32 := Scalar.select v49 v50 v44
  let c0_i32_34 : BitVec 32 := 0#32
  let v64 : BitVec 1 := Scalar.cmpi .sgt v51 c0_i32_34
  let v65 : BitVec 32 := Scalar.extui v64
  let c0_i32_35 : BitVec 32 := 0#32
  let v66 : BitVec 1 := Scalar.cmpi .slt v51 c0_i32_35
  let v67 : BitVec 32 := Scalar.extui v66
  let v68 : BitVec 32 := Scalar.subi v65 v67
  let c2_i32_33 : BitVec 32 := 2#32
  let c0_i32_36 : BitVec 32 := 0#32
  let v69 : BitVec 1 := Scalar.cmpi .sgt c2_i32_33 c0_i32_36
  let v70 : BitVec 32 := Scalar.extui v69
  let c0_i32_37 : BitVec 32 := 0#32
  let v71 : BitVec 1 := Scalar.cmpi .slt c2_i32_33 c0_i32_37
  let v72 : BitVec 32 := Scalar.extui v71
  let v73 : BitVec 32 := Scalar.subi v70 v72
  let v74 : BitVec 1 := Scalar.cmpi .ne v68 v73
  let v75 : BitVec 32 := Scalar.remsi v51 c2_i32_33
  let c0_i32_38 : BitVec 32 := 0#32
  let v76 : BitVec 1 := Scalar.cmpi .ne v75 c0_i32_38
  let v77 : BitVec 1 := Scalar.andi v74 v76
  let v63 : BitVec 32 := Scalar.divsi v51 c2_i32_33
  let c1_i32_39 : BitVec 32 := 1#32
  let v78 : BitVec 32 := Scalar.subi v63 c1_i32_39
  let v79 : BitVec 32 := Scalar.select v77 v78 v63
  let v80 : BitVec 32 := Scalar.xori v51 v79
  let c0_i32_48 : BitVec 32 := 0#32
  let v100 : BitVec 1 := Scalar.cmpi .sgt v80 c0_i32_48
  let v101 : BitVec 32 := Scalar.extui v100
  let c0_i32_49 : BitVec 32 := 0#32
  let v102 : BitVec 1 := Scalar.cmpi .slt v80 c0_i32_49
  let v103 : BitVec 32 := Scalar.extui v102
  let v104 : BitVec 32 := Scalar.subi v101 v103
  let c2_i32_47 : BitVec 32 := 2#32
  let c0_i32_50 : BitVec 32 := 0#32
  let v105 : BitVec 1 := Scalar.cmpi .sgt c2_i32_47 c0_i32_50
  let v106 : BitVec 32 := Scalar.extui v105
  let c0_i32_51 : BitVec 32 := 0#32
  let v107 : BitVec 1 := Scalar.cmpi .slt c2_i32_47 c0_i32_51
  let v108 : BitVec 32 := Scalar.extui v107
  let v109 : BitVec 32 := Scalar.subi v106 v108
  let v110 : BitVec 1 := Scalar.cmpi .ne v104 v109
  let v111 : BitVec 32 := Scalar.remsi v80 c2_i32_47
  let c0_i32_52 : BitVec 32 := 0#32
  let v112 : BitVec 1 := Scalar.cmpi .ne v111 c0_i32_52
  let v113 : BitVec 1 := Scalar.andi v110 v112
  let v99 : BitVec 32 := Scalar.divsi v80 c2_i32_47
  let c1_i32_53 : BitVec 32 := 1#32
  let v114 : BitVec 32 := Scalar.subi v99 c1_i32_53
  let v115 : BitVec 32 := Scalar.select v113 v114 v99
  let c8_i32_227 : BitVec 32 := 8#32
  let v391 : BitVec 32 := Scalar.muli v115 c8_i32_227
  let v392 : BitVec 32 := Scalar.addi c0_i32_228 v391
  let c2_i32_54 : BitVec 32 := 2#32
  let c0_i32_55 : BitVec 32 := 0#32
  let v116 : BitVec 1 := Scalar.cmpi .eq c2_i32_54 c0_i32_55
  let c1_i32_56 : BitVec 32 := 1#32
  let v117 : BitVec 32 := Scalar.select v116 c1_i32_56 c2_i32_54
  let v118 : BitVec 32 := Scalar.remsi v80 v117
  let c0_i32_58 : BitVec 32 := 0#32
  let v120 : BitVec 1 := Scalar.cmpi .slt v118 c0_i32_58
  let c0_i32_59 : BitVec 32 := 0#32
  let v121 : BitVec 1 := Scalar.cmpi .slt v117 c0_i32_59
  let v122 : BitVec 1 := Scalar.xori v120 v121
  let c0_i32_57 : BitVec 32 := 0#32
  let v119 : BitVec 1 := Scalar.cmpi .ne v118 c0_i32_57
  let v123 : BitVec 1 := Scalar.andi v122 v119
  let v124 : BitVec 32 := Scalar.addi v118 v117
  let v125 : BitVec 32 := Scalar.select v123 v124 v118
  let c4_i32_229 : BitVec 32 := 4#32
  let v393 : BitVec 32 := Scalar.muli v125 c4_i32_229
  let v394 : BitVec 32 := Scalar.addi v392 v393
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_230 : BitVec 32 := 1#32
  let v395 : BitVec 32 := Scalar.muli v8 c1_i32_230
  let v396 : BitVec 32 := Scalar.addi v394 v395
  v396.toNat
def k0_cond48 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_233 : BitVec 32 := 2#32
  let v403 : BitVec 1 := Scalar.cmpi .eq v8 c2_i32_233
  let v404 : BitVec 32 := Scalar.extui v403
  let c0_i32_234 : BitVec 32 := 0#32
  let v405 : BitVec 1 := Scalar.cmpi .ne v404 c0_i32_234
  v405

def k0_off61 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1792_i32_1264 : BitVec 32 := 1792#32
  let v1983 : BitVec 32 := Scalar.addi v11 c1792_i32_1264
  let v1984 : Index := Scalar.indexCast v1983
  let c0_1265 : Index := 0#32
  ![v1984.toNat, 0]
def k0_dev43 (d0 : Dev nD) : Nat :=
  let c0_i32_1271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1270 : BitVec 32 := 8#32
  let v1991 : BitVec 32 := Scalar.muli v2 c8_i32_1270
  let v1992 : BitVec 32 := Scalar.addi c0_i32_1271 v1991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1272 : BitVec 32 := 4#32
  let v1993 : BitVec 32 := Scalar.muli v5 c4_i32_1272
  let v1994 : BitVec 32 := Scalar.addi v1992 v1993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_1273 : BitVec 32 := 1#32
  let v1995 : BitVec 32 := Scalar.muli v34 c1_i32_1273
  let v1996 : BitVec 32 := Scalar.addi v1994 v1995
  v1996.toNat
def k0_cond49 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_235 : BitVec 32 := 1#32
  let v406 : BitVec 1 := Scalar.cmpi .eq v8 c1_i32_235
  let v407 : BitVec 32 := Scalar.extui v406
  let c0_i32_236 : BitVec 32 := 0#32
  let v408 : BitVec 1 := Scalar.cmpi .ne v407 c0_i32_236
  v408

def k0_off62 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1280_i32_1264 : BitVec 32 := 1280#32
  let v1983 : BitVec 32 := Scalar.addi v11 c1280_i32_1264
  let v1984 : Index := Scalar.indexCast v1983
  let c0_1265 : Index := 0#32
  ![v1984.toNat, 0]
def k0_dev44 (d0 : Dev nD) : Nat :=
  let c0_i32_1271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1270 : BitVec 32 := 8#32
  let v1991 : BitVec 32 := Scalar.muli v2 c8_i32_1270
  let v1992 : BitVec 32 := Scalar.addi c0_i32_1271 v1991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1272 : BitVec 32 := 4#32
  let v1993 : BitVec 32 := Scalar.muli v5 c4_i32_1272
  let v1994 : BitVec 32 := Scalar.addi v1992 v1993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_1273 : BitVec 32 := 1#32
  let v1995 : BitVec 32 := Scalar.muli v34 c1_i32_1273
  let v1996 : BitVec 32 := Scalar.addi v1994 v1995
  v1996.toNat
def k0_cond50 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_237 : BitVec 32 := 0#32
  let v409 : BitVec 1 := Scalar.cmpi .eq v8 c0_i32_237
  let v410 : BitVec 32 := Scalar.extui v409
  let c0_i32_238 : BitVec 32 := 0#32
  let v411 : BitVec 1 := Scalar.cmpi .ne v410 c0_i32_238
  v411

def k0_off63 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c768_i32_1264 : BitVec 32 := 768#32
  let v1982 : BitVec 32 := Scalar.addi v11 c768_i32_1264
  let c0_i32_1268 : BitVec 32 := 0#32
  ![v1982.toNat, 0]
def k0_off64 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c768_i32_1271 : BitVec 32 := 768#32
  let v1987 : BitVec 32 := Scalar.addi v11 c768_i32_1271
  let v1988 : Index := Scalar.indexCast v1987
  let c0 : Index := 0#32
  ![v1988.toNat, 0]
def k0_dev45 (d0 : Dev nD) : Nat :=
  let c0_i32_257 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c1_i32_20 : BitVec 32 := 1#32
  let v41 : BitVec 32 := Scalar.addi v40 c1_i32_20
  let c4_i32_21 : BitVec 32 := 4#32
  let c0_i32_22 : BitVec 32 := 0#32
  let v42 : BitVec 1 := Scalar.cmpi .eq c4_i32_21 c0_i32_22
  let c1_i32_23 : BitVec 32 := 1#32
  let v43 : BitVec 32 := Scalar.select v42 c1_i32_23 c4_i32_21
  let v44 : BitVec 32 := Scalar.remsi v41 v43
  let c0_i32_25 : BitVec 32 := 0#32
  let v46 : BitVec 1 := Scalar.cmpi .slt v44 c0_i32_25
  let c0_i32_26 : BitVec 32 := 0#32
  let v47 : BitVec 1 := Scalar.cmpi .slt v43 c0_i32_26
  let v48 : BitVec 1 := Scalar.xori v46 v47
  let c0_i32_24 : BitVec 32 := 0#32
  let v45 : BitVec 1 := Scalar.cmpi .ne v44 c0_i32_24
  let v49 : BitVec 1 := Scalar.andi v48 v45
  let v50 : BitVec 32 := Scalar.addi v44 v43
  let v51 : BitVec 32 := Scalar.select v49 v50 v44
  let c0_i32_34 : BitVec 32 := 0#32
  let v64 : BitVec 1 := Scalar.cmpi .sgt v51 c0_i32_34
  let v65 : BitVec 32 := Scalar.extui v64
  let c0_i32_35 : BitVec 32 := 0#32
  let v66 : BitVec 1 := Scalar.cmpi .slt v51 c0_i32_35
  let v67 : BitVec 32 := Scalar.extui v66
  let v68 : BitVec 32 := Scalar.subi v65 v67
  let c2_i32_33 : BitVec 32 := 2#32
  let c0_i32_36 : BitVec 32 := 0#32
  let v69 : BitVec 1 := Scalar.cmpi .sgt c2_i32_33 c0_i32_36
  let v70 : BitVec 32 := Scalar.extui v69
  let c0_i32_37 : BitVec 32 := 0#32
  let v71 : BitVec 1 := Scalar.cmpi .slt c2_i32_33 c0_i32_37
  let v72 : BitVec 32 := Scalar.extui v71
  let v73 : BitVec 32 := Scalar.subi v70 v72
  let v74 : BitVec 1 := Scalar.cmpi .ne v68 v73
  let v75 : BitVec 32 := Scalar.remsi v51 c2_i32_33
  let c0_i32_38 : BitVec 32 := 0#32
  let v76 : BitVec 1 := Scalar.cmpi .ne v75 c0_i32_38
  let v77 : BitVec 1 := Scalar.andi v74 v76
  let v63 : BitVec 32 := Scalar.divsi v51 c2_i32_33
  let c1_i32_39 : BitVec 32 := 1#32
  let v78 : BitVec 32 := Scalar.subi v63 c1_i32_39
  let v79 : BitVec 32 := Scalar.select v77 v78 v63
  let v80 : BitVec 32 := Scalar.xori v51 v79
  let c0_i32_48 : BitVec 32 := 0#32
  let v100 : BitVec 1 := Scalar.cmpi .sgt v80 c0_i32_48
  let v101 : BitVec 32 := Scalar.extui v100
  let c0_i32_49 : BitVec 32 := 0#32
  let v102 : BitVec 1 := Scalar.cmpi .slt v80 c0_i32_49
  let v103 : BitVec 32 := Scalar.extui v102
  let v104 : BitVec 32 := Scalar.subi v101 v103
  let c2_i32_47 : BitVec 32 := 2#32
  let c0_i32_50 : BitVec 32 := 0#32
  let v105 : BitVec 1 := Scalar.cmpi .sgt c2_i32_47 c0_i32_50
  let v106 : BitVec 32 := Scalar.extui v105
  let c0_i32_51 : BitVec 32 := 0#32
  let v107 : BitVec 1 := Scalar.cmpi .slt c2_i32_47 c0_i32_51
  let v108 : BitVec 32 := Scalar.extui v107
  let v109 : BitVec 32 := Scalar.subi v106 v108
  let v110 : BitVec 1 := Scalar.cmpi .ne v104 v109
  let v111 : BitVec 32 := Scalar.remsi v80 c2_i32_47
  let c0_i32_52 : BitVec 32 := 0#32
  let v112 : BitVec 1 := Scalar.cmpi .ne v111 c0_i32_52
  let v113 : BitVec 1 := Scalar.andi v110 v112
  let v99 : BitVec 32 := Scalar.divsi v80 c2_i32_47
  let c1_i32_53 : BitVec 32 := 1#32
  let v114 : BitVec 32 := Scalar.subi v99 c1_i32_53
  let v115 : BitVec 32 := Scalar.select v113 v114 v99
  let c8_i32_256 : BitVec 32 := 8#32
  let v444 : BitVec 32 := Scalar.muli v115 c8_i32_256
  let v445 : BitVec 32 := Scalar.addi c0_i32_257 v444
  let c2_i32_54 : BitVec 32 := 2#32
  let c0_i32_55 : BitVec 32 := 0#32
  let v116 : BitVec 1 := Scalar.cmpi .eq c2_i32_54 c0_i32_55
  let c1_i32_56 : BitVec 32 := 1#32
  let v117 : BitVec 32 := Scalar.select v116 c1_i32_56 c2_i32_54
  let v118 : BitVec 32 := Scalar.remsi v80 v117
  let c0_i32_58 : BitVec 32 := 0#32
  let v120 : BitVec 1 := Scalar.cmpi .slt v118 c0_i32_58
  let c0_i32_59 : BitVec 32 := 0#32
  let v121 : BitVec 1 := Scalar.cmpi .slt v117 c0_i32_59
  let v122 : BitVec 1 := Scalar.xori v120 v121
  let c0_i32_57 : BitVec 32 := 0#32
  let v119 : BitVec 1 := Scalar.cmpi .ne v118 c0_i32_57
  let v123 : BitVec 1 := Scalar.andi v122 v119
  let v124 : BitVec 32 := Scalar.addi v118 v117
  let v125 : BitVec 32 := Scalar.select v123 v124 v118
  let c4_i32_258 : BitVec 32 := 4#32
  let v446 : BitVec 32 := Scalar.muli v125 c4_i32_258
  let v447 : BitVec 32 := Scalar.addi v445 v446
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_259 : BitVec 32 := 1#32
  let v448 : BitVec 32 := Scalar.muli v8 c1_i32_259
  let v449 : BitVec 32 := Scalar.addi v447 v448
  v449.toNat
def k0_cond51 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_262 : BitVec 32 := 1#32
  let v456 : BitVec 1 := Scalar.cmpi .eq v8 c1_i32_262
  let v457 : BitVec 32 := Scalar.extui v456
  let c0_i32_263 : BitVec 32 := 0#32
  let v458 : BitVec 1 := Scalar.cmpi .ne v457 c0_i32_263
  v458

def k0_off65 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1536_i32_1264 : BitVec 32 := 1536#32
  let v1983 : BitVec 32 := Scalar.addi v11 c1536_i32_1264
  let v1984 : Index := Scalar.indexCast v1983
  let c0_1265 : Index := 0#32
  ![v1984.toNat, 0]
def k0_dev46 (d0 : Dev nD) : Nat :=
  let c0_i32_1271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1270 : BitVec 32 := 8#32
  let v1991 : BitVec 32 := Scalar.muli v2 c8_i32_1270
  let v1992 : BitVec 32 := Scalar.addi c0_i32_1271 v1991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1272 : BitVec 32 := 4#32
  let v1993 : BitVec 32 := Scalar.muli v5 c4_i32_1272
  let v1994 : BitVec 32 := Scalar.addi v1992 v1993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_1273 : BitVec 32 := 1#32
  let v1995 : BitVec 32 := Scalar.muli v34 c1_i32_1273
  let v1996 : BitVec 32 := Scalar.addi v1994 v1995
  v1996.toNat
def k0_cond52 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_264 : BitVec 32 := 0#32
  let v459 : BitVec 1 := Scalar.cmpi .eq v8 c0_i32_264
  let v460 : BitVec 32 := Scalar.extui v459
  let c0_i32_265 : BitVec 32 := 0#32
  let v461 : BitVec 1 := Scalar.cmpi .ne v460 c0_i32_265
  v461

def k0_off66 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1024_i32_1264 : BitVec 32 := 1024#32
  let v1982 : BitVec 32 := Scalar.addi v11 c1024_i32_1264
  let c0_i32_1268 : BitVec 32 := 0#32
  ![v1982.toNat, 0]
def k0_off67 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1024_i32_1271 : BitVec 32 := 1024#32
  let v1987 : BitVec 32 := Scalar.addi v11 c1024_i32_1271
  let v1988 : Index := Scalar.indexCast v1987
  let c0 : Index := 0#32
  ![v1988.toNat, 0]
def k0_dev47 (d0 : Dev nD) : Nat :=
  let c0_i32_284 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c1_i32_20 : BitVec 32 := 1#32
  let v41 : BitVec 32 := Scalar.addi v40 c1_i32_20
  let c4_i32_21 : BitVec 32 := 4#32
  let c0_i32_22 : BitVec 32 := 0#32
  let v42 : BitVec 1 := Scalar.cmpi .eq c4_i32_21 c0_i32_22
  let c1_i32_23 : BitVec 32 := 1#32
  let v43 : BitVec 32 := Scalar.select v42 c1_i32_23 c4_i32_21
  let v44 : BitVec 32 := Scalar.remsi v41 v43
  let c0_i32_25 : BitVec 32 := 0#32
  let v46 : BitVec 1 := Scalar.cmpi .slt v44 c0_i32_25
  let c0_i32_26 : BitVec 32 := 0#32
  let v47 : BitVec 1 := Scalar.cmpi .slt v43 c0_i32_26
  let v48 : BitVec 1 := Scalar.xori v46 v47
  let c0_i32_24 : BitVec 32 := 0#32
  let v45 : BitVec 1 := Scalar.cmpi .ne v44 c0_i32_24
  let v49 : BitVec 1 := Scalar.andi v48 v45
  let v50 : BitVec 32 := Scalar.addi v44 v43
  let v51 : BitVec 32 := Scalar.select v49 v50 v44
  let c0_i32_34 : BitVec 32 := 0#32
  let v64 : BitVec 1 := Scalar.cmpi .sgt v51 c0_i32_34
  let v65 : BitVec 32 := Scalar.extui v64
  let c0_i32_35 : BitVec 32 := 0#32
  let v66 : BitVec 1 := Scalar.cmpi .slt v51 c0_i32_35
  let v67 : BitVec 32 := Scalar.extui v66
  let v68 : BitVec 32 := Scalar.subi v65 v67
  let c2_i32_33 : BitVec 32 := 2#32
  let c0_i32_36 : BitVec 32 := 0#32
  let v69 : BitVec 1 := Scalar.cmpi .sgt c2_i32_33 c0_i32_36
  let v70 : BitVec 32 := Scalar.extui v69
  let c0_i32_37 : BitVec 32 := 0#32
  let v71 : BitVec 1 := Scalar.cmpi .slt c2_i32_33 c0_i32_37
  let v72 : BitVec 32 := Scalar.extui v71
  let v73 : BitVec 32 := Scalar.subi v70 v72
  let v74 : BitVec 1 := Scalar.cmpi .ne v68 v73
  let v75 : BitVec 32 := Scalar.remsi v51 c2_i32_33
  let c0_i32_38 : BitVec 32 := 0#32
  let v76 : BitVec 1 := Scalar.cmpi .ne v75 c0_i32_38
  let v77 : BitVec 1 := Scalar.andi v74 v76
  let v63 : BitVec 32 := Scalar.divsi v51 c2_i32_33
  let c1_i32_39 : BitVec 32 := 1#32
  let v78 : BitVec 32 := Scalar.subi v63 c1_i32_39
  let v79 : BitVec 32 := Scalar.select v77 v78 v63
  let v80 : BitVec 32 := Scalar.xori v51 v79
  let c0_i32_48 : BitVec 32 := 0#32
  let v100 : BitVec 1 := Scalar.cmpi .sgt v80 c0_i32_48
  let v101 : BitVec 32 := Scalar.extui v100
  let c0_i32_49 : BitVec 32 := 0#32
  let v102 : BitVec 1 := Scalar.cmpi .slt v80 c0_i32_49
  let v103 : BitVec 32 := Scalar.extui v102
  let v104 : BitVec 32 := Scalar.subi v101 v103
  let c2_i32_47 : BitVec 32 := 2#32
  let c0_i32_50 : BitVec 32 := 0#32
  let v105 : BitVec 1 := Scalar.cmpi .sgt c2_i32_47 c0_i32_50
  let v106 : BitVec 32 := Scalar.extui v105
  let c0_i32_51 : BitVec 32 := 0#32
  let v107 : BitVec 1 := Scalar.cmpi .slt c2_i32_47 c0_i32_51
  let v108 : BitVec 32 := Scalar.extui v107
  let v109 : BitVec 32 := Scalar.subi v106 v108
  let v110 : BitVec 1 := Scalar.cmpi .ne v104 v109
  let v111 : BitVec 32 := Scalar.remsi v80 c2_i32_47
  let c0_i32_52 : BitVec 32 := 0#32
  let v112 : BitVec 1 := Scalar.cmpi .ne v111 c0_i32_52
  let v113 : BitVec 1 := Scalar.andi v110 v112
  let v99 : BitVec 32 := Scalar.divsi v80 c2_i32_47
  let c1_i32_53 : BitVec 32 := 1#32
  let v114 : BitVec 32 := Scalar.subi v99 c1_i32_53
  let v115 : BitVec 32 := Scalar.select v113 v114 v99
  let c8_i32_283 : BitVec 32 := 8#32
  let v494 : BitVec 32 := Scalar.muli v115 c8_i32_283
  let v495 : BitVec 32 := Scalar.addi c0_i32_284 v494
  let c2_i32_54 : BitVec 32 := 2#32
  let c0_i32_55 : BitVec 32 := 0#32
  let v116 : BitVec 1 := Scalar.cmpi .eq c2_i32_54 c0_i32_55
  let c1_i32_56 : BitVec 32 := 1#32
  let v117 : BitVec 32 := Scalar.select v116 c1_i32_56 c2_i32_54
  let v118 : BitVec 32 := Scalar.remsi v80 v117
  let c0_i32_58 : BitVec 32 := 0#32
  let v120 : BitVec 1 := Scalar.cmpi .slt v118 c0_i32_58
  let c0_i32_59 : BitVec 32 := 0#32
  let v121 : BitVec 1 := Scalar.cmpi .slt v117 c0_i32_59
  let v122 : BitVec 1 := Scalar.xori v120 v121
  let c0_i32_57 : BitVec 32 := 0#32
  let v119 : BitVec 1 := Scalar.cmpi .ne v118 c0_i32_57
  let v123 : BitVec 1 := Scalar.andi v122 v119
  let v124 : BitVec 32 := Scalar.addi v118 v117
  let v125 : BitVec 32 := Scalar.select v123 v124 v118
  let c4_i32_285 : BitVec 32 := 4#32
  let v496 : BitVec 32 := Scalar.muli v125 c4_i32_285
  let v497 : BitVec 32 := Scalar.addi v495 v496
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_286 : BitVec 32 := 1#32
  let v498 : BitVec 32 := Scalar.muli v8 c1_i32_286
  let v499 : BitVec 32 := Scalar.addi v497 v498
  v499.toNat
def k0_dev48 (d0 : Dev nD) : Nat :=
  let c0_i32_317 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c1_i32_20 : BitVec 32 := 1#32
  let v41 : BitVec 32 := Scalar.addi v40 c1_i32_20
  let c4_i32_21 : BitVec 32 := 4#32
  let c0_i32_22 : BitVec 32 := 0#32
  let v42 : BitVec 1 := Scalar.cmpi .eq c4_i32_21 c0_i32_22
  let c1_i32_23 : BitVec 32 := 1#32
  let v43 : BitVec 32 := Scalar.select v42 c1_i32_23 c4_i32_21
  let v44 : BitVec 32 := Scalar.remsi v41 v43
  let c0_i32_25 : BitVec 32 := 0#32
  let v46 : BitVec 1 := Scalar.cmpi .slt v44 c0_i32_25
  let c0_i32_26 : BitVec 32 := 0#32
  let v47 : BitVec 1 := Scalar.cmpi .slt v43 c0_i32_26
  let v48 : BitVec 1 := Scalar.xori v46 v47
  let c0_i32_24 : BitVec 32 := 0#32
  let v45 : BitVec 1 := Scalar.cmpi .ne v44 c0_i32_24
  let v49 : BitVec 1 := Scalar.andi v48 v45
  let v50 : BitVec 32 := Scalar.addi v44 v43
  let v51 : BitVec 32 := Scalar.select v49 v50 v44
  let c0_i32_34 : BitVec 32 := 0#32
  let v64 : BitVec 1 := Scalar.cmpi .sgt v51 c0_i32_34
  let v65 : BitVec 32 := Scalar.extui v64
  let c0_i32_35 : BitVec 32 := 0#32
  let v66 : BitVec 1 := Scalar.cmpi .slt v51 c0_i32_35
  let v67 : BitVec 32 := Scalar.extui v66
  let v68 : BitVec 32 := Scalar.subi v65 v67
  let c2_i32_33 : BitVec 32 := 2#32
  let c0_i32_36 : BitVec 32 := 0#32
  let v69 : BitVec 1 := Scalar.cmpi .sgt c2_i32_33 c0_i32_36
  let v70 : BitVec 32 := Scalar.extui v69
  let c0_i32_37 : BitVec 32 := 0#32
  let v71 : BitVec 1 := Scalar.cmpi .slt c2_i32_33 c0_i32_37
  let v72 : BitVec 32 := Scalar.extui v71
  let v73 : BitVec 32 := Scalar.subi v70 v72
  let v74 : BitVec 1 := Scalar.cmpi .ne v68 v73
  let v75 : BitVec 32 := Scalar.remsi v51 c2_i32_33
  let c0_i32_38 : BitVec 32 := 0#32
  let v76 : BitVec 1 := Scalar.cmpi .ne v75 c0_i32_38
  let v77 : BitVec 1 := Scalar.andi v74 v76
  let v63 : BitVec 32 := Scalar.divsi v51 c2_i32_33
  let c1_i32_39 : BitVec 32 := 1#32
  let v78 : BitVec 32 := Scalar.subi v63 c1_i32_39
  let v79 : BitVec 32 := Scalar.select v77 v78 v63
  let v80 : BitVec 32 := Scalar.xori v51 v79
  let c0_i32_48 : BitVec 32 := 0#32
  let v100 : BitVec 1 := Scalar.cmpi .sgt v80 c0_i32_48
  let v101 : BitVec 32 := Scalar.extui v100
  let c0_i32_49 : BitVec 32 := 0#32
  let v102 : BitVec 1 := Scalar.cmpi .slt v80 c0_i32_49
  let v103 : BitVec 32 := Scalar.extui v102
  let v104 : BitVec 32 := Scalar.subi v101 v103
  let c2_i32_47 : BitVec 32 := 2#32
  let c0_i32_50 : BitVec 32 := 0#32
  let v105 : BitVec 1 := Scalar.cmpi .sgt c2_i32_47 c0_i32_50
  let v106 : BitVec 32 := Scalar.extui v105
  let c0_i32_51 : BitVec 32 := 0#32
  let v107 : BitVec 1 := Scalar.cmpi .slt c2_i32_47 c0_i32_51
  let v108 : BitVec 32 := Scalar.extui v107
  let v109 : BitVec 32 := Scalar.subi v106 v108
  let v110 : BitVec 1 := Scalar.cmpi .ne v104 v109
  let v111 : BitVec 32 := Scalar.remsi v80 c2_i32_47
  let c0_i32_52 : BitVec 32 := 0#32
  let v112 : BitVec 1 := Scalar.cmpi .ne v111 c0_i32_52
  let v113 : BitVec 1 := Scalar.andi v110 v112
  let v99 : BitVec 32 := Scalar.divsi v80 c2_i32_47
  let c1_i32_53 : BitVec 32 := 1#32
  let v114 : BitVec 32 := Scalar.subi v99 c1_i32_53
  let v115 : BitVec 32 := Scalar.select v113 v114 v99
  let c8_i32_316 : BitVec 32 := 8#32
  let v548 : BitVec 32 := Scalar.muli v115 c8_i32_316
  let v549 : BitVec 32 := Scalar.addi c0_i32_317 v548
  let c2_i32_54 : BitVec 32 := 2#32
  let c0_i32_55 : BitVec 32 := 0#32
  let v116 : BitVec 1 := Scalar.cmpi .eq c2_i32_54 c0_i32_55
  let c1_i32_56 : BitVec 32 := 1#32
  let v117 : BitVec 32 := Scalar.select v116 c1_i32_56 c2_i32_54
  let v118 : BitVec 32 := Scalar.remsi v80 v117
  let c0_i32_58 : BitVec 32 := 0#32
  let v120 : BitVec 1 := Scalar.cmpi .slt v118 c0_i32_58
  let c0_i32_59 : BitVec 32 := 0#32
  let v121 : BitVec 1 := Scalar.cmpi .slt v117 c0_i32_59
  let v122 : BitVec 1 := Scalar.xori v120 v121
  let c0_i32_57 : BitVec 32 := 0#32
  let v119 : BitVec 1 := Scalar.cmpi .ne v118 c0_i32_57
  let v123 : BitVec 1 := Scalar.andi v122 v119
  let v124 : BitVec 32 := Scalar.addi v118 v117
  let v125 : BitVec 32 := Scalar.select v123 v124 v118
  let c4_i32_318 : BitVec 32 := 4#32
  let v550 : BitVec 32 := Scalar.muli v125 c4_i32_318
  let v551 : BitVec 32 := Scalar.addi v549 v550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_319 : BitVec 32 := 1#32
  let v552 : BitVec 32 := Scalar.muli v8 c1_i32_319
  let v553 : BitVec 32 := Scalar.addi v551 v552
  v553.toNat
def k0_cond53 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_322 : BitVec 32 := 1#32
  let v560 : BitVec 1 := Scalar.cmpi .eq v8 c1_i32_322
  let v561 : BitVec 32 := Scalar.extui v560
  let c0_i32_323 : BitVec 32 := 0#32
  let v562 : BitVec 1 := Scalar.cmpi .ne v561 c0_i32_323
  v562

def k0_off68 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1792_i32_1264 : BitVec 32 := 1792#32
  let v1983 : BitVec 32 := Scalar.addi v11 c1792_i32_1264
  let v1984 : Index := Scalar.indexCast v1983
  let c0_1265 : Index := 0#32
  ![v1984.toNat, 0]
def k0_dev49 (d0 : Dev nD) : Nat :=
  let c0_i32_1271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1270 : BitVec 32 := 8#32
  let v1991 : BitVec 32 := Scalar.muli v2 c8_i32_1270
  let v1992 : BitVec 32 := Scalar.addi c0_i32_1271 v1991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1272 : BitVec 32 := 4#32
  let v1993 : BitVec 32 := Scalar.muli v5 c4_i32_1272
  let v1994 : BitVec 32 := Scalar.addi v1992 v1993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_1273 : BitVec 32 := 1#32
  let v1995 : BitVec 32 := Scalar.muli v34 c1_i32_1273
  let v1996 : BitVec 32 := Scalar.addi v1994 v1995
  v1996.toNat
def k0_cond54 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_324 : BitVec 32 := 0#32
  let v563 : BitVec 1 := Scalar.cmpi .eq v8 c0_i32_324
  let v564 : BitVec 32 := Scalar.extui v563
  let c0_i32_325 : BitVec 32 := 0#32
  let v565 : BitVec 1 := Scalar.cmpi .ne v564 c0_i32_325
  v565

def k0_off69 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1280_i32_1264 : BitVec 32 := 1280#32
  let v1982 : BitVec 32 := Scalar.addi v11 c1280_i32_1264
  let c0_i32_1268 : BitVec 32 := 0#32
  ![v1982.toNat, 0]
def k0_off70 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1280_i32_1271 : BitVec 32 := 1280#32
  let v1987 : BitVec 32 := Scalar.addi v11 c1280_i32_1271
  let v1988 : Index := Scalar.indexCast v1987
  let c0 : Index := 0#32
  ![v1988.toNat, 0]
def k0_off71 (d0 : Dev nD) (c0_i32_326 : BitVec 32) (c1024_i32 : BitVec 32) : Fin 2 → Nat :=
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let v566 : BitVec 32 := Scalar.addi v40 c0_i32_326
  let c4_i32_327 : BitVec 32 := 4#32
  let c0_i32_328 : BitVec 32 := 0#32
  let v567 : BitVec 1 := Scalar.cmpi .eq c4_i32_327 c0_i32_328
  let c1_i32_329 : BitVec 32 := 1#32
  let v568 : BitVec 32 := Scalar.select v567 c1_i32_329 c4_i32_327
  let v569 : BitVec 32 := Scalar.remsi v566 v568
  let c0_i32_331 : BitVec 32 := 0#32
  let v571 : BitVec 1 := Scalar.cmpi .slt v569 c0_i32_331
  let c0_i32_332 : BitVec 32 := 0#32
  let v572 : BitVec 1 := Scalar.cmpi .slt v568 c0_i32_332
  let v573 : BitVec 1 := Scalar.xori v571 v572
  let c0_i32_330 : BitVec 32 := 0#32
  let v570 : BitVec 1 := Scalar.cmpi .ne v569 c0_i32_330
  let v574 : BitVec 1 := Scalar.andi v573 v570
  let v575 : BitVec 32 := Scalar.addi v569 v568
  let v576 : BitVec 32 := Scalar.select v574 v575 v569
  let c0_i32_334 : BitVec 32 := 0#32
  let v578 : BitVec 1 := Scalar.cmpi .sgt v576 c0_i32_334
  let v579 : BitVec 32 := Scalar.extui v578
  let c0_i32_335 : BitVec 32 := 0#32
  let v580 : BitVec 1 := Scalar.cmpi .slt v576 c0_i32_335
  let v581 : BitVec 32 := Scalar.extui v580
  let v582 : BitVec 32 := Scalar.subi v579 v581
  let c2_i32_333 : BitVec 32 := 2#32
  let c0_i32_336 : BitVec 32 := 0#32
  let v583 : BitVec 1 := Scalar.cmpi .sgt c2_i32_333 c0_i32_336
  let v584 : BitVec 32 := Scalar.extui v583
  let c0_i32_337 : BitVec 32 := 0#32
  let v585 : BitVec 1 := Scalar.cmpi .slt c2_i32_333 c0_i32_337
  let v586 : BitVec 32 := Scalar.extui v585
  let v587 : BitVec 32 := Scalar.subi v584 v586
  let v588 : BitVec 1 := Scalar.cmpi .ne v582 v587
  let v589 : BitVec 32 := Scalar.remsi v576 c2_i32_333
  let c0_i32_338 : BitVec 32 := 0#32
  let v590 : BitVec 1 := Scalar.cmpi .ne v589 c0_i32_338
  let v591 : BitVec 1 := Scalar.andi v588 v590
  let v577 : BitVec 32 := Scalar.divsi v576 c2_i32_333
  let c1_i32_339 : BitVec 32 := 1#32
  let v592 : BitVec 32 := Scalar.subi v577 c1_i32_339
  let v593 : BitVec 32 := Scalar.select v591 v592 v577
  let v594 : BitVec 32 := Scalar.xori v576 v593
  let c2048_i32_340 : BitVec 32 := 2048#32
  let v595 : BitVec 32 := Scalar.muli v594 c2048_i32_340
  let v596 : BitVec 32 := Scalar.addi v595 c1024_i32
  let c0_i32_346 : BitVec 32 := 0#32
  ![v596.toNat, 0]
def k0_off71_at (r : Fin 20) : BitVec 32 × BitVec 32 :=
  if r.val < 10 then
    if r.val < 5 then
      if r.val < 2 then
        if r.val < 1 then
          (0#32, 1024#32)
        else
          (0#32, 1280#32)
      else
        if r.val < 3 then
          (0#32, 1536#32)
        else
          if r.val < 4 then
            (0#32, 1792#32)
          else
            (1#32, 1024#32)
    else
      if r.val < 7 then
        if r.val < 6 then
          (1#32, 1280#32)
        else
          (1#32, 1536#32)
      else
        if r.val < 8 then
          (1#32, 0#32)
        else
          if r.val < 9 then
            (1#32, 1792#32)
          else
            (2#32, 1024#32)
  else
    if r.val < 15 then
      if r.val < 12 then
        if r.val < 11 then
          (1#32, 256#32)
        else
          (2#32, 1280#32)
      else
        if r.val < 13 then
          (1#32, 512#32)
        else
          if r.val < 14 then
            (2#32, 1536#32)
          else
            (1#32, 768#32)
    else
      if r.val < 17 then
        if r.val < 16 then
          (2#32, 1792#32)
        else
          (3#32, 1024#32)
      else
        if r.val < 18 then
          (3#32, 1280#32)
        else
          if r.val < 19 then
            (3#32, 1536#32)
          else
            (3#32, 1792#32)
def k0_dev50 (d0 : Dev nD) : Nat :=
  let c0_i32_343 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c3_i32 : BitVec 32 := 3#32
  let v52 : BitVec 32 := Scalar.addi v40 c3_i32
  let c4_i32_27 : BitVec 32 := 4#32
  let c0_i32_28 : BitVec 32 := 0#32
  let v53 : BitVec 1 := Scalar.cmpi .eq c4_i32_27 c0_i32_28
  let c1_i32_29 : BitVec 32 := 1#32
  let v54 : BitVec 32 := Scalar.select v53 c1_i32_29 c4_i32_27
  let v55 : BitVec 32 := Scalar.remsi v52 v54
  let c0_i32_31 : BitVec 32 := 0#32
  let v57 : BitVec 1 := Scalar.cmpi .slt v55 c0_i32_31
  let c0_i32_32 : BitVec 32 := 0#32
  let v58 : BitVec 1 := Scalar.cmpi .slt v54 c0_i32_32
  let v59 : BitVec 1 := Scalar.xori v57 v58
  let c0_i32_30 : BitVec 32 := 0#32
  let v56 : BitVec 1 := Scalar.cmpi .ne v55 c0_i32_30
  let v60 : BitVec 1 := Scalar.andi v59 v56
  let v61 : BitVec 32 := Scalar.addi v55 v54
  let v62 : BitVec 32 := Scalar.select v60 v61 v55
  let c0_i32_41 : BitVec 32 := 0#32
  let v82 : BitVec 1 := Scalar.cmpi .sgt v62 c0_i32_41
  let v83 : BitVec 32 := Scalar.extui v82
  let c0_i32_42 : BitVec 32 := 0#32
  let v84 : BitVec 1 := Scalar.cmpi .slt v62 c0_i32_42
  let v85 : BitVec 32 := Scalar.extui v84
  let v86 : BitVec 32 := Scalar.subi v83 v85
  let c2_i32_40 : BitVec 32 := 2#32
  let c0_i32_43 : BitVec 32 := 0#32
  let v87 : BitVec 1 := Scalar.cmpi .sgt c2_i32_40 c0_i32_43
  let v88 : BitVec 32 := Scalar.extui v87
  let c0_i32_44 : BitVec 32 := 0#32
  let v89 : BitVec 1 := Scalar.cmpi .slt c2_i32_40 c0_i32_44
  let v90 : BitVec 32 := Scalar.extui v89
  let v91 : BitVec 32 := Scalar.subi v88 v90
  let v92 : BitVec 1 := Scalar.cmpi .ne v86 v91
  let v93 : BitVec 32 := Scalar.remsi v62 c2_i32_40
  let c0_i32_45 : BitVec 32 := 0#32
  let v94 : BitVec 1 := Scalar.cmpi .ne v93 c0_i32_45
  let v95 : BitVec 1 := Scalar.andi v92 v94
  let v81 : BitVec 32 := Scalar.divsi v62 c2_i32_40
  let c1_i32_46 : BitVec 32 := 1#32
  let v96 : BitVec 32 := Scalar.subi v81 c1_i32_46
  let v97 : BitVec 32 := Scalar.select v95 v96 v81
  let v98 : BitVec 32 := Scalar.xori v62 v97
  let c0_i32_61 : BitVec 32 := 0#32
  let v127 : BitVec 1 := Scalar.cmpi .sgt v98 c0_i32_61
  let v128 : BitVec 32 := Scalar.extui v127
  let c0_i32_62 : BitVec 32 := 0#32
  let v129 : BitVec 1 := Scalar.cmpi .slt v98 c0_i32_62
  let v130 : BitVec 32 := Scalar.extui v129
  let v131 : BitVec 32 := Scalar.subi v128 v130
  let c2_i32_60 : BitVec 32 := 2#32
  let c0_i32_63 : BitVec 32 := 0#32
  let v132 : BitVec 1 := Scalar.cmpi .sgt c2_i32_60 c0_i32_63
  let v133 : BitVec 32 := Scalar.extui v132
  let c0_i32_64 : BitVec 32 := 0#32
  let v134 : BitVec 1 := Scalar.cmpi .slt c2_i32_60 c0_i32_64
  let v135 : BitVec 32 := Scalar.extui v134
  let v136 : BitVec 32 := Scalar.subi v133 v135
  let v137 : BitVec 1 := Scalar.cmpi .ne v131 v136
  let v138 : BitVec 32 := Scalar.remsi v98 c2_i32_60
  let c0_i32_65 : BitVec 32 := 0#32
  let v139 : BitVec 1 := Scalar.cmpi .ne v138 c0_i32_65
  let v140 : BitVec 1 := Scalar.andi v137 v139
  let v126 : BitVec 32 := Scalar.divsi v98 c2_i32_60
  let c1_i32_66 : BitVec 32 := 1#32
  let v141 : BitVec 32 := Scalar.subi v126 c1_i32_66
  let v142 : BitVec 32 := Scalar.select v140 v141 v126
  let c8_i32_342 : BitVec 32 := 8#32
  let v597 : BitVec 32 := Scalar.muli v142 c8_i32_342
  let v598 : BitVec 32 := Scalar.addi c0_i32_343 v597
  let c2_i32_67 : BitVec 32 := 2#32
  let c0_i32_68 : BitVec 32 := 0#32
  let v143 : BitVec 1 := Scalar.cmpi .eq c2_i32_67 c0_i32_68
  let c1_i32_69 : BitVec 32 := 1#32
  let v144 : BitVec 32 := Scalar.select v143 c1_i32_69 c2_i32_67
  let v145 : BitVec 32 := Scalar.remsi v98 v144
  let c0_i32_71 : BitVec 32 := 0#32
  let v147 : BitVec 1 := Scalar.cmpi .slt v145 c0_i32_71
  let c0_i32_72 : BitVec 32 := 0#32
  let v148 : BitVec 1 := Scalar.cmpi .slt v144 c0_i32_72
  let v149 : BitVec 1 := Scalar.xori v147 v148
  let c0_i32_70 : BitVec 32 := 0#32
  let v146 : BitVec 1 := Scalar.cmpi .ne v145 c0_i32_70
  let v150 : BitVec 1 := Scalar.andi v149 v146
  let v151 : BitVec 32 := Scalar.addi v145 v144
  let v152 : BitVec 32 := Scalar.select v150 v151 v145
  let c4_i32_344 : BitVec 32 := 4#32
  let v599 : BitVec 32 := Scalar.muli v152 c4_i32_344
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_345 : BitVec 32 := 1#32
  let v601 : BitVec 32 := Scalar.muli v8 c1_i32_345
  let v602 : BitVec 32 := Scalar.addi v600 v601
  v602.toNat
def k0_dev51 (d0 : Dev nD) : Nat :=
  let c0_i32_376 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c1_i32_20 : BitVec 32 := 1#32
  let v41 : BitVec 32 := Scalar.addi v40 c1_i32_20
  let c4_i32_21 : BitVec 32 := 4#32
  let c0_i32_22 : BitVec 32 := 0#32
  let v42 : BitVec 1 := Scalar.cmpi .eq c4_i32_21 c0_i32_22
  let c1_i32_23 : BitVec 32 := 1#32
  let v43 : BitVec 32 := Scalar.select v42 c1_i32_23 c4_i32_21
  let v44 : BitVec 32 := Scalar.remsi v41 v43
  let c0_i32_25 : BitVec 32 := 0#32
  let v46 : BitVec 1 := Scalar.cmpi .slt v44 c0_i32_25
  let c0_i32_26 : BitVec 32 := 0#32
  let v47 : BitVec 1 := Scalar.cmpi .slt v43 c0_i32_26
  let v48 : BitVec 1 := Scalar.xori v46 v47
  let c0_i32_24 : BitVec 32 := 0#32
  let v45 : BitVec 1 := Scalar.cmpi .ne v44 c0_i32_24
  let v49 : BitVec 1 := Scalar.andi v48 v45
  let v50 : BitVec 32 := Scalar.addi v44 v43
  let v51 : BitVec 32 := Scalar.select v49 v50 v44
  let c0_i32_34 : BitVec 32 := 0#32
  let v64 : BitVec 1 := Scalar.cmpi .sgt v51 c0_i32_34
  let v65 : BitVec 32 := Scalar.extui v64
  let c0_i32_35 : BitVec 32 := 0#32
  let v66 : BitVec 1 := Scalar.cmpi .slt v51 c0_i32_35
  let v67 : BitVec 32 := Scalar.extui v66
  let v68 : BitVec 32 := Scalar.subi v65 v67
  let c2_i32_33 : BitVec 32 := 2#32
  let c0_i32_36 : BitVec 32 := 0#32
  let v69 : BitVec 1 := Scalar.cmpi .sgt c2_i32_33 c0_i32_36
  let v70 : BitVec 32 := Scalar.extui v69
  let c0_i32_37 : BitVec 32 := 0#32
  let v71 : BitVec 1 := Scalar.cmpi .slt c2_i32_33 c0_i32_37
  let v72 : BitVec 32 := Scalar.extui v71
  let v73 : BitVec 32 := Scalar.subi v70 v72
  let v74 : BitVec 1 := Scalar.cmpi .ne v68 v73
  let v75 : BitVec 32 := Scalar.remsi v51 c2_i32_33
  let c0_i32_38 : BitVec 32 := 0#32
  let v76 : BitVec 1 := Scalar.cmpi .ne v75 c0_i32_38
  let v77 : BitVec 1 := Scalar.andi v74 v76
  let v63 : BitVec 32 := Scalar.divsi v51 c2_i32_33
  let c1_i32_39 : BitVec 32 := 1#32
  let v78 : BitVec 32 := Scalar.subi v63 c1_i32_39
  let v79 : BitVec 32 := Scalar.select v77 v78 v63
  let v80 : BitVec 32 := Scalar.xori v51 v79
  let c0_i32_48 : BitVec 32 := 0#32
  let v100 : BitVec 1 := Scalar.cmpi .sgt v80 c0_i32_48
  let v101 : BitVec 32 := Scalar.extui v100
  let c0_i32_49 : BitVec 32 := 0#32
  let v102 : BitVec 1 := Scalar.cmpi .slt v80 c0_i32_49
  let v103 : BitVec 32 := Scalar.extui v102
  let v104 : BitVec 32 := Scalar.subi v101 v103
  let c2_i32_47 : BitVec 32 := 2#32
  let c0_i32_50 : BitVec 32 := 0#32
  let v105 : BitVec 1 := Scalar.cmpi .sgt c2_i32_47 c0_i32_50
  let v106 : BitVec 32 := Scalar.extui v105
  let c0_i32_51 : BitVec 32 := 0#32
  let v107 : BitVec 1 := Scalar.cmpi .slt c2_i32_47 c0_i32_51
  let v108 : BitVec 32 := Scalar.extui v107
  let v109 : BitVec 32 := Scalar.subi v106 v108
  let v110 : BitVec 1 := Scalar.cmpi .ne v104 v109
  let v111 : BitVec 32 := Scalar.remsi v80 c2_i32_47
  let c0_i32_52 : BitVec 32 := 0#32
  let v112 : BitVec 1 := Scalar.cmpi .ne v111 c0_i32_52
  let v113 : BitVec 1 := Scalar.andi v110 v112
  let v99 : BitVec 32 := Scalar.divsi v80 c2_i32_47
  let c1_i32_53 : BitVec 32 := 1#32
  let v114 : BitVec 32 := Scalar.subi v99 c1_i32_53
  let v115 : BitVec 32 := Scalar.select v113 v114 v99
  let c8_i32_375 : BitVec 32 := 8#32
  let v651 : BitVec 32 := Scalar.muli v115 c8_i32_375
  let v652 : BitVec 32 := Scalar.addi c0_i32_376 v651
  let c2_i32_54 : BitVec 32 := 2#32
  let c0_i32_55 : BitVec 32 := 0#32
  let v116 : BitVec 1 := Scalar.cmpi .eq c2_i32_54 c0_i32_55
  let c1_i32_56 : BitVec 32 := 1#32
  let v117 : BitVec 32 := Scalar.select v116 c1_i32_56 c2_i32_54
  let v118 : BitVec 32 := Scalar.remsi v80 v117
  let c0_i32_58 : BitVec 32 := 0#32
  let v120 : BitVec 1 := Scalar.cmpi .slt v118 c0_i32_58
  let c0_i32_59 : BitVec 32 := 0#32
  let v121 : BitVec 1 := Scalar.cmpi .slt v117 c0_i32_59
  let v122 : BitVec 1 := Scalar.xori v120 v121
  let c0_i32_57 : BitVec 32 := 0#32
  let v119 : BitVec 1 := Scalar.cmpi .ne v118 c0_i32_57
  let v123 : BitVec 1 := Scalar.andi v122 v119
  let v124 : BitVec 32 := Scalar.addi v118 v117
  let v125 : BitVec 32 := Scalar.select v123 v124 v118
  let c4_i32_377 : BitVec 32 := 4#32
  let v653 : BitVec 32 := Scalar.muli v125 c4_i32_377
  let v654 : BitVec 32 := Scalar.addi v652 v653
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_378 : BitVec 32 := 1#32
  let v655 : BitVec 32 := Scalar.muli v8 c1_i32_378
  let v656 : BitVec 32 := Scalar.addi v654 v655
  v656.toNat
def k0_cond55 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_381 : BitVec 32 := 0#32
  let v663 : BitVec 1 := Scalar.cmpi .eq v8 c0_i32_381
  let v664 : BitVec 32 := Scalar.extui v663
  let c0_i32_382 : BitVec 32 := 0#32
  let v665 : BitVec 1 := Scalar.cmpi .ne v664 c0_i32_382
  v665

def k0_off72 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1536_i32_1264 : BitVec 32 := 1536#32
  let v1982 : BitVec 32 := Scalar.addi v11 c1536_i32_1264
  let c0_i32_1268 : BitVec 32 := 0#32
  ![v1982.toNat, 0]
def k0_off73 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1536_i32_1271 : BitVec 32 := 1536#32
  let v1987 : BitVec 32 := Scalar.addi v11 c1536_i32_1271
  let v1988 : Index := Scalar.indexCast v1987
  let c0 : Index := 0#32
  ![v1988.toNat, 0]
def k0_dev52 (d0 : Dev nD) : Nat :=
  let c0_i32_400 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c3_i32 : BitVec 32 := 3#32
  let v52 : BitVec 32 := Scalar.addi v40 c3_i32
  let c4_i32_27 : BitVec 32 := 4#32
  let c0_i32_28 : BitVec 32 := 0#32
  let v53 : BitVec 1 := Scalar.cmpi .eq c4_i32_27 c0_i32_28
  let c1_i32_29 : BitVec 32 := 1#32
  let v54 : BitVec 32 := Scalar.select v53 c1_i32_29 c4_i32_27
  let v55 : BitVec 32 := Scalar.remsi v52 v54
  let c0_i32_31 : BitVec 32 := 0#32
  let v57 : BitVec 1 := Scalar.cmpi .slt v55 c0_i32_31
  let c0_i32_32 : BitVec 32 := 0#32
  let v58 : BitVec 1 := Scalar.cmpi .slt v54 c0_i32_32
  let v59 : BitVec 1 := Scalar.xori v57 v58
  let c0_i32_30 : BitVec 32 := 0#32
  let v56 : BitVec 1 := Scalar.cmpi .ne v55 c0_i32_30
  let v60 : BitVec 1 := Scalar.andi v59 v56
  let v61 : BitVec 32 := Scalar.addi v55 v54
  let v62 : BitVec 32 := Scalar.select v60 v61 v55
  let c0_i32_41 : BitVec 32 := 0#32
  let v82 : BitVec 1 := Scalar.cmpi .sgt v62 c0_i32_41
  let v83 : BitVec 32 := Scalar.extui v82
  let c0_i32_42 : BitVec 32 := 0#32
  let v84 : BitVec 1 := Scalar.cmpi .slt v62 c0_i32_42
  let v85 : BitVec 32 := Scalar.extui v84
  let v86 : BitVec 32 := Scalar.subi v83 v85
  let c2_i32_40 : BitVec 32 := 2#32
  let c0_i32_43 : BitVec 32 := 0#32
  let v87 : BitVec 1 := Scalar.cmpi .sgt c2_i32_40 c0_i32_43
  let v88 : BitVec 32 := Scalar.extui v87
  let c0_i32_44 : BitVec 32 := 0#32
  let v89 : BitVec 1 := Scalar.cmpi .slt c2_i32_40 c0_i32_44
  let v90 : BitVec 32 := Scalar.extui v89
  let v91 : BitVec 32 := Scalar.subi v88 v90
  let v92 : BitVec 1 := Scalar.cmpi .ne v86 v91
  let v93 : BitVec 32 := Scalar.remsi v62 c2_i32_40
  let c0_i32_45 : BitVec 32 := 0#32
  let v94 : BitVec 1 := Scalar.cmpi .ne v93 c0_i32_45
  let v95 : BitVec 1 := Scalar.andi v92 v94
  let v81 : BitVec 32 := Scalar.divsi v62 c2_i32_40
  let c1_i32_46 : BitVec 32 := 1#32
  let v96 : BitVec 32 := Scalar.subi v81 c1_i32_46
  let v97 : BitVec 32 := Scalar.select v95 v96 v81
  let v98 : BitVec 32 := Scalar.xori v62 v97
  let c0_i32_61 : BitVec 32 := 0#32
  let v127 : BitVec 1 := Scalar.cmpi .sgt v98 c0_i32_61
  let v128 : BitVec 32 := Scalar.extui v127
  let c0_i32_62 : BitVec 32 := 0#32
  let v129 : BitVec 1 := Scalar.cmpi .slt v98 c0_i32_62
  let v130 : BitVec 32 := Scalar.extui v129
  let v131 : BitVec 32 := Scalar.subi v128 v130
  let c2_i32_60 : BitVec 32 := 2#32
  let c0_i32_63 : BitVec 32 := 0#32
  let v132 : BitVec 1 := Scalar.cmpi .sgt c2_i32_60 c0_i32_63
  let v133 : BitVec 32 := Scalar.extui v132
  let c0_i32_64 : BitVec 32 := 0#32
  let v134 : BitVec 1 := Scalar.cmpi .slt c2_i32_60 c0_i32_64
  let v135 : BitVec 32 := Scalar.extui v134
  let v136 : BitVec 32 := Scalar.subi v133 v135
  let v137 : BitVec 1 := Scalar.cmpi .ne v131 v136
  let v138 : BitVec 32 := Scalar.remsi v98 c2_i32_60
  let c0_i32_65 : BitVec 32 := 0#32
  let v139 : BitVec 1 := Scalar.cmpi .ne v138 c0_i32_65
  let v140 : BitVec 1 := Scalar.andi v137 v139
  let v126 : BitVec 32 := Scalar.divsi v98 c2_i32_60
  let c1_i32_66 : BitVec 32 := 1#32
  let v141 : BitVec 32 := Scalar.subi v126 c1_i32_66
  let v142 : BitVec 32 := Scalar.select v140 v141 v126
  let c8_i32_399 : BitVec 32 := 8#32
  let v697 : BitVec 32 := Scalar.muli v142 c8_i32_399
  let v698 : BitVec 32 := Scalar.addi c0_i32_400 v697
  let c2_i32_67 : BitVec 32 := 2#32
  let c0_i32_68 : BitVec 32 := 0#32
  let v143 : BitVec 1 := Scalar.cmpi .eq c2_i32_67 c0_i32_68
  let c1_i32_69 : BitVec 32 := 1#32
  let v144 : BitVec 32 := Scalar.select v143 c1_i32_69 c2_i32_67
  let v145 : BitVec 32 := Scalar.remsi v98 v144
  let c0_i32_71 : BitVec 32 := 0#32
  let v147 : BitVec 1 := Scalar.cmpi .slt v145 c0_i32_71
  let c0_i32_72 : BitVec 32 := 0#32
  let v148 : BitVec 1 := Scalar.cmpi .slt v144 c0_i32_72
  let v149 : BitVec 1 := Scalar.xori v147 v148
  let c0_i32_70 : BitVec 32 := 0#32
  let v146 : BitVec 1 := Scalar.cmpi .ne v145 c0_i32_70
  let v150 : BitVec 1 := Scalar.andi v149 v146
  let v151 : BitVec 32 := Scalar.addi v145 v144
  let v152 : BitVec 32 := Scalar.select v150 v151 v145
  let c4_i32_401 : BitVec 32 := 4#32
  let v699 : BitVec 32 := Scalar.muli v152 c4_i32_401
  let v700 : BitVec 32 := Scalar.addi v698 v699
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v701 : BitVec 32 := Scalar.muli v8 c1_i32_402
  let v702 : BitVec 32 := Scalar.addi v700 v701
  v702.toNat
def k0_dev53 (d0 : Dev nD) : Nat :=
  let c0_i32_432 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c1_i32_20 : BitVec 32 := 1#32
  let v41 : BitVec 32 := Scalar.addi v40 c1_i32_20
  let c4_i32_21 : BitVec 32 := 4#32
  let c0_i32_22 : BitVec 32 := 0#32
  let v42 : BitVec 1 := Scalar.cmpi .eq c4_i32_21 c0_i32_22
  let c1_i32_23 : BitVec 32 := 1#32
  let v43 : BitVec 32 := Scalar.select v42 c1_i32_23 c4_i32_21
  let v44 : BitVec 32 := Scalar.remsi v41 v43
  let c0_i32_25 : BitVec 32 := 0#32
  let v46 : BitVec 1 := Scalar.cmpi .slt v44 c0_i32_25
  let c0_i32_26 : BitVec 32 := 0#32
  let v47 : BitVec 1 := Scalar.cmpi .slt v43 c0_i32_26
  let v48 : BitVec 1 := Scalar.xori v46 v47
  let c0_i32_24 : BitVec 32 := 0#32
  let v45 : BitVec 1 := Scalar.cmpi .ne v44 c0_i32_24
  let v49 : BitVec 1 := Scalar.andi v48 v45
  let v50 : BitVec 32 := Scalar.addi v44 v43
  let v51 : BitVec 32 := Scalar.select v49 v50 v44
  let c0_i32_34 : BitVec 32 := 0#32
  let v64 : BitVec 1 := Scalar.cmpi .sgt v51 c0_i32_34
  let v65 : BitVec 32 := Scalar.extui v64
  let c0_i32_35 : BitVec 32 := 0#32
  let v66 : BitVec 1 := Scalar.cmpi .slt v51 c0_i32_35
  let v67 : BitVec 32 := Scalar.extui v66
  let v68 : BitVec 32 := Scalar.subi v65 v67
  let c2_i32_33 : BitVec 32 := 2#32
  let c0_i32_36 : BitVec 32 := 0#32
  let v69 : BitVec 1 := Scalar.cmpi .sgt c2_i32_33 c0_i32_36
  let v70 : BitVec 32 := Scalar.extui v69
  let c0_i32_37 : BitVec 32 := 0#32
  let v71 : BitVec 1 := Scalar.cmpi .slt c2_i32_33 c0_i32_37
  let v72 : BitVec 32 := Scalar.extui v71
  let v73 : BitVec 32 := Scalar.subi v70 v72
  let v74 : BitVec 1 := Scalar.cmpi .ne v68 v73
  let v75 : BitVec 32 := Scalar.remsi v51 c2_i32_33
  let c0_i32_38 : BitVec 32 := 0#32
  let v76 : BitVec 1 := Scalar.cmpi .ne v75 c0_i32_38
  let v77 : BitVec 1 := Scalar.andi v74 v76
  let v63 : BitVec 32 := Scalar.divsi v51 c2_i32_33
  let c1_i32_39 : BitVec 32 := 1#32
  let v78 : BitVec 32 := Scalar.subi v63 c1_i32_39
  let v79 : BitVec 32 := Scalar.select v77 v78 v63
  let v80 : BitVec 32 := Scalar.xori v51 v79
  let c0_i32_48 : BitVec 32 := 0#32
  let v100 : BitVec 1 := Scalar.cmpi .sgt v80 c0_i32_48
  let v101 : BitVec 32 := Scalar.extui v100
  let c0_i32_49 : BitVec 32 := 0#32
  let v102 : BitVec 1 := Scalar.cmpi .slt v80 c0_i32_49
  let v103 : BitVec 32 := Scalar.extui v102
  let v104 : BitVec 32 := Scalar.subi v101 v103
  let c2_i32_47 : BitVec 32 := 2#32
  let c0_i32_50 : BitVec 32 := 0#32
  let v105 : BitVec 1 := Scalar.cmpi .sgt c2_i32_47 c0_i32_50
  let v106 : BitVec 32 := Scalar.extui v105
  let c0_i32_51 : BitVec 32 := 0#32
  let v107 : BitVec 1 := Scalar.cmpi .slt c2_i32_47 c0_i32_51
  let v108 : BitVec 32 := Scalar.extui v107
  let v109 : BitVec 32 := Scalar.subi v106 v108
  let v110 : BitVec 1 := Scalar.cmpi .ne v104 v109
  let v111 : BitVec 32 := Scalar.remsi v80 c2_i32_47
  let c0_i32_52 : BitVec 32 := 0#32
  let v112 : BitVec 1 := Scalar.cmpi .ne v111 c0_i32_52
  let v113 : BitVec 1 := Scalar.andi v110 v112
  let v99 : BitVec 32 := Scalar.divsi v80 c2_i32_47
  let c1_i32_53 : BitVec 32 := 1#32
  let v114 : BitVec 32 := Scalar.subi v99 c1_i32_53
  let v115 : BitVec 32 := Scalar.select v113 v114 v99
  let c8_i32_431 : BitVec 32 := 8#32
  let v751 : BitVec 32 := Scalar.muli v115 c8_i32_431
  let v752 : BitVec 32 := Scalar.addi c0_i32_432 v751
  let c2_i32_54 : BitVec 32 := 2#32
  let c0_i32_55 : BitVec 32 := 0#32
  let v116 : BitVec 1 := Scalar.cmpi .eq c2_i32_54 c0_i32_55
  let c1_i32_56 : BitVec 32 := 1#32
  let v117 : BitVec 32 := Scalar.select v116 c1_i32_56 c2_i32_54
  let v118 : BitVec 32 := Scalar.remsi v80 v117
  let c0_i32_58 : BitVec 32 := 0#32
  let v120 : BitVec 1 := Scalar.cmpi .slt v118 c0_i32_58
  let c0_i32_59 : BitVec 32 := 0#32
  let v121 : BitVec 1 := Scalar.cmpi .slt v117 c0_i32_59
  let v122 : BitVec 1 := Scalar.xori v120 v121
  let c0_i32_57 : BitVec 32 := 0#32
  let v119 : BitVec 1 := Scalar.cmpi .ne v118 c0_i32_57
  let v123 : BitVec 1 := Scalar.andi v122 v119
  let v124 : BitVec 32 := Scalar.addi v118 v117
  let v125 : BitVec 32 := Scalar.select v123 v124 v118
  let c4_i32_433 : BitVec 32 := 4#32
  let v753 : BitVec 32 := Scalar.muli v125 c4_i32_433
  let v754 : BitVec 32 := Scalar.addi v752 v753
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_434 : BitVec 32 := 1#32
  let v755 : BitVec 32 := Scalar.muli v8 c1_i32_434
  let v756 : BitVec 32 := Scalar.addi v754 v755
  v756.toNat
def k0_cond56 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_437 : BitVec 32 := 0#32
  let v763 : BitVec 1 := Scalar.cmpi .eq v8 c0_i32_437
  let v764 : BitVec 32 := Scalar.extui v763
  let c0_i32_438 : BitVec 32 := 0#32
  let v765 : BitVec 1 := Scalar.cmpi .ne v764 c0_i32_438
  v765

def k0_off74 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1792_i32_1264 : BitVec 32 := 1792#32
  let v1982 : BitVec 32 := Scalar.addi v11 c1792_i32_1264
  let c0_i32_1268 : BitVec 32 := 0#32
  ![v1982.toNat, 0]
def k0_off75 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1792_i32_1271 : BitVec 32 := 1792#32
  let v1987 : BitVec 32 := Scalar.addi v11 c1792_i32_1271
  let v1988 : Index := Scalar.indexCast v1987
  let c0 : Index := 0#32
  ![v1988.toNat, 0]
def k0_dev54 (d0 : Dev nD) : Nat :=
  let c0_i32_456 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c3_i32 : BitVec 32 := 3#32
  let v52 : BitVec 32 := Scalar.addi v40 c3_i32
  let c4_i32_27 : BitVec 32 := 4#32
  let c0_i32_28 : BitVec 32 := 0#32
  let v53 : BitVec 1 := Scalar.cmpi .eq c4_i32_27 c0_i32_28
  let c1_i32_29 : BitVec 32 := 1#32
  let v54 : BitVec 32 := Scalar.select v53 c1_i32_29 c4_i32_27
  let v55 : BitVec 32 := Scalar.remsi v52 v54
  let c0_i32_31 : BitVec 32 := 0#32
  let v57 : BitVec 1 := Scalar.cmpi .slt v55 c0_i32_31
  let c0_i32_32 : BitVec 32 := 0#32
  let v58 : BitVec 1 := Scalar.cmpi .slt v54 c0_i32_32
  let v59 : BitVec 1 := Scalar.xori v57 v58
  let c0_i32_30 : BitVec 32 := 0#32
  let v56 : BitVec 1 := Scalar.cmpi .ne v55 c0_i32_30
  let v60 : BitVec 1 := Scalar.andi v59 v56
  let v61 : BitVec 32 := Scalar.addi v55 v54
  let v62 : BitVec 32 := Scalar.select v60 v61 v55
  let c0_i32_41 : BitVec 32 := 0#32
  let v82 : BitVec 1 := Scalar.cmpi .sgt v62 c0_i32_41
  let v83 : BitVec 32 := Scalar.extui v82
  let c0_i32_42 : BitVec 32 := 0#32
  let v84 : BitVec 1 := Scalar.cmpi .slt v62 c0_i32_42
  let v85 : BitVec 32 := Scalar.extui v84
  let v86 : BitVec 32 := Scalar.subi v83 v85
  let c2_i32_40 : BitVec 32 := 2#32
  let c0_i32_43 : BitVec 32 := 0#32
  let v87 : BitVec 1 := Scalar.cmpi .sgt c2_i32_40 c0_i32_43
  let v88 : BitVec 32 := Scalar.extui v87
  let c0_i32_44 : BitVec 32 := 0#32
  let v89 : BitVec 1 := Scalar.cmpi .slt c2_i32_40 c0_i32_44
  let v90 : BitVec 32 := Scalar.extui v89
  let v91 : BitVec 32 := Scalar.subi v88 v90
  let v92 : BitVec 1 := Scalar.cmpi .ne v86 v91
  let v93 : BitVec 32 := Scalar.remsi v62 c2_i32_40
  let c0_i32_45 : BitVec 32 := 0#32
  let v94 : BitVec 1 := Scalar.cmpi .ne v93 c0_i32_45
  let v95 : BitVec 1 := Scalar.andi v92 v94
  let v81 : BitVec 32 := Scalar.divsi v62 c2_i32_40
  let c1_i32_46 : BitVec 32 := 1#32
  let v96 : BitVec 32 := Scalar.subi v81 c1_i32_46
  let v97 : BitVec 32 := Scalar.select v95 v96 v81
  let v98 : BitVec 32 := Scalar.xori v62 v97
  let c0_i32_61 : BitVec 32 := 0#32
  let v127 : BitVec 1 := Scalar.cmpi .sgt v98 c0_i32_61
  let v128 : BitVec 32 := Scalar.extui v127
  let c0_i32_62 : BitVec 32 := 0#32
  let v129 : BitVec 1 := Scalar.cmpi .slt v98 c0_i32_62
  let v130 : BitVec 32 := Scalar.extui v129
  let v131 : BitVec 32 := Scalar.subi v128 v130
  let c2_i32_60 : BitVec 32 := 2#32
  let c0_i32_63 : BitVec 32 := 0#32
  let v132 : BitVec 1 := Scalar.cmpi .sgt c2_i32_60 c0_i32_63
  let v133 : BitVec 32 := Scalar.extui v132
  let c0_i32_64 : BitVec 32 := 0#32
  let v134 : BitVec 1 := Scalar.cmpi .slt c2_i32_60 c0_i32_64
  let v135 : BitVec 32 := Scalar.extui v134
  let v136 : BitVec 32 := Scalar.subi v133 v135
  let v137 : BitVec 1 := Scalar.cmpi .ne v131 v136
  let v138 : BitVec 32 := Scalar.remsi v98 c2_i32_60
  let c0_i32_65 : BitVec 32 := 0#32
  let v139 : BitVec 1 := Scalar.cmpi .ne v138 c0_i32_65
  let v140 : BitVec 1 := Scalar.andi v137 v139
  let v126 : BitVec 32 := Scalar.divsi v98 c2_i32_60
  let c1_i32_66 : BitVec 32 := 1#32
  let v141 : BitVec 32 := Scalar.subi v126 c1_i32_66
  let v142 : BitVec 32 := Scalar.select v140 v141 v126
  let c8_i32_455 : BitVec 32 := 8#32
  let v797 : BitVec 32 := Scalar.muli v142 c8_i32_455
  let v798 : BitVec 32 := Scalar.addi c0_i32_456 v797
  let c2_i32_67 : BitVec 32 := 2#32
  let c0_i32_68 : BitVec 32 := 0#32
  let v143 : BitVec 1 := Scalar.cmpi .eq c2_i32_67 c0_i32_68
  let c1_i32_69 : BitVec 32 := 1#32
  let v144 : BitVec 32 := Scalar.select v143 c1_i32_69 c2_i32_67
  let v145 : BitVec 32 := Scalar.remsi v98 v144
  let c0_i32_71 : BitVec 32 := 0#32
  let v147 : BitVec 1 := Scalar.cmpi .slt v145 c0_i32_71
  let c0_i32_72 : BitVec 32 := 0#32
  let v148 : BitVec 1 := Scalar.cmpi .slt v144 c0_i32_72
  let v149 : BitVec 1 := Scalar.xori v147 v148
  let c0_i32_70 : BitVec 32 := 0#32
  let v146 : BitVec 1 := Scalar.cmpi .ne v145 c0_i32_70
  let v150 : BitVec 1 := Scalar.andi v149 v146
  let v151 : BitVec 32 := Scalar.addi v145 v144
  let v152 : BitVec 32 := Scalar.select v150 v151 v145
  let c4_i32_457 : BitVec 32 := 4#32
  let v799 : BitVec 32 := Scalar.muli v152 c4_i32_457
  let v800 : BitVec 32 := Scalar.addi v798 v799
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_458 : BitVec 32 := 1#32
  let v801 : BitVec 32 := Scalar.muli v8 c1_i32_458
  let v802 : BitVec 32 := Scalar.addi v800 v801
  v802.toNat
def k0_dev55 (d0 : Dev nD) : Nat :=
  let c0_i32_488 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c1_i32_20 : BitVec 32 := 1#32
  let v41 : BitVec 32 := Scalar.addi v40 c1_i32_20
  let c4_i32_21 : BitVec 32 := 4#32
  let c0_i32_22 : BitVec 32 := 0#32
  let v42 : BitVec 1 := Scalar.cmpi .eq c4_i32_21 c0_i32_22
  let c1_i32_23 : BitVec 32 := 1#32
  let v43 : BitVec 32 := Scalar.select v42 c1_i32_23 c4_i32_21
  let v44 : BitVec 32 := Scalar.remsi v41 v43
  let c0_i32_25 : BitVec 32 := 0#32
  let v46 : BitVec 1 := Scalar.cmpi .slt v44 c0_i32_25
  let c0_i32_26 : BitVec 32 := 0#32
  let v47 : BitVec 1 := Scalar.cmpi .slt v43 c0_i32_26
  let v48 : BitVec 1 := Scalar.xori v46 v47
  let c0_i32_24 : BitVec 32 := 0#32
  let v45 : BitVec 1 := Scalar.cmpi .ne v44 c0_i32_24
  let v49 : BitVec 1 := Scalar.andi v48 v45
  let v50 : BitVec 32 := Scalar.addi v44 v43
  let v51 : BitVec 32 := Scalar.select v49 v50 v44
  let c0_i32_34 : BitVec 32 := 0#32
  let v64 : BitVec 1 := Scalar.cmpi .sgt v51 c0_i32_34
  let v65 : BitVec 32 := Scalar.extui v64
  let c0_i32_35 : BitVec 32 := 0#32
  let v66 : BitVec 1 := Scalar.cmpi .slt v51 c0_i32_35
  let v67 : BitVec 32 := Scalar.extui v66
  let v68 : BitVec 32 := Scalar.subi v65 v67
  let c2_i32_33 : BitVec 32 := 2#32
  let c0_i32_36 : BitVec 32 := 0#32
  let v69 : BitVec 1 := Scalar.cmpi .sgt c2_i32_33 c0_i32_36
  let v70 : BitVec 32 := Scalar.extui v69
  let c0_i32_37 : BitVec 32 := 0#32
  let v71 : BitVec 1 := Scalar.cmpi .slt c2_i32_33 c0_i32_37
  let v72 : BitVec 32 := Scalar.extui v71
  let v73 : BitVec 32 := Scalar.subi v70 v72
  let v74 : BitVec 1 := Scalar.cmpi .ne v68 v73
  let v75 : BitVec 32 := Scalar.remsi v51 c2_i32_33
  let c0_i32_38 : BitVec 32 := 0#32
  let v76 : BitVec 1 := Scalar.cmpi .ne v75 c0_i32_38
  let v77 : BitVec 1 := Scalar.andi v74 v76
  let v63 : BitVec 32 := Scalar.divsi v51 c2_i32_33
  let c1_i32_39 : BitVec 32 := 1#32
  let v78 : BitVec 32 := Scalar.subi v63 c1_i32_39
  let v79 : BitVec 32 := Scalar.select v77 v78 v63
  let v80 : BitVec 32 := Scalar.xori v51 v79
  let c0_i32_48 : BitVec 32 := 0#32
  let v100 : BitVec 1 := Scalar.cmpi .sgt v80 c0_i32_48
  let v101 : BitVec 32 := Scalar.extui v100
  let c0_i32_49 : BitVec 32 := 0#32
  let v102 : BitVec 1 := Scalar.cmpi .slt v80 c0_i32_49
  let v103 : BitVec 32 := Scalar.extui v102
  let v104 : BitVec 32 := Scalar.subi v101 v103
  let c2_i32_47 : BitVec 32 := 2#32
  let c0_i32_50 : BitVec 32 := 0#32
  let v105 : BitVec 1 := Scalar.cmpi .sgt c2_i32_47 c0_i32_50
  let v106 : BitVec 32 := Scalar.extui v105
  let c0_i32_51 : BitVec 32 := 0#32
  let v107 : BitVec 1 := Scalar.cmpi .slt c2_i32_47 c0_i32_51
  let v108 : BitVec 32 := Scalar.extui v107
  let v109 : BitVec 32 := Scalar.subi v106 v108
  let v110 : BitVec 1 := Scalar.cmpi .ne v104 v109
  let v111 : BitVec 32 := Scalar.remsi v80 c2_i32_47
  let c0_i32_52 : BitVec 32 := 0#32
  let v112 : BitVec 1 := Scalar.cmpi .ne v111 c0_i32_52
  let v113 : BitVec 1 := Scalar.andi v110 v112
  let v99 : BitVec 32 := Scalar.divsi v80 c2_i32_47
  let c1_i32_53 : BitVec 32 := 1#32
  let v114 : BitVec 32 := Scalar.subi v99 c1_i32_53
  let v115 : BitVec 32 := Scalar.select v113 v114 v99
  let c8_i32_487 : BitVec 32 := 8#32
  let v851 : BitVec 32 := Scalar.muli v115 c8_i32_487
  let v852 : BitVec 32 := Scalar.addi c0_i32_488 v851
  let c2_i32_54 : BitVec 32 := 2#32
  let c0_i32_55 : BitVec 32 := 0#32
  let v116 : BitVec 1 := Scalar.cmpi .eq c2_i32_54 c0_i32_55
  let c1_i32_56 : BitVec 32 := 1#32
  let v117 : BitVec 32 := Scalar.select v116 c1_i32_56 c2_i32_54
  let v118 : BitVec 32 := Scalar.remsi v80 v117
  let c0_i32_58 : BitVec 32 := 0#32
  let v120 : BitVec 1 := Scalar.cmpi .slt v118 c0_i32_58
  let c0_i32_59 : BitVec 32 := 0#32
  let v121 : BitVec 1 := Scalar.cmpi .slt v117 c0_i32_59
  let v122 : BitVec 1 := Scalar.xori v120 v121
  let c0_i32_57 : BitVec 32 := 0#32
  let v119 : BitVec 1 := Scalar.cmpi .ne v118 c0_i32_57
  let v123 : BitVec 1 := Scalar.andi v122 v119
  let v124 : BitVec 32 := Scalar.addi v118 v117
  let v125 : BitVec 32 := Scalar.select v123 v124 v118
  let c4_i32_489 : BitVec 32 := 4#32
  let v853 : BitVec 32 := Scalar.muli v125 c4_i32_489
  let v854 : BitVec 32 := Scalar.addi v852 v853
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_490 : BitVec 32 := 1#32
  let v855 : BitVec 32 := Scalar.muli v8 c1_i32_490
  let v856 : BitVec 32 := Scalar.addi v854 v855
  v856.toNat
def k0_dev56 (d0 : Dev nD) : Nat :=
  let c0_i32_521 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c1_i32_20 : BitVec 32 := 1#32
  let v41 : BitVec 32 := Scalar.addi v40 c1_i32_20
  let c4_i32_21 : BitVec 32 := 4#32
  let c0_i32_22 : BitVec 32 := 0#32
  let v42 : BitVec 1 := Scalar.cmpi .eq c4_i32_21 c0_i32_22
  let c1_i32_23 : BitVec 32 := 1#32
  let v43 : BitVec 32 := Scalar.select v42 c1_i32_23 c4_i32_21
  let v44 : BitVec 32 := Scalar.remsi v41 v43
  let c0_i32_25 : BitVec 32 := 0#32
  let v46 : BitVec 1 := Scalar.cmpi .slt v44 c0_i32_25
  let c0_i32_26 : BitVec 32 := 0#32
  let v47 : BitVec 1 := Scalar.cmpi .slt v43 c0_i32_26
  let v48 : BitVec 1 := Scalar.xori v46 v47
  let c0_i32_24 : BitVec 32 := 0#32
  let v45 : BitVec 1 := Scalar.cmpi .ne v44 c0_i32_24
  let v49 : BitVec 1 := Scalar.andi v48 v45
  let v50 : BitVec 32 := Scalar.addi v44 v43
  let v51 : BitVec 32 := Scalar.select v49 v50 v44
  let c0_i32_34 : BitVec 32 := 0#32
  let v64 : BitVec 1 := Scalar.cmpi .sgt v51 c0_i32_34
  let v65 : BitVec 32 := Scalar.extui v64
  let c0_i32_35 : BitVec 32 := 0#32
  let v66 : BitVec 1 := Scalar.cmpi .slt v51 c0_i32_35
  let v67 : BitVec 32 := Scalar.extui v66
  let v68 : BitVec 32 := Scalar.subi v65 v67
  let c2_i32_33 : BitVec 32 := 2#32
  let c0_i32_36 : BitVec 32 := 0#32
  let v69 : BitVec 1 := Scalar.cmpi .sgt c2_i32_33 c0_i32_36
  let v70 : BitVec 32 := Scalar.extui v69
  let c0_i32_37 : BitVec 32 := 0#32
  let v71 : BitVec 1 := Scalar.cmpi .slt c2_i32_33 c0_i32_37
  let v72 : BitVec 32 := Scalar.extui v71
  let v73 : BitVec 32 := Scalar.subi v70 v72
  let v74 : BitVec 1 := Scalar.cmpi .ne v68 v73
  let v75 : BitVec 32 := Scalar.remsi v51 c2_i32_33
  let c0_i32_38 : BitVec 32 := 0#32
  let v76 : BitVec 1 := Scalar.cmpi .ne v75 c0_i32_38
  let v77 : BitVec 1 := Scalar.andi v74 v76
  let v63 : BitVec 32 := Scalar.divsi v51 c2_i32_33
  let c1_i32_39 : BitVec 32 := 1#32
  let v78 : BitVec 32 := Scalar.subi v63 c1_i32_39
  let v79 : BitVec 32 := Scalar.select v77 v78 v63
  let v80 : BitVec 32 := Scalar.xori v51 v79
  let c0_i32_48 : BitVec 32 := 0#32
  let v100 : BitVec 1 := Scalar.cmpi .sgt v80 c0_i32_48
  let v101 : BitVec 32 := Scalar.extui v100
  let c0_i32_49 : BitVec 32 := 0#32
  let v102 : BitVec 1 := Scalar.cmpi .slt v80 c0_i32_49
  let v103 : BitVec 32 := Scalar.extui v102
  let v104 : BitVec 32 := Scalar.subi v101 v103
  let c2_i32_47 : BitVec 32 := 2#32
  let c0_i32_50 : BitVec 32 := 0#32
  let v105 : BitVec 1 := Scalar.cmpi .sgt c2_i32_47 c0_i32_50
  let v106 : BitVec 32 := Scalar.extui v105
  let c0_i32_51 : BitVec 32 := 0#32
  let v107 : BitVec 1 := Scalar.cmpi .slt c2_i32_47 c0_i32_51
  let v108 : BitVec 32 := Scalar.extui v107
  let v109 : BitVec 32 := Scalar.subi v106 v108
  let v110 : BitVec 1 := Scalar.cmpi .ne v104 v109
  let v111 : BitVec 32 := Scalar.remsi v80 c2_i32_47
  let c0_i32_52 : BitVec 32 := 0#32
  let v112 : BitVec 1 := Scalar.cmpi .ne v111 c0_i32_52
  let v113 : BitVec 1 := Scalar.andi v110 v112
  let v99 : BitVec 32 := Scalar.divsi v80 c2_i32_47
  let c1_i32_53 : BitVec 32 := 1#32
  let v114 : BitVec 32 := Scalar.subi v99 c1_i32_53
  let v115 : BitVec 32 := Scalar.select v113 v114 v99
  let c8_i32_520 : BitVec 32 := 8#32
  let v905 : BitVec 32 := Scalar.muli v115 c8_i32_520
  let v906 : BitVec 32 := Scalar.addi c0_i32_521 v905
  let c2_i32_54 : BitVec 32 := 2#32
  let c0_i32_55 : BitVec 32 := 0#32
  let v116 : BitVec 1 := Scalar.cmpi .eq c2_i32_54 c0_i32_55
  let c1_i32_56 : BitVec 32 := 1#32
  let v117 : BitVec 32 := Scalar.select v116 c1_i32_56 c2_i32_54
  let v118 : BitVec 32 := Scalar.remsi v80 v117
  let c0_i32_58 : BitVec 32 := 0#32
  let v120 : BitVec 1 := Scalar.cmpi .slt v118 c0_i32_58
  let c0_i32_59 : BitVec 32 := 0#32
  let v121 : BitVec 1 := Scalar.cmpi .slt v117 c0_i32_59
  let v122 : BitVec 1 := Scalar.xori v120 v121
  let c0_i32_57 : BitVec 32 := 0#32
  let v119 : BitVec 1 := Scalar.cmpi .ne v118 c0_i32_57
  let v123 : BitVec 1 := Scalar.andi v122 v119
  let v124 : BitVec 32 := Scalar.addi v118 v117
  let v125 : BitVec 32 := Scalar.select v123 v124 v118
  let c4_i32_522 : BitVec 32 := 4#32
  let v907 : BitVec 32 := Scalar.muli v125 c4_i32_522
  let v908 : BitVec 32 := Scalar.addi v906 v907
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_523 : BitVec 32 := 1#32
  let v909 : BitVec 32 := Scalar.muli v8 c1_i32_523
  let v910 : BitVec 32 := Scalar.addi v908 v909
  v910.toNat
def k0_dev57 (d0 : Dev nD) : Nat :=
  let c0_i32_543 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c3_i32 : BitVec 32 := 3#32
  let v52 : BitVec 32 := Scalar.addi v40 c3_i32
  let c4_i32_27 : BitVec 32 := 4#32
  let c0_i32_28 : BitVec 32 := 0#32
  let v53 : BitVec 1 := Scalar.cmpi .eq c4_i32_27 c0_i32_28
  let c1_i32_29 : BitVec 32 := 1#32
  let v54 : BitVec 32 := Scalar.select v53 c1_i32_29 c4_i32_27
  let v55 : BitVec 32 := Scalar.remsi v52 v54
  let c0_i32_31 : BitVec 32 := 0#32
  let v57 : BitVec 1 := Scalar.cmpi .slt v55 c0_i32_31
  let c0_i32_32 : BitVec 32 := 0#32
  let v58 : BitVec 1 := Scalar.cmpi .slt v54 c0_i32_32
  let v59 : BitVec 1 := Scalar.xori v57 v58
  let c0_i32_30 : BitVec 32 := 0#32
  let v56 : BitVec 1 := Scalar.cmpi .ne v55 c0_i32_30
  let v60 : BitVec 1 := Scalar.andi v59 v56
  let v61 : BitVec 32 := Scalar.addi v55 v54
  let v62 : BitVec 32 := Scalar.select v60 v61 v55
  let c0_i32_41 : BitVec 32 := 0#32
  let v82 : BitVec 1 := Scalar.cmpi .sgt v62 c0_i32_41
  let v83 : BitVec 32 := Scalar.extui v82
  let c0_i32_42 : BitVec 32 := 0#32
  let v84 : BitVec 1 := Scalar.cmpi .slt v62 c0_i32_42
  let v85 : BitVec 32 := Scalar.extui v84
  let v86 : BitVec 32 := Scalar.subi v83 v85
  let c2_i32_40 : BitVec 32 := 2#32
  let c0_i32_43 : BitVec 32 := 0#32
  let v87 : BitVec 1 := Scalar.cmpi .sgt c2_i32_40 c0_i32_43
  let v88 : BitVec 32 := Scalar.extui v87
  let c0_i32_44 : BitVec 32 := 0#32
  let v89 : BitVec 1 := Scalar.cmpi .slt c2_i32_40 c0_i32_44
  let v90 : BitVec 32 := Scalar.extui v89
  let v91 : BitVec 32 := Scalar.subi v88 v90
  let v92 : BitVec 1 := Scalar.cmpi .ne v86 v91
  let v93 : BitVec 32 := Scalar.remsi v62 c2_i32_40
  let c0_i32_45 : BitVec 32 := 0#32
  let v94 : BitVec 1 := Scalar.cmpi .ne v93 c0_i32_45
  let v95 : BitVec 1 := Scalar.andi v92 v94
  let v81 : BitVec 32 := Scalar.divsi v62 c2_i32_40
  let c1_i32_46 : BitVec 32 := 1#32
  let v96 : BitVec 32 := Scalar.subi v81 c1_i32_46
  let v97 : BitVec 32 := Scalar.select v95 v96 v81
  let v98 : BitVec 32 := Scalar.xori v62 v97
  let c0_i32_61 : BitVec 32 := 0#32
  let v127 : BitVec 1 := Scalar.cmpi .sgt v98 c0_i32_61
  let v128 : BitVec 32 := Scalar.extui v127
  let c0_i32_62 : BitVec 32 := 0#32
  let v129 : BitVec 1 := Scalar.cmpi .slt v98 c0_i32_62
  let v130 : BitVec 32 := Scalar.extui v129
  let v131 : BitVec 32 := Scalar.subi v128 v130
  let c2_i32_60 : BitVec 32 := 2#32
  let c0_i32_63 : BitVec 32 := 0#32
  let v132 : BitVec 1 := Scalar.cmpi .sgt c2_i32_60 c0_i32_63
  let v133 : BitVec 32 := Scalar.extui v132
  let c0_i32_64 : BitVec 32 := 0#32
  let v134 : BitVec 1 := Scalar.cmpi .slt c2_i32_60 c0_i32_64
  let v135 : BitVec 32 := Scalar.extui v134
  let v136 : BitVec 32 := Scalar.subi v133 v135
  let v137 : BitVec 1 := Scalar.cmpi .ne v131 v136
  let v138 : BitVec 32 := Scalar.remsi v98 c2_i32_60
  let c0_i32_65 : BitVec 32 := 0#32
  let v139 : BitVec 1 := Scalar.cmpi .ne v138 c0_i32_65
  let v140 : BitVec 1 := Scalar.andi v137 v139
  let v126 : BitVec 32 := Scalar.divsi v98 c2_i32_60
  let c1_i32_66 : BitVec 32 := 1#32
  let v141 : BitVec 32 := Scalar.subi v126 c1_i32_66
  let v142 : BitVec 32 := Scalar.select v140 v141 v126
  let c8_i32_542 : BitVec 32 := 8#32
  let v948 : BitVec 32 := Scalar.muli v142 c8_i32_542
  let v949 : BitVec 32 := Scalar.addi c0_i32_543 v948
  let c2_i32_67 : BitVec 32 := 2#32
  let c0_i32_68 : BitVec 32 := 0#32
  let v143 : BitVec 1 := Scalar.cmpi .eq c2_i32_67 c0_i32_68
  let c1_i32_69 : BitVec 32 := 1#32
  let v144 : BitVec 32 := Scalar.select v143 c1_i32_69 c2_i32_67
  let v145 : BitVec 32 := Scalar.remsi v98 v144
  let c0_i32_71 : BitVec 32 := 0#32
  let v147 : BitVec 1 := Scalar.cmpi .slt v145 c0_i32_71
  let c0_i32_72 : BitVec 32 := 0#32
  let v148 : BitVec 1 := Scalar.cmpi .slt v144 c0_i32_72
  let v149 : BitVec 1 := Scalar.xori v147 v148
  let c0_i32_70 : BitVec 32 := 0#32
  let v146 : BitVec 1 := Scalar.cmpi .ne v145 c0_i32_70
  let v150 : BitVec 1 := Scalar.andi v149 v146
  let v151 : BitVec 32 := Scalar.addi v145 v144
  let v152 : BitVec 32 := Scalar.select v150 v151 v145
  let c4_i32_544 : BitVec 32 := 4#32
  let v950 : BitVec 32 := Scalar.muli v152 c4_i32_544
  let v951 : BitVec 32 := Scalar.addi v949 v950
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_545 : BitVec 32 := 1#32
  let v952 : BitVec 32 := Scalar.muli v8 c1_i32_545
  let v953 : BitVec 32 := Scalar.addi v951 v952
  v953.toNat
def k0_dev58 (d0 : Dev nD) : Nat :=
  let c0_i32_574 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c3_i32 : BitVec 32 := 3#32
  let v52 : BitVec 32 := Scalar.addi v40 c3_i32
  let c4_i32_27 : BitVec 32 := 4#32
  let c0_i32_28 : BitVec 32 := 0#32
  let v53 : BitVec 1 := Scalar.cmpi .eq c4_i32_27 c0_i32_28
  let c1_i32_29 : BitVec 32 := 1#32
  let v54 : BitVec 32 := Scalar.select v53 c1_i32_29 c4_i32_27
  let v55 : BitVec 32 := Scalar.remsi v52 v54
  let c0_i32_31 : BitVec 32 := 0#32
  let v57 : BitVec 1 := Scalar.cmpi .slt v55 c0_i32_31
  let c0_i32_32 : BitVec 32 := 0#32
  let v58 : BitVec 1 := Scalar.cmpi .slt v54 c0_i32_32
  let v59 : BitVec 1 := Scalar.xori v57 v58
  let c0_i32_30 : BitVec 32 := 0#32
  let v56 : BitVec 1 := Scalar.cmpi .ne v55 c0_i32_30
  let v60 : BitVec 1 := Scalar.andi v59 v56
  let v61 : BitVec 32 := Scalar.addi v55 v54
  let v62 : BitVec 32 := Scalar.select v60 v61 v55
  let c0_i32_41 : BitVec 32 := 0#32
  let v82 : BitVec 1 := Scalar.cmpi .sgt v62 c0_i32_41
  let v83 : BitVec 32 := Scalar.extui v82
  let c0_i32_42 : BitVec 32 := 0#32
  let v84 : BitVec 1 := Scalar.cmpi .slt v62 c0_i32_42
  let v85 : BitVec 32 := Scalar.extui v84
  let v86 : BitVec 32 := Scalar.subi v83 v85
  let c2_i32_40 : BitVec 32 := 2#32
  let c0_i32_43 : BitVec 32 := 0#32
  let v87 : BitVec 1 := Scalar.cmpi .sgt c2_i32_40 c0_i32_43
  let v88 : BitVec 32 := Scalar.extui v87
  let c0_i32_44 : BitVec 32 := 0#32
  let v89 : BitVec 1 := Scalar.cmpi .slt c2_i32_40 c0_i32_44
  let v90 : BitVec 32 := Scalar.extui v89
  let v91 : BitVec 32 := Scalar.subi v88 v90
  let v92 : BitVec 1 := Scalar.cmpi .ne v86 v91
  let v93 : BitVec 32 := Scalar.remsi v62 c2_i32_40
  let c0_i32_45 : BitVec 32 := 0#32
  let v94 : BitVec 1 := Scalar.cmpi .ne v93 c0_i32_45
  let v95 : BitVec 1 := Scalar.andi v92 v94
  let v81 : BitVec 32 := Scalar.divsi v62 c2_i32_40
  let c1_i32_46 : BitVec 32 := 1#32
  let v96 : BitVec 32 := Scalar.subi v81 c1_i32_46
  let v97 : BitVec 32 := Scalar.select v95 v96 v81
  let v98 : BitVec 32 := Scalar.xori v62 v97
  let c0_i32_61 : BitVec 32 := 0#32
  let v127 : BitVec 1 := Scalar.cmpi .sgt v98 c0_i32_61
  let v128 : BitVec 32 := Scalar.extui v127
  let c0_i32_62 : BitVec 32 := 0#32
  let v129 : BitVec 1 := Scalar.cmpi .slt v98 c0_i32_62
  let v130 : BitVec 32 := Scalar.extui v129
  let v131 : BitVec 32 := Scalar.subi v128 v130
  let c2_i32_60 : BitVec 32 := 2#32
  let c0_i32_63 : BitVec 32 := 0#32
  let v132 : BitVec 1 := Scalar.cmpi .sgt c2_i32_60 c0_i32_63
  let v133 : BitVec 32 := Scalar.extui v132
  let c0_i32_64 : BitVec 32 := 0#32
  let v134 : BitVec 1 := Scalar.cmpi .slt c2_i32_60 c0_i32_64
  let v135 : BitVec 32 := Scalar.extui v134
  let v136 : BitVec 32 := Scalar.subi v133 v135
  let v137 : BitVec 1 := Scalar.cmpi .ne v131 v136
  let v138 : BitVec 32 := Scalar.remsi v98 c2_i32_60
  let c0_i32_65 : BitVec 32 := 0#32
  let v139 : BitVec 1 := Scalar.cmpi .ne v138 c0_i32_65
  let v140 : BitVec 1 := Scalar.andi v137 v139
  let v126 : BitVec 32 := Scalar.divsi v98 c2_i32_60
  let c1_i32_66 : BitVec 32 := 1#32
  let v141 : BitVec 32 := Scalar.subi v126 c1_i32_66
  let v142 : BitVec 32 := Scalar.select v140 v141 v126
  let c8_i32_573 : BitVec 32 := 8#32
  let v1001 : BitVec 32 := Scalar.muli v142 c8_i32_573
  let v1002 : BitVec 32 := Scalar.addi c0_i32_574 v1001
  let c2_i32_67 : BitVec 32 := 2#32
  let c0_i32_68 : BitVec 32 := 0#32
  let v143 : BitVec 1 := Scalar.cmpi .eq c2_i32_67 c0_i32_68
  let c1_i32_69 : BitVec 32 := 1#32
  let v144 : BitVec 32 := Scalar.select v143 c1_i32_69 c2_i32_67
  let v145 : BitVec 32 := Scalar.remsi v98 v144
  let c0_i32_71 : BitVec 32 := 0#32
  let v147 : BitVec 1 := Scalar.cmpi .slt v145 c0_i32_71
  let c0_i32_72 : BitVec 32 := 0#32
  let v148 : BitVec 1 := Scalar.cmpi .slt v144 c0_i32_72
  let v149 : BitVec 1 := Scalar.xori v147 v148
  let c0_i32_70 : BitVec 32 := 0#32
  let v146 : BitVec 1 := Scalar.cmpi .ne v145 c0_i32_70
  let v150 : BitVec 1 := Scalar.andi v149 v146
  let v151 : BitVec 32 := Scalar.addi v145 v144
  let v152 : BitVec 32 := Scalar.select v150 v151 v145
  let c4_i32_575 : BitVec 32 := 4#32
  let v1003 : BitVec 32 := Scalar.muli v152 c4_i32_575
  let v1004 : BitVec 32 := Scalar.addi v1002 v1003
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_576 : BitVec 32 := 1#32
  let v1005 : BitVec 32 := Scalar.muli v8 c1_i32_576
  let v1006 : BitVec 32 := Scalar.addi v1004 v1005
  v1006.toNat
def k0_dev59 (d0 : Dev nD) : Nat :=
  let c0_i32_606 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c1_i32_20 : BitVec 32 := 1#32
  let v41 : BitVec 32 := Scalar.addi v40 c1_i32_20
  let c4_i32_21 : BitVec 32 := 4#32
  let c0_i32_22 : BitVec 32 := 0#32
  let v42 : BitVec 1 := Scalar.cmpi .eq c4_i32_21 c0_i32_22
  let c1_i32_23 : BitVec 32 := 1#32
  let v43 : BitVec 32 := Scalar.select v42 c1_i32_23 c4_i32_21
  let v44 : BitVec 32 := Scalar.remsi v41 v43
  let c0_i32_25 : BitVec 32 := 0#32
  let v46 : BitVec 1 := Scalar.cmpi .slt v44 c0_i32_25
  let c0_i32_26 : BitVec 32 := 0#32
  let v47 : BitVec 1 := Scalar.cmpi .slt v43 c0_i32_26
  let v48 : BitVec 1 := Scalar.xori v46 v47
  let c0_i32_24 : BitVec 32 := 0#32
  let v45 : BitVec 1 := Scalar.cmpi .ne v44 c0_i32_24
  let v49 : BitVec 1 := Scalar.andi v48 v45
  let v50 : BitVec 32 := Scalar.addi v44 v43
  let v51 : BitVec 32 := Scalar.select v49 v50 v44
  let c0_i32_34 : BitVec 32 := 0#32
  let v64 : BitVec 1 := Scalar.cmpi .sgt v51 c0_i32_34
  let v65 : BitVec 32 := Scalar.extui v64
  let c0_i32_35 : BitVec 32 := 0#32
  let v66 : BitVec 1 := Scalar.cmpi .slt v51 c0_i32_35
  let v67 : BitVec 32 := Scalar.extui v66
  let v68 : BitVec 32 := Scalar.subi v65 v67
  let c2_i32_33 : BitVec 32 := 2#32
  let c0_i32_36 : BitVec 32 := 0#32
  let v69 : BitVec 1 := Scalar.cmpi .sgt c2_i32_33 c0_i32_36
  let v70 : BitVec 32 := Scalar.extui v69
  let c0_i32_37 : BitVec 32 := 0#32
  let v71 : BitVec 1 := Scalar.cmpi .slt c2_i32_33 c0_i32_37
  let v72 : BitVec 32 := Scalar.extui v71
  let v73 : BitVec 32 := Scalar.subi v70 v72
  let v74 : BitVec 1 := Scalar.cmpi .ne v68 v73
  let v75 : BitVec 32 := Scalar.remsi v51 c2_i32_33
  let c0_i32_38 : BitVec 32 := 0#32
  let v76 : BitVec 1 := Scalar.cmpi .ne v75 c0_i32_38
  let v77 : BitVec 1 := Scalar.andi v74 v76
  let v63 : BitVec 32 := Scalar.divsi v51 c2_i32_33
  let c1_i32_39 : BitVec 32 := 1#32
  let v78 : BitVec 32 := Scalar.subi v63 c1_i32_39
  let v79 : BitVec 32 := Scalar.select v77 v78 v63
  let v80 : BitVec 32 := Scalar.xori v51 v79
  let c0_i32_48 : BitVec 32 := 0#32
  let v100 : BitVec 1 := Scalar.cmpi .sgt v80 c0_i32_48
  let v101 : BitVec 32 := Scalar.extui v100
  let c0_i32_49 : BitVec 32 := 0#32
  let v102 : BitVec 1 := Scalar.cmpi .slt v80 c0_i32_49
  let v103 : BitVec 32 := Scalar.extui v102
  let v104 : BitVec 32 := Scalar.subi v101 v103
  let c2_i32_47 : BitVec 32 := 2#32
  let c0_i32_50 : BitVec 32 := 0#32
  let v105 : BitVec 1 := Scalar.cmpi .sgt c2_i32_47 c0_i32_50
  let v106 : BitVec 32 := Scalar.extui v105
  let c0_i32_51 : BitVec 32 := 0#32
  let v107 : BitVec 1 := Scalar.cmpi .slt c2_i32_47 c0_i32_51
  let v108 : BitVec 32 := Scalar.extui v107
  let v109 : BitVec 32 := Scalar.subi v106 v108
  let v110 : BitVec 1 := Scalar.cmpi .ne v104 v109
  let v111 : BitVec 32 := Scalar.remsi v80 c2_i32_47
  let c0_i32_52 : BitVec 32 := 0#32
  let v112 : BitVec 1 := Scalar.cmpi .ne v111 c0_i32_52
  let v113 : BitVec 1 := Scalar.andi v110 v112
  let v99 : BitVec 32 := Scalar.divsi v80 c2_i32_47
  let c1_i32_53 : BitVec 32 := 1#32
  let v114 : BitVec 32 := Scalar.subi v99 c1_i32_53
  let v115 : BitVec 32 := Scalar.select v113 v114 v99
  let c8_i32_605 : BitVec 32 := 8#32
  let v1055 : BitVec 32 := Scalar.muli v115 c8_i32_605
  let v1056 : BitVec 32 := Scalar.addi c0_i32_606 v1055
  let c2_i32_54 : BitVec 32 := 2#32
  let c0_i32_55 : BitVec 32 := 0#32
  let v116 : BitVec 1 := Scalar.cmpi .eq c2_i32_54 c0_i32_55
  let c1_i32_56 : BitVec 32 := 1#32
  let v117 : BitVec 32 := Scalar.select v116 c1_i32_56 c2_i32_54
  let v118 : BitVec 32 := Scalar.remsi v80 v117
  let c0_i32_58 : BitVec 32 := 0#32
  let v120 : BitVec 1 := Scalar.cmpi .slt v118 c0_i32_58
  let c0_i32_59 : BitVec 32 := 0#32
  let v121 : BitVec 1 := Scalar.cmpi .slt v117 c0_i32_59
  let v122 : BitVec 1 := Scalar.xori v120 v121
  let c0_i32_57 : BitVec 32 := 0#32
  let v119 : BitVec 1 := Scalar.cmpi .ne v118 c0_i32_57
  let v123 : BitVec 1 := Scalar.andi v122 v119
  let v124 : BitVec 32 := Scalar.addi v118 v117
  let v125 : BitVec 32 := Scalar.select v123 v124 v118
  let c4_i32_607 : BitVec 32 := 4#32
  let v1057 : BitVec 32 := Scalar.muli v125 c4_i32_607
  let v1058 : BitVec 32 := Scalar.addi v1056 v1057
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_608 : BitVec 32 := 1#32
  let v1059 : BitVec 32 := Scalar.muli v8 c1_i32_608
  let v1060 : BitVec 32 := Scalar.addi v1058 v1059
  v1060.toNat
def k0_dev60 (d0 : Dev nD) : Nat :=
  let c0_i32_637 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c3_i32 : BitVec 32 := 3#32
  let v52 : BitVec 32 := Scalar.addi v40 c3_i32
  let c4_i32_27 : BitVec 32 := 4#32
  let c0_i32_28 : BitVec 32 := 0#32
  let v53 : BitVec 1 := Scalar.cmpi .eq c4_i32_27 c0_i32_28
  let c1_i32_29 : BitVec 32 := 1#32
  let v54 : BitVec 32 := Scalar.select v53 c1_i32_29 c4_i32_27
  let v55 : BitVec 32 := Scalar.remsi v52 v54
  let c0_i32_31 : BitVec 32 := 0#32
  let v57 : BitVec 1 := Scalar.cmpi .slt v55 c0_i32_31
  let c0_i32_32 : BitVec 32 := 0#32
  let v58 : BitVec 1 := Scalar.cmpi .slt v54 c0_i32_32
  let v59 : BitVec 1 := Scalar.xori v57 v58
  let c0_i32_30 : BitVec 32 := 0#32
  let v56 : BitVec 1 := Scalar.cmpi .ne v55 c0_i32_30
  let v60 : BitVec 1 := Scalar.andi v59 v56
  let v61 : BitVec 32 := Scalar.addi v55 v54
  let v62 : BitVec 32 := Scalar.select v60 v61 v55
  let c0_i32_41 : BitVec 32 := 0#32
  let v82 : BitVec 1 := Scalar.cmpi .sgt v62 c0_i32_41
  let v83 : BitVec 32 := Scalar.extui v82
  let c0_i32_42 : BitVec 32 := 0#32
  let v84 : BitVec 1 := Scalar.cmpi .slt v62 c0_i32_42
  let v85 : BitVec 32 := Scalar.extui v84
  let v86 : BitVec 32 := Scalar.subi v83 v85
  let c2_i32_40 : BitVec 32 := 2#32
  let c0_i32_43 : BitVec 32 := 0#32
  let v87 : BitVec 1 := Scalar.cmpi .sgt c2_i32_40 c0_i32_43
  let v88 : BitVec 32 := Scalar.extui v87
  let c0_i32_44 : BitVec 32 := 0#32
  let v89 : BitVec 1 := Scalar.cmpi .slt c2_i32_40 c0_i32_44
  let v90 : BitVec 32 := Scalar.extui v89
  let v91 : BitVec 32 := Scalar.subi v88 v90
  let v92 : BitVec 1 := Scalar.cmpi .ne v86 v91
  let v93 : BitVec 32 := Scalar.remsi v62 c2_i32_40
  let c0_i32_45 : BitVec 32 := 0#32
  let v94 : BitVec 1 := Scalar.cmpi .ne v93 c0_i32_45
  let v95 : BitVec 1 := Scalar.andi v92 v94
  let v81 : BitVec 32 := Scalar.divsi v62 c2_i32_40
  let c1_i32_46 : BitVec 32 := 1#32
  let v96 : BitVec 32 := Scalar.subi v81 c1_i32_46
  let v97 : BitVec 32 := Scalar.select v95 v96 v81
  let v98 : BitVec 32 := Scalar.xori v62 v97
  let c0_i32_61 : BitVec 32 := 0#32
  let v127 : BitVec 1 := Scalar.cmpi .sgt v98 c0_i32_61
  let v128 : BitVec 32 := Scalar.extui v127
  let c0_i32_62 : BitVec 32 := 0#32
  let v129 : BitVec 1 := Scalar.cmpi .slt v98 c0_i32_62
  let v130 : BitVec 32 := Scalar.extui v129
  let v131 : BitVec 32 := Scalar.subi v128 v130
  let c2_i32_60 : BitVec 32 := 2#32
  let c0_i32_63 : BitVec 32 := 0#32
  let v132 : BitVec 1 := Scalar.cmpi .sgt c2_i32_60 c0_i32_63
  let v133 : BitVec 32 := Scalar.extui v132
  let c0_i32_64 : BitVec 32 := 0#32
  let v134 : BitVec 1 := Scalar.cmpi .slt c2_i32_60 c0_i32_64
  let v135 : BitVec 32 := Scalar.extui v134
  let v136 : BitVec 32 := Scalar.subi v133 v135
  let v137 : BitVec 1 := Scalar.cmpi .ne v131 v136
  let v138 : BitVec 32 := Scalar.remsi v98 c2_i32_60
  let c0_i32_65 : BitVec 32 := 0#32
  let v139 : BitVec 1 := Scalar.cmpi .ne v138 c0_i32_65
  let v140 : BitVec 1 := Scalar.andi v137 v139
  let v126 : BitVec 32 := Scalar.divsi v98 c2_i32_60
  let c1_i32_66 : BitVec 32 := 1#32
  let v141 : BitVec 32 := Scalar.subi v126 c1_i32_66
  let v142 : BitVec 32 := Scalar.select v140 v141 v126
  let c8_i32_636 : BitVec 32 := 8#32
  let v1108 : BitVec 32 := Scalar.muli v142 c8_i32_636
  let v1109 : BitVec 32 := Scalar.addi c0_i32_637 v1108
  let c2_i32_67 : BitVec 32 := 2#32
  let c0_i32_68 : BitVec 32 := 0#32
  let v143 : BitVec 1 := Scalar.cmpi .eq c2_i32_67 c0_i32_68
  let c1_i32_69 : BitVec 32 := 1#32
  let v144 : BitVec 32 := Scalar.select v143 c1_i32_69 c2_i32_67
  let v145 : BitVec 32 := Scalar.remsi v98 v144
  let c0_i32_71 : BitVec 32 := 0#32
  let v147 : BitVec 1 := Scalar.cmpi .slt v145 c0_i32_71
  let c0_i32_72 : BitVec 32 := 0#32
  let v148 : BitVec 1 := Scalar.cmpi .slt v144 c0_i32_72
  let v149 : BitVec 1 := Scalar.xori v147 v148
  let c0_i32_70 : BitVec 32 := 0#32
  let v146 : BitVec 1 := Scalar.cmpi .ne v145 c0_i32_70
  let v150 : BitVec 1 := Scalar.andi v149 v146
  let v151 : BitVec 32 := Scalar.addi v145 v144
  let v152 : BitVec 32 := Scalar.select v150 v151 v145
  let c4_i32_638 : BitVec 32 := 4#32
  let v1110 : BitVec 32 := Scalar.muli v152 c4_i32_638
  let v1111 : BitVec 32 := Scalar.addi v1109 v1110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_639 : BitVec 32 := 1#32
  let v1112 : BitVec 32 := Scalar.muli v8 c1_i32_639
  let v1113 : BitVec 32 := Scalar.addi v1111 v1112
  v1113.toNat
def k0_dev61 (d0 : Dev nD) : Nat :=
  let c0_i32_670 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c1_i32_20 : BitVec 32 := 1#32
  let v41 : BitVec 32 := Scalar.addi v40 c1_i32_20
  let c4_i32_21 : BitVec 32 := 4#32
  let c0_i32_22 : BitVec 32 := 0#32
  let v42 : BitVec 1 := Scalar.cmpi .eq c4_i32_21 c0_i32_22
  let c1_i32_23 : BitVec 32 := 1#32
  let v43 : BitVec 32 := Scalar.select v42 c1_i32_23 c4_i32_21
  let v44 : BitVec 32 := Scalar.remsi v41 v43
  let c0_i32_25 : BitVec 32 := 0#32
  let v46 : BitVec 1 := Scalar.cmpi .slt v44 c0_i32_25
  let c0_i32_26 : BitVec 32 := 0#32
  let v47 : BitVec 1 := Scalar.cmpi .slt v43 c0_i32_26
  let v48 : BitVec 1 := Scalar.xori v46 v47
  let c0_i32_24 : BitVec 32 := 0#32
  let v45 : BitVec 1 := Scalar.cmpi .ne v44 c0_i32_24
  let v49 : BitVec 1 := Scalar.andi v48 v45
  let v50 : BitVec 32 := Scalar.addi v44 v43
  let v51 : BitVec 32 := Scalar.select v49 v50 v44
  let c0_i32_34 : BitVec 32 := 0#32
  let v64 : BitVec 1 := Scalar.cmpi .sgt v51 c0_i32_34
  let v65 : BitVec 32 := Scalar.extui v64
  let c0_i32_35 : BitVec 32 := 0#32
  let v66 : BitVec 1 := Scalar.cmpi .slt v51 c0_i32_35
  let v67 : BitVec 32 := Scalar.extui v66
  let v68 : BitVec 32 := Scalar.subi v65 v67
  let c2_i32_33 : BitVec 32 := 2#32
  let c0_i32_36 : BitVec 32 := 0#32
  let v69 : BitVec 1 := Scalar.cmpi .sgt c2_i32_33 c0_i32_36
  let v70 : BitVec 32 := Scalar.extui v69
  let c0_i32_37 : BitVec 32 := 0#32
  let v71 : BitVec 1 := Scalar.cmpi .slt c2_i32_33 c0_i32_37
  let v72 : BitVec 32 := Scalar.extui v71
  let v73 : BitVec 32 := Scalar.subi v70 v72
  let v74 : BitVec 1 := Scalar.cmpi .ne v68 v73
  let v75 : BitVec 32 := Scalar.remsi v51 c2_i32_33
  let c0_i32_38 : BitVec 32 := 0#32
  let v76 : BitVec 1 := Scalar.cmpi .ne v75 c0_i32_38
  let v77 : BitVec 1 := Scalar.andi v74 v76
  let v63 : BitVec 32 := Scalar.divsi v51 c2_i32_33
  let c1_i32_39 : BitVec 32 := 1#32
  let v78 : BitVec 32 := Scalar.subi v63 c1_i32_39
  let v79 : BitVec 32 := Scalar.select v77 v78 v63
  let v80 : BitVec 32 := Scalar.xori v51 v79
  let c0_i32_48 : BitVec 32 := 0#32
  let v100 : BitVec 1 := Scalar.cmpi .sgt v80 c0_i32_48
  let v101 : BitVec 32 := Scalar.extui v100
  let c0_i32_49 : BitVec 32 := 0#32
  let v102 : BitVec 1 := Scalar.cmpi .slt v80 c0_i32_49
  let v103 : BitVec 32 := Scalar.extui v102
  let v104 : BitVec 32 := Scalar.subi v101 v103
  let c2_i32_47 : BitVec 32 := 2#32
  let c0_i32_50 : BitVec 32 := 0#32
  let v105 : BitVec 1 := Scalar.cmpi .sgt c2_i32_47 c0_i32_50
  let v106 : BitVec 32 := Scalar.extui v105
  let c0_i32_51 : BitVec 32 := 0#32
  let v107 : BitVec 1 := Scalar.cmpi .slt c2_i32_47 c0_i32_51
  let v108 : BitVec 32 := Scalar.extui v107
  let v109 : BitVec 32 := Scalar.subi v106 v108
  let v110 : BitVec 1 := Scalar.cmpi .ne v104 v109
  let v111 : BitVec 32 := Scalar.remsi v80 c2_i32_47
  let c0_i32_52 : BitVec 32 := 0#32
  let v112 : BitVec 1 := Scalar.cmpi .ne v111 c0_i32_52
  let v113 : BitVec 1 := Scalar.andi v110 v112
  let v99 : BitVec 32 := Scalar.divsi v80 c2_i32_47
  let c1_i32_53 : BitVec 32 := 1#32
  let v114 : BitVec 32 := Scalar.subi v99 c1_i32_53
  let v115 : BitVec 32 := Scalar.select v113 v114 v99
  let c8_i32_669 : BitVec 32 := 8#32
  let v1162 : BitVec 32 := Scalar.muli v115 c8_i32_669
  let v1163 : BitVec 32 := Scalar.addi c0_i32_670 v1162
  let c2_i32_54 : BitVec 32 := 2#32
  let c0_i32_55 : BitVec 32 := 0#32
  let v116 : BitVec 1 := Scalar.cmpi .eq c2_i32_54 c0_i32_55
  let c1_i32_56 : BitVec 32 := 1#32
  let v117 : BitVec 32 := Scalar.select v116 c1_i32_56 c2_i32_54
  let v118 : BitVec 32 := Scalar.remsi v80 v117
  let c0_i32_58 : BitVec 32 := 0#32
  let v120 : BitVec 1 := Scalar.cmpi .slt v118 c0_i32_58
  let c0_i32_59 : BitVec 32 := 0#32
  let v121 : BitVec 1 := Scalar.cmpi .slt v117 c0_i32_59
  let v122 : BitVec 1 := Scalar.xori v120 v121
  let c0_i32_57 : BitVec 32 := 0#32
  let v119 : BitVec 1 := Scalar.cmpi .ne v118 c0_i32_57
  let v123 : BitVec 1 := Scalar.andi v122 v119
  let v124 : BitVec 32 := Scalar.addi v118 v117
  let v125 : BitVec 32 := Scalar.select v123 v124 v118
  let c4_i32_671 : BitVec 32 := 4#32
  let v1164 : BitVec 32 := Scalar.muli v125 c4_i32_671
  let v1165 : BitVec 32 := Scalar.addi v1163 v1164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_672 : BitVec 32 := 1#32
  let v1166 : BitVec 32 := Scalar.muli v8 c1_i32_672
  let v1167 : BitVec 32 := Scalar.addi v1165 v1166
  v1167.toNat
def k0_dev62 (d0 : Dev nD) : Nat :=
  let c0_i32_701 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c3_i32 : BitVec 32 := 3#32
  let v52 : BitVec 32 := Scalar.addi v40 c3_i32
  let c4_i32_27 : BitVec 32 := 4#32
  let c0_i32_28 : BitVec 32 := 0#32
  let v53 : BitVec 1 := Scalar.cmpi .eq c4_i32_27 c0_i32_28
  let c1_i32_29 : BitVec 32 := 1#32
  let v54 : BitVec 32 := Scalar.select v53 c1_i32_29 c4_i32_27
  let v55 : BitVec 32 := Scalar.remsi v52 v54
  let c0_i32_31 : BitVec 32 := 0#32
  let v57 : BitVec 1 := Scalar.cmpi .slt v55 c0_i32_31
  let c0_i32_32 : BitVec 32 := 0#32
  let v58 : BitVec 1 := Scalar.cmpi .slt v54 c0_i32_32
  let v59 : BitVec 1 := Scalar.xori v57 v58
  let c0_i32_30 : BitVec 32 := 0#32
  let v56 : BitVec 1 := Scalar.cmpi .ne v55 c0_i32_30
  let v60 : BitVec 1 := Scalar.andi v59 v56
  let v61 : BitVec 32 := Scalar.addi v55 v54
  let v62 : BitVec 32 := Scalar.select v60 v61 v55
  let c0_i32_41 : BitVec 32 := 0#32
  let v82 : BitVec 1 := Scalar.cmpi .sgt v62 c0_i32_41
  let v83 : BitVec 32 := Scalar.extui v82
  let c0_i32_42 : BitVec 32 := 0#32
  let v84 : BitVec 1 := Scalar.cmpi .slt v62 c0_i32_42
  let v85 : BitVec 32 := Scalar.extui v84
  let v86 : BitVec 32 := Scalar.subi v83 v85
  let c2_i32_40 : BitVec 32 := 2#32
  let c0_i32_43 : BitVec 32 := 0#32
  let v87 : BitVec 1 := Scalar.cmpi .sgt c2_i32_40 c0_i32_43
  let v88 : BitVec 32 := Scalar.extui v87
  let c0_i32_44 : BitVec 32 := 0#32
  let v89 : BitVec 1 := Scalar.cmpi .slt c2_i32_40 c0_i32_44
  let v90 : BitVec 32 := Scalar.extui v89
  let v91 : BitVec 32 := Scalar.subi v88 v90
  let v92 : BitVec 1 := Scalar.cmpi .ne v86 v91
  let v93 : BitVec 32 := Scalar.remsi v62 c2_i32_40
  let c0_i32_45 : BitVec 32 := 0#32
  let v94 : BitVec 1 := Scalar.cmpi .ne v93 c0_i32_45
  let v95 : BitVec 1 := Scalar.andi v92 v94
  let v81 : BitVec 32 := Scalar.divsi v62 c2_i32_40
  let c1_i32_46 : BitVec 32 := 1#32
  let v96 : BitVec 32 := Scalar.subi v81 c1_i32_46
  let v97 : BitVec 32 := Scalar.select v95 v96 v81
  let v98 : BitVec 32 := Scalar.xori v62 v97
  let c0_i32_61 : BitVec 32 := 0#32
  let v127 : BitVec 1 := Scalar.cmpi .sgt v98 c0_i32_61
  let v128 : BitVec 32 := Scalar.extui v127
  let c0_i32_62 : BitVec 32 := 0#32
  let v129 : BitVec 1 := Scalar.cmpi .slt v98 c0_i32_62
  let v130 : BitVec 32 := Scalar.extui v129
  let v131 : BitVec 32 := Scalar.subi v128 v130
  let c2_i32_60 : BitVec 32 := 2#32
  let c0_i32_63 : BitVec 32 := 0#32
  let v132 : BitVec 1 := Scalar.cmpi .sgt c2_i32_60 c0_i32_63
  let v133 : BitVec 32 := Scalar.extui v132
  let c0_i32_64 : BitVec 32 := 0#32
  let v134 : BitVec 1 := Scalar.cmpi .slt c2_i32_60 c0_i32_64
  let v135 : BitVec 32 := Scalar.extui v134
  let v136 : BitVec 32 := Scalar.subi v133 v135
  let v137 : BitVec 1 := Scalar.cmpi .ne v131 v136
  let v138 : BitVec 32 := Scalar.remsi v98 c2_i32_60
  let c0_i32_65 : BitVec 32 := 0#32
  let v139 : BitVec 1 := Scalar.cmpi .ne v138 c0_i32_65
  let v140 : BitVec 1 := Scalar.andi v137 v139
  let v126 : BitVec 32 := Scalar.divsi v98 c2_i32_60
  let c1_i32_66 : BitVec 32 := 1#32
  let v141 : BitVec 32 := Scalar.subi v126 c1_i32_66
  let v142 : BitVec 32 := Scalar.select v140 v141 v126
  let c8_i32_700 : BitVec 32 := 8#32
  let v1215 : BitVec 32 := Scalar.muli v142 c8_i32_700
  let v1216 : BitVec 32 := Scalar.addi c0_i32_701 v1215
  let c2_i32_67 : BitVec 32 := 2#32
  let c0_i32_68 : BitVec 32 := 0#32
  let v143 : BitVec 1 := Scalar.cmpi .eq c2_i32_67 c0_i32_68
  let c1_i32_69 : BitVec 32 := 1#32
  let v144 : BitVec 32 := Scalar.select v143 c1_i32_69 c2_i32_67
  let v145 : BitVec 32 := Scalar.remsi v98 v144
  let c0_i32_71 : BitVec 32 := 0#32
  let v147 : BitVec 1 := Scalar.cmpi .slt v145 c0_i32_71
  let c0_i32_72 : BitVec 32 := 0#32
  let v148 : BitVec 1 := Scalar.cmpi .slt v144 c0_i32_72
  let v149 : BitVec 1 := Scalar.xori v147 v148
  let c0_i32_70 : BitVec 32 := 0#32
  let v146 : BitVec 1 := Scalar.cmpi .ne v145 c0_i32_70
  let v150 : BitVec 1 := Scalar.andi v149 v146
  let v151 : BitVec 32 := Scalar.addi v145 v144
  let v152 : BitVec 32 := Scalar.select v150 v151 v145
  let c4_i32_702 : BitVec 32 := 4#32
  let v1217 : BitVec 32 := Scalar.muli v152 c4_i32_702
  let v1218 : BitVec 32 := Scalar.addi v1216 v1217
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_703 : BitVec 32 := 1#32
  let v1219 : BitVec 32 := Scalar.muli v8 c1_i32_703
  let v1220 : BitVec 32 := Scalar.addi v1218 v1219
  v1220.toNat
def k0_dev63 (d0 : Dev nD) : Nat :=
  let c0_i32_733 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c1_i32_20 : BitVec 32 := 1#32
  let v41 : BitVec 32 := Scalar.addi v40 c1_i32_20
  let c4_i32_21 : BitVec 32 := 4#32
  let c0_i32_22 : BitVec 32 := 0#32
  let v42 : BitVec 1 := Scalar.cmpi .eq c4_i32_21 c0_i32_22
  let c1_i32_23 : BitVec 32 := 1#32
  let v43 : BitVec 32 := Scalar.select v42 c1_i32_23 c4_i32_21
  let v44 : BitVec 32 := Scalar.remsi v41 v43
  let c0_i32_25 : BitVec 32 := 0#32
  let v46 : BitVec 1 := Scalar.cmpi .slt v44 c0_i32_25
  let c0_i32_26 : BitVec 32 := 0#32
  let v47 : BitVec 1 := Scalar.cmpi .slt v43 c0_i32_26
  let v48 : BitVec 1 := Scalar.xori v46 v47
  let c0_i32_24 : BitVec 32 := 0#32
  let v45 : BitVec 1 := Scalar.cmpi .ne v44 c0_i32_24
  let v49 : BitVec 1 := Scalar.andi v48 v45
  let v50 : BitVec 32 := Scalar.addi v44 v43
  let v51 : BitVec 32 := Scalar.select v49 v50 v44
  let c0_i32_34 : BitVec 32 := 0#32
  let v64 : BitVec 1 := Scalar.cmpi .sgt v51 c0_i32_34
  let v65 : BitVec 32 := Scalar.extui v64
  let c0_i32_35 : BitVec 32 := 0#32
  let v66 : BitVec 1 := Scalar.cmpi .slt v51 c0_i32_35
  let v67 : BitVec 32 := Scalar.extui v66
  let v68 : BitVec 32 := Scalar.subi v65 v67
  let c2_i32_33 : BitVec 32 := 2#32
  let c0_i32_36 : BitVec 32 := 0#32
  let v69 : BitVec 1 := Scalar.cmpi .sgt c2_i32_33 c0_i32_36
  let v70 : BitVec 32 := Scalar.extui v69
  let c0_i32_37 : BitVec 32 := 0#32
  let v71 : BitVec 1 := Scalar.cmpi .slt c2_i32_33 c0_i32_37
  let v72 : BitVec 32 := Scalar.extui v71
  let v73 : BitVec 32 := Scalar.subi v70 v72
  let v74 : BitVec 1 := Scalar.cmpi .ne v68 v73
  let v75 : BitVec 32 := Scalar.remsi v51 c2_i32_33
  let c0_i32_38 : BitVec 32 := 0#32
  let v76 : BitVec 1 := Scalar.cmpi .ne v75 c0_i32_38
  let v77 : BitVec 1 := Scalar.andi v74 v76
  let v63 : BitVec 32 := Scalar.divsi v51 c2_i32_33
  let c1_i32_39 : BitVec 32 := 1#32
  let v78 : BitVec 32 := Scalar.subi v63 c1_i32_39
  let v79 : BitVec 32 := Scalar.select v77 v78 v63
  let v80 : BitVec 32 := Scalar.xori v51 v79
  let c0_i32_48 : BitVec 32 := 0#32
  let v100 : BitVec 1 := Scalar.cmpi .sgt v80 c0_i32_48
  let v101 : BitVec 32 := Scalar.extui v100
  let c0_i32_49 : BitVec 32 := 0#32
  let v102 : BitVec 1 := Scalar.cmpi .slt v80 c0_i32_49
  let v103 : BitVec 32 := Scalar.extui v102
  let v104 : BitVec 32 := Scalar.subi v101 v103
  let c2_i32_47 : BitVec 32 := 2#32
  let c0_i32_50 : BitVec 32 := 0#32
  let v105 : BitVec 1 := Scalar.cmpi .sgt c2_i32_47 c0_i32_50
  let v106 : BitVec 32 := Scalar.extui v105
  let c0_i32_51 : BitVec 32 := 0#32
  let v107 : BitVec 1 := Scalar.cmpi .slt c2_i32_47 c0_i32_51
  let v108 : BitVec 32 := Scalar.extui v107
  let v109 : BitVec 32 := Scalar.subi v106 v108
  let v110 : BitVec 1 := Scalar.cmpi .ne v104 v109
  let v111 : BitVec 32 := Scalar.remsi v80 c2_i32_47
  let c0_i32_52 : BitVec 32 := 0#32
  let v112 : BitVec 1 := Scalar.cmpi .ne v111 c0_i32_52
  let v113 : BitVec 1 := Scalar.andi v110 v112
  let v99 : BitVec 32 := Scalar.divsi v80 c2_i32_47
  let c1_i32_53 : BitVec 32 := 1#32
  let v114 : BitVec 32 := Scalar.subi v99 c1_i32_53
  let v115 : BitVec 32 := Scalar.select v113 v114 v99
  let c8_i32_732 : BitVec 32 := 8#32
  let v1269 : BitVec 32 := Scalar.muli v115 c8_i32_732
  let v1270 : BitVec 32 := Scalar.addi c0_i32_733 v1269
  let c2_i32_54 : BitVec 32 := 2#32
  let c0_i32_55 : BitVec 32 := 0#32
  let v116 : BitVec 1 := Scalar.cmpi .eq c2_i32_54 c0_i32_55
  let c1_i32_56 : BitVec 32 := 1#32
  let v117 : BitVec 32 := Scalar.select v116 c1_i32_56 c2_i32_54
  let v118 : BitVec 32 := Scalar.remsi v80 v117
  let c0_i32_58 : BitVec 32 := 0#32
  let v120 : BitVec 1 := Scalar.cmpi .slt v118 c0_i32_58
  let c0_i32_59 : BitVec 32 := 0#32
  let v121 : BitVec 1 := Scalar.cmpi .slt v117 c0_i32_59
  let v122 : BitVec 1 := Scalar.xori v120 v121
  let c0_i32_57 : BitVec 32 := 0#32
  let v119 : BitVec 1 := Scalar.cmpi .ne v118 c0_i32_57
  let v123 : BitVec 1 := Scalar.andi v122 v119
  let v124 : BitVec 32 := Scalar.addi v118 v117
  let v125 : BitVec 32 := Scalar.select v123 v124 v118
  let c4_i32_734 : BitVec 32 := 4#32
  let v1271 : BitVec 32 := Scalar.muli v125 c4_i32_734
  let v1272 : BitVec 32 := Scalar.addi v1270 v1271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_735 : BitVec 32 := 1#32
  let v1273 : BitVec 32 := Scalar.muli v8 c1_i32_735
  let v1274 : BitVec 32 := Scalar.addi v1272 v1273
  v1274.toNat
def k0_dev64 (d0 : Dev nD) : Nat :=
  let c0_i32_788 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c3_i32 : BitVec 32 := 3#32
  let v52 : BitVec 32 := Scalar.addi v40 c3_i32
  let c4_i32_27 : BitVec 32 := 4#32
  let c0_i32_28 : BitVec 32 := 0#32
  let v53 : BitVec 1 := Scalar.cmpi .eq c4_i32_27 c0_i32_28
  let c1_i32_29 : BitVec 32 := 1#32
  let v54 : BitVec 32 := Scalar.select v53 c1_i32_29 c4_i32_27
  let v55 : BitVec 32 := Scalar.remsi v52 v54
  let c0_i32_31 : BitVec 32 := 0#32
  let v57 : BitVec 1 := Scalar.cmpi .slt v55 c0_i32_31
  let c0_i32_32 : BitVec 32 := 0#32
  let v58 : BitVec 1 := Scalar.cmpi .slt v54 c0_i32_32
  let v59 : BitVec 1 := Scalar.xori v57 v58
  let c0_i32_30 : BitVec 32 := 0#32
  let v56 : BitVec 1 := Scalar.cmpi .ne v55 c0_i32_30
  let v60 : BitVec 1 := Scalar.andi v59 v56
  let v61 : BitVec 32 := Scalar.addi v55 v54
  let v62 : BitVec 32 := Scalar.select v60 v61 v55
  let c0_i32_41 : BitVec 32 := 0#32
  let v82 : BitVec 1 := Scalar.cmpi .sgt v62 c0_i32_41
  let v83 : BitVec 32 := Scalar.extui v82
  let c0_i32_42 : BitVec 32 := 0#32
  let v84 : BitVec 1 := Scalar.cmpi .slt v62 c0_i32_42
  let v85 : BitVec 32 := Scalar.extui v84
  let v86 : BitVec 32 := Scalar.subi v83 v85
  let c2_i32_40 : BitVec 32 := 2#32
  let c0_i32_43 : BitVec 32 := 0#32
  let v87 : BitVec 1 := Scalar.cmpi .sgt c2_i32_40 c0_i32_43
  let v88 : BitVec 32 := Scalar.extui v87
  let c0_i32_44 : BitVec 32 := 0#32
  let v89 : BitVec 1 := Scalar.cmpi .slt c2_i32_40 c0_i32_44
  let v90 : BitVec 32 := Scalar.extui v89
  let v91 : BitVec 32 := Scalar.subi v88 v90
  let v92 : BitVec 1 := Scalar.cmpi .ne v86 v91
  let v93 : BitVec 32 := Scalar.remsi v62 c2_i32_40
  let c0_i32_45 : BitVec 32 := 0#32
  let v94 : BitVec 1 := Scalar.cmpi .ne v93 c0_i32_45
  let v95 : BitVec 1 := Scalar.andi v92 v94
  let v81 : BitVec 32 := Scalar.divsi v62 c2_i32_40
  let c1_i32_46 : BitVec 32 := 1#32
  let v96 : BitVec 32 := Scalar.subi v81 c1_i32_46
  let v97 : BitVec 32 := Scalar.select v95 v96 v81
  let v98 : BitVec 32 := Scalar.xori v62 v97
  let c0_i32_61 : BitVec 32 := 0#32
  let v127 : BitVec 1 := Scalar.cmpi .sgt v98 c0_i32_61
  let v128 : BitVec 32 := Scalar.extui v127
  let c0_i32_62 : BitVec 32 := 0#32
  let v129 : BitVec 1 := Scalar.cmpi .slt v98 c0_i32_62
  let v130 : BitVec 32 := Scalar.extui v129
  let v131 : BitVec 32 := Scalar.subi v128 v130
  let c2_i32_60 : BitVec 32 := 2#32
  let c0_i32_63 : BitVec 32 := 0#32
  let v132 : BitVec 1 := Scalar.cmpi .sgt c2_i32_60 c0_i32_63
  let v133 : BitVec 32 := Scalar.extui v132
  let c0_i32_64 : BitVec 32 := 0#32
  let v134 : BitVec 1 := Scalar.cmpi .slt c2_i32_60 c0_i32_64
  let v135 : BitVec 32 := Scalar.extui v134
  let v136 : BitVec 32 := Scalar.subi v133 v135
  let v137 : BitVec 1 := Scalar.cmpi .ne v131 v136
  let v138 : BitVec 32 := Scalar.remsi v98 c2_i32_60
  let c0_i32_65 : BitVec 32 := 0#32
  let v139 : BitVec 1 := Scalar.cmpi .ne v138 c0_i32_65
  let v140 : BitVec 1 := Scalar.andi v137 v139
  let v126 : BitVec 32 := Scalar.divsi v98 c2_i32_60
  let c1_i32_66 : BitVec 32 := 1#32
  let v141 : BitVec 32 := Scalar.subi v126 c1_i32_66
  let v142 : BitVec 32 := Scalar.select v140 v141 v126
  let c8_i32_787 : BitVec 32 := 8#32
  let v1363 : BitVec 32 := Scalar.muli v142 c8_i32_787
  let v1364 : BitVec 32 := Scalar.addi c0_i32_788 v1363
  let c2_i32_67 : BitVec 32 := 2#32
  let c0_i32_68 : BitVec 32 := 0#32
  let v143 : BitVec 1 := Scalar.cmpi .eq c2_i32_67 c0_i32_68
  let c1_i32_69 : BitVec 32 := 1#32
  let v144 : BitVec 32 := Scalar.select v143 c1_i32_69 c2_i32_67
  let v145 : BitVec 32 := Scalar.remsi v98 v144
  let c0_i32_71 : BitVec 32 := 0#32
  let v147 : BitVec 1 := Scalar.cmpi .slt v145 c0_i32_71
  let c0_i32_72 : BitVec 32 := 0#32
  let v148 : BitVec 1 := Scalar.cmpi .slt v144 c0_i32_72
  let v149 : BitVec 1 := Scalar.xori v147 v148
  let c0_i32_70 : BitVec 32 := 0#32
  let v146 : BitVec 1 := Scalar.cmpi .ne v145 c0_i32_70
  let v150 : BitVec 1 := Scalar.andi v149 v146
  let v151 : BitVec 32 := Scalar.addi v145 v144
  let v152 : BitVec 32 := Scalar.select v150 v151 v145
  let c4_i32_789 : BitVec 32 := 4#32
  let v1365 : BitVec 32 := Scalar.muli v152 c4_i32_789
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_790 : BitVec 32 := 1#32
  let v1367 : BitVec 32 := Scalar.muli v8 c1_i32_790
  let v1368 : BitVec 32 := Scalar.addi v1366 v1367
  v1368.toNat
def k0_dev65 (d0 : Dev nD) : Nat :=
  let c0_i32_819 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c3_i32 : BitVec 32 := 3#32
  let v52 : BitVec 32 := Scalar.addi v40 c3_i32
  let c4_i32_27 : BitVec 32 := 4#32
  let c0_i32_28 : BitVec 32 := 0#32
  let v53 : BitVec 1 := Scalar.cmpi .eq c4_i32_27 c0_i32_28
  let c1_i32_29 : BitVec 32 := 1#32
  let v54 : BitVec 32 := Scalar.select v53 c1_i32_29 c4_i32_27
  let v55 : BitVec 32 := Scalar.remsi v52 v54
  let c0_i32_31 : BitVec 32 := 0#32
  let v57 : BitVec 1 := Scalar.cmpi .slt v55 c0_i32_31
  let c0_i32_32 : BitVec 32 := 0#32
  let v58 : BitVec 1 := Scalar.cmpi .slt v54 c0_i32_32
  let v59 : BitVec 1 := Scalar.xori v57 v58
  let c0_i32_30 : BitVec 32 := 0#32
  let v56 : BitVec 1 := Scalar.cmpi .ne v55 c0_i32_30
  let v60 : BitVec 1 := Scalar.andi v59 v56
  let v61 : BitVec 32 := Scalar.addi v55 v54
  let v62 : BitVec 32 := Scalar.select v60 v61 v55
  let c0_i32_41 : BitVec 32 := 0#32
  let v82 : BitVec 1 := Scalar.cmpi .sgt v62 c0_i32_41
  let v83 : BitVec 32 := Scalar.extui v82
  let c0_i32_42 : BitVec 32 := 0#32
  let v84 : BitVec 1 := Scalar.cmpi .slt v62 c0_i32_42
  let v85 : BitVec 32 := Scalar.extui v84
  let v86 : BitVec 32 := Scalar.subi v83 v85
  let c2_i32_40 : BitVec 32 := 2#32
  let c0_i32_43 : BitVec 32 := 0#32
  let v87 : BitVec 1 := Scalar.cmpi .sgt c2_i32_40 c0_i32_43
  let v88 : BitVec 32 := Scalar.extui v87
  let c0_i32_44 : BitVec 32 := 0#32
  let v89 : BitVec 1 := Scalar.cmpi .slt c2_i32_40 c0_i32_44
  let v90 : BitVec 32 := Scalar.extui v89
  let v91 : BitVec 32 := Scalar.subi v88 v90
  let v92 : BitVec 1 := Scalar.cmpi .ne v86 v91
  let v93 : BitVec 32 := Scalar.remsi v62 c2_i32_40
  let c0_i32_45 : BitVec 32 := 0#32
  let v94 : BitVec 1 := Scalar.cmpi .ne v93 c0_i32_45
  let v95 : BitVec 1 := Scalar.andi v92 v94
  let v81 : BitVec 32 := Scalar.divsi v62 c2_i32_40
  let c1_i32_46 : BitVec 32 := 1#32
  let v96 : BitVec 32 := Scalar.subi v81 c1_i32_46
  let v97 : BitVec 32 := Scalar.select v95 v96 v81
  let v98 : BitVec 32 := Scalar.xori v62 v97
  let c0_i32_61 : BitVec 32 := 0#32
  let v127 : BitVec 1 := Scalar.cmpi .sgt v98 c0_i32_61
  let v128 : BitVec 32 := Scalar.extui v127
  let c0_i32_62 : BitVec 32 := 0#32
  let v129 : BitVec 1 := Scalar.cmpi .slt v98 c0_i32_62
  let v130 : BitVec 32 := Scalar.extui v129
  let v131 : BitVec 32 := Scalar.subi v128 v130
  let c2_i32_60 : BitVec 32 := 2#32
  let c0_i32_63 : BitVec 32 := 0#32
  let v132 : BitVec 1 := Scalar.cmpi .sgt c2_i32_60 c0_i32_63
  let v133 : BitVec 32 := Scalar.extui v132
  let c0_i32_64 : BitVec 32 := 0#32
  let v134 : BitVec 1 := Scalar.cmpi .slt c2_i32_60 c0_i32_64
  let v135 : BitVec 32 := Scalar.extui v134
  let v136 : BitVec 32 := Scalar.subi v133 v135
  let v137 : BitVec 1 := Scalar.cmpi .ne v131 v136
  let v138 : BitVec 32 := Scalar.remsi v98 c2_i32_60
  let c0_i32_65 : BitVec 32 := 0#32
  let v139 : BitVec 1 := Scalar.cmpi .ne v138 c0_i32_65
  let v140 : BitVec 1 := Scalar.andi v137 v139
  let v126 : BitVec 32 := Scalar.divsi v98 c2_i32_60
  let c1_i32_66 : BitVec 32 := 1#32
  let v141 : BitVec 32 := Scalar.subi v126 c1_i32_66
  let v142 : BitVec 32 := Scalar.select v140 v141 v126
  let c8_i32_818 : BitVec 32 := 8#32
  let v1416 : BitVec 32 := Scalar.muli v142 c8_i32_818
  let v1417 : BitVec 32 := Scalar.addi c0_i32_819 v1416
  let c2_i32_67 : BitVec 32 := 2#32
  let c0_i32_68 : BitVec 32 := 0#32
  let v143 : BitVec 1 := Scalar.cmpi .eq c2_i32_67 c0_i32_68
  let c1_i32_69 : BitVec 32 := 1#32
  let v144 : BitVec 32 := Scalar.select v143 c1_i32_69 c2_i32_67
  let v145 : BitVec 32 := Scalar.remsi v98 v144
  let c0_i32_71 : BitVec 32 := 0#32
  let v147 : BitVec 1 := Scalar.cmpi .slt v145 c0_i32_71
  let c0_i32_72 : BitVec 32 := 0#32
  let v148 : BitVec 1 := Scalar.cmpi .slt v144 c0_i32_72
  let v149 : BitVec 1 := Scalar.xori v147 v148
  let c0_i32_70 : BitVec 32 := 0#32
  let v146 : BitVec 1 := Scalar.cmpi .ne v145 c0_i32_70
  let v150 : BitVec 1 := Scalar.andi v149 v146
  let v151 : BitVec 32 := Scalar.addi v145 v144
  let v152 : BitVec 32 := Scalar.select v150 v151 v145
  let c4_i32_820 : BitVec 32 := 4#32
  let v1418 : BitVec 32 := Scalar.muli v152 c4_i32_820
  let v1419 : BitVec 32 := Scalar.addi v1417 v1418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_821 : BitVec 32 := 1#32
  let v1420 : BitVec 32 := Scalar.muli v8 c1_i32_821
  let v1421 : BitVec 32 := Scalar.addi v1419 v1420
  v1421.toNat
def k0_dev66 (d0 : Dev nD) : Nat :=
  let c0_i32_874 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c3_i32 : BitVec 32 := 3#32
  let v52 : BitVec 32 := Scalar.addi v40 c3_i32
  let c4_i32_27 : BitVec 32 := 4#32
  let c0_i32_28 : BitVec 32 := 0#32
  let v53 : BitVec 1 := Scalar.cmpi .eq c4_i32_27 c0_i32_28
  let c1_i32_29 : BitVec 32 := 1#32
  let v54 : BitVec 32 := Scalar.select v53 c1_i32_29 c4_i32_27
  let v55 : BitVec 32 := Scalar.remsi v52 v54
  let c0_i32_31 : BitVec 32 := 0#32
  let v57 : BitVec 1 := Scalar.cmpi .slt v55 c0_i32_31
  let c0_i32_32 : BitVec 32 := 0#32
  let v58 : BitVec 1 := Scalar.cmpi .slt v54 c0_i32_32
  let v59 : BitVec 1 := Scalar.xori v57 v58
  let c0_i32_30 : BitVec 32 := 0#32
  let v56 : BitVec 1 := Scalar.cmpi .ne v55 c0_i32_30
  let v60 : BitVec 1 := Scalar.andi v59 v56
  let v61 : BitVec 32 := Scalar.addi v55 v54
  let v62 : BitVec 32 := Scalar.select v60 v61 v55
  let c0_i32_41 : BitVec 32 := 0#32
  let v82 : BitVec 1 := Scalar.cmpi .sgt v62 c0_i32_41
  let v83 : BitVec 32 := Scalar.extui v82
  let c0_i32_42 : BitVec 32 := 0#32
  let v84 : BitVec 1 := Scalar.cmpi .slt v62 c0_i32_42
  let v85 : BitVec 32 := Scalar.extui v84
  let v86 : BitVec 32 := Scalar.subi v83 v85
  let c2_i32_40 : BitVec 32 := 2#32
  let c0_i32_43 : BitVec 32 := 0#32
  let v87 : BitVec 1 := Scalar.cmpi .sgt c2_i32_40 c0_i32_43
  let v88 : BitVec 32 := Scalar.extui v87
  let c0_i32_44 : BitVec 32 := 0#32
  let v89 : BitVec 1 := Scalar.cmpi .slt c2_i32_40 c0_i32_44
  let v90 : BitVec 32 := Scalar.extui v89
  let v91 : BitVec 32 := Scalar.subi v88 v90
  let v92 : BitVec 1 := Scalar.cmpi .ne v86 v91
  let v93 : BitVec 32 := Scalar.remsi v62 c2_i32_40
  let c0_i32_45 : BitVec 32 := 0#32
  let v94 : BitVec 1 := Scalar.cmpi .ne v93 c0_i32_45
  let v95 : BitVec 1 := Scalar.andi v92 v94
  let v81 : BitVec 32 := Scalar.divsi v62 c2_i32_40
  let c1_i32_46 : BitVec 32 := 1#32
  let v96 : BitVec 32 := Scalar.subi v81 c1_i32_46
  let v97 : BitVec 32 := Scalar.select v95 v96 v81
  let v98 : BitVec 32 := Scalar.xori v62 v97
  let c0_i32_61 : BitVec 32 := 0#32
  let v127 : BitVec 1 := Scalar.cmpi .sgt v98 c0_i32_61
  let v128 : BitVec 32 := Scalar.extui v127
  let c0_i32_62 : BitVec 32 := 0#32
  let v129 : BitVec 1 := Scalar.cmpi .slt v98 c0_i32_62
  let v130 : BitVec 32 := Scalar.extui v129
  let v131 : BitVec 32 := Scalar.subi v128 v130
  let c2_i32_60 : BitVec 32 := 2#32
  let c0_i32_63 : BitVec 32 := 0#32
  let v132 : BitVec 1 := Scalar.cmpi .sgt c2_i32_60 c0_i32_63
  let v133 : BitVec 32 := Scalar.extui v132
  let c0_i32_64 : BitVec 32 := 0#32
  let v134 : BitVec 1 := Scalar.cmpi .slt c2_i32_60 c0_i32_64
  let v135 : BitVec 32 := Scalar.extui v134
  let v136 : BitVec 32 := Scalar.subi v133 v135
  let v137 : BitVec 1 := Scalar.cmpi .ne v131 v136
  let v138 : BitVec 32 := Scalar.remsi v98 c2_i32_60
  let c0_i32_65 : BitVec 32 := 0#32
  let v139 : BitVec 1 := Scalar.cmpi .ne v138 c0_i32_65
  let v140 : BitVec 1 := Scalar.andi v137 v139
  let v126 : BitVec 32 := Scalar.divsi v98 c2_i32_60
  let c1_i32_66 : BitVec 32 := 1#32
  let v141 : BitVec 32 := Scalar.subi v126 c1_i32_66
  let v142 : BitVec 32 := Scalar.select v140 v141 v126
  let c8_i32_873 : BitVec 32 := 8#32
  let v1510 : BitVec 32 := Scalar.muli v142 c8_i32_873
  let v1511 : BitVec 32 := Scalar.addi c0_i32_874 v1510
  let c2_i32_67 : BitVec 32 := 2#32
  let c0_i32_68 : BitVec 32 := 0#32
  let v143 : BitVec 1 := Scalar.cmpi .eq c2_i32_67 c0_i32_68
  let c1_i32_69 : BitVec 32 := 1#32
  let v144 : BitVec 32 := Scalar.select v143 c1_i32_69 c2_i32_67
  let v145 : BitVec 32 := Scalar.remsi v98 v144
  let c0_i32_71 : BitVec 32 := 0#32
  let v147 : BitVec 1 := Scalar.cmpi .slt v145 c0_i32_71
  let c0_i32_72 : BitVec 32 := 0#32
  let v148 : BitVec 1 := Scalar.cmpi .slt v144 c0_i32_72
  let v149 : BitVec 1 := Scalar.xori v147 v148
  let c0_i32_70 : BitVec 32 := 0#32
  let v146 : BitVec 1 := Scalar.cmpi .ne v145 c0_i32_70
  let v150 : BitVec 1 := Scalar.andi v149 v146
  let v151 : BitVec 32 := Scalar.addi v145 v144
  let v152 : BitVec 32 := Scalar.select v150 v151 v145
  let c4_i32_875 : BitVec 32 := 4#32
  let v1512 : BitVec 32 := Scalar.muli v152 c4_i32_875
  let v1513 : BitVec 32 := Scalar.addi v1511 v1512
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_876 : BitVec 32 := 1#32
  let v1514 : BitVec 32 := Scalar.muli v8 c1_i32_876
  let v1515 : BitVec 32 := Scalar.addi v1513 v1514
  v1515.toNat
def k0_dev67 (d0 : Dev nD) : Nat :=
  let c0_i32_929 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c3_i32 : BitVec 32 := 3#32
  let v52 : BitVec 32 := Scalar.addi v40 c3_i32
  let c4_i32_27 : BitVec 32 := 4#32
  let c0_i32_28 : BitVec 32 := 0#32
  let v53 : BitVec 1 := Scalar.cmpi .eq c4_i32_27 c0_i32_28
  let c1_i32_29 : BitVec 32 := 1#32
  let v54 : BitVec 32 := Scalar.select v53 c1_i32_29 c4_i32_27
  let v55 : BitVec 32 := Scalar.remsi v52 v54
  let c0_i32_31 : BitVec 32 := 0#32
  let v57 : BitVec 1 := Scalar.cmpi .slt v55 c0_i32_31
  let c0_i32_32 : BitVec 32 := 0#32
  let v58 : BitVec 1 := Scalar.cmpi .slt v54 c0_i32_32
  let v59 : BitVec 1 := Scalar.xori v57 v58
  let c0_i32_30 : BitVec 32 := 0#32
  let v56 : BitVec 1 := Scalar.cmpi .ne v55 c0_i32_30
  let v60 : BitVec 1 := Scalar.andi v59 v56
  let v61 : BitVec 32 := Scalar.addi v55 v54
  let v62 : BitVec 32 := Scalar.select v60 v61 v55
  let c0_i32_41 : BitVec 32 := 0#32
  let v82 : BitVec 1 := Scalar.cmpi .sgt v62 c0_i32_41
  let v83 : BitVec 32 := Scalar.extui v82
  let c0_i32_42 : BitVec 32 := 0#32
  let v84 : BitVec 1 := Scalar.cmpi .slt v62 c0_i32_42
  let v85 : BitVec 32 := Scalar.extui v84
  let v86 : BitVec 32 := Scalar.subi v83 v85
  let c2_i32_40 : BitVec 32 := 2#32
  let c0_i32_43 : BitVec 32 := 0#32
  let v87 : BitVec 1 := Scalar.cmpi .sgt c2_i32_40 c0_i32_43
  let v88 : BitVec 32 := Scalar.extui v87
  let c0_i32_44 : BitVec 32 := 0#32
  let v89 : BitVec 1 := Scalar.cmpi .slt c2_i32_40 c0_i32_44
  let v90 : BitVec 32 := Scalar.extui v89
  let v91 : BitVec 32 := Scalar.subi v88 v90
  let v92 : BitVec 1 := Scalar.cmpi .ne v86 v91
  let v93 : BitVec 32 := Scalar.remsi v62 c2_i32_40
  let c0_i32_45 : BitVec 32 := 0#32
  let v94 : BitVec 1 := Scalar.cmpi .ne v93 c0_i32_45
  let v95 : BitVec 1 := Scalar.andi v92 v94
  let v81 : BitVec 32 := Scalar.divsi v62 c2_i32_40
  let c1_i32_46 : BitVec 32 := 1#32
  let v96 : BitVec 32 := Scalar.subi v81 c1_i32_46
  let v97 : BitVec 32 := Scalar.select v95 v96 v81
  let v98 : BitVec 32 := Scalar.xori v62 v97
  let c0_i32_61 : BitVec 32 := 0#32
  let v127 : BitVec 1 := Scalar.cmpi .sgt v98 c0_i32_61
  let v128 : BitVec 32 := Scalar.extui v127
  let c0_i32_62 : BitVec 32 := 0#32
  let v129 : BitVec 1 := Scalar.cmpi .slt v98 c0_i32_62
  let v130 : BitVec 32 := Scalar.extui v129
  let v131 : BitVec 32 := Scalar.subi v128 v130
  let c2_i32_60 : BitVec 32 := 2#32
  let c0_i32_63 : BitVec 32 := 0#32
  let v132 : BitVec 1 := Scalar.cmpi .sgt c2_i32_60 c0_i32_63
  let v133 : BitVec 32 := Scalar.extui v132
  let c0_i32_64 : BitVec 32 := 0#32
  let v134 : BitVec 1 := Scalar.cmpi .slt c2_i32_60 c0_i32_64
  let v135 : BitVec 32 := Scalar.extui v134
  let v136 : BitVec 32 := Scalar.subi v133 v135
  let v137 : BitVec 1 := Scalar.cmpi .ne v131 v136
  let v138 : BitVec 32 := Scalar.remsi v98 c2_i32_60
  let c0_i32_65 : BitVec 32 := 0#32
  let v139 : BitVec 1 := Scalar.cmpi .ne v138 c0_i32_65
  let v140 : BitVec 1 := Scalar.andi v137 v139
  let v126 : BitVec 32 := Scalar.divsi v98 c2_i32_60
  let c1_i32_66 : BitVec 32 := 1#32
  let v141 : BitVec 32 := Scalar.subi v126 c1_i32_66
  let v142 : BitVec 32 := Scalar.select v140 v141 v126
  let c8_i32_928 : BitVec 32 := 8#32
  let v1604 : BitVec 32 := Scalar.muli v142 c8_i32_928
  let v1605 : BitVec 32 := Scalar.addi c0_i32_929 v1604
  let c2_i32_67 : BitVec 32 := 2#32
  let c0_i32_68 : BitVec 32 := 0#32
  let v143 : BitVec 1 := Scalar.cmpi .eq c2_i32_67 c0_i32_68
  let c1_i32_69 : BitVec 32 := 1#32
  let v144 : BitVec 32 := Scalar.select v143 c1_i32_69 c2_i32_67
  let v145 : BitVec 32 := Scalar.remsi v98 v144
  let c0_i32_71 : BitVec 32 := 0#32
  let v147 : BitVec 1 := Scalar.cmpi .slt v145 c0_i32_71
  let c0_i32_72 : BitVec 32 := 0#32
  let v148 : BitVec 1 := Scalar.cmpi .slt v144 c0_i32_72
  let v149 : BitVec 1 := Scalar.xori v147 v148
  let c0_i32_70 : BitVec 32 := 0#32
  let v146 : BitVec 1 := Scalar.cmpi .ne v145 c0_i32_70
  let v150 : BitVec 1 := Scalar.andi v149 v146
  let v151 : BitVec 32 := Scalar.addi v145 v144
  let v152 : BitVec 32 := Scalar.select v150 v151 v145
  let c4_i32_930 : BitVec 32 := 4#32
  let v1606 : BitVec 32 := Scalar.muli v152 c4_i32_930
  let v1607 : BitVec 32 := Scalar.addi v1605 v1606
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_931 : BitVec 32 := 1#32
  let v1608 : BitVec 32 := Scalar.muli v8 c1_i32_931
  let v1609 : BitVec 32 := Scalar.addi v1607 v1608
  v1609.toNat
def k0_dev68 (d0 : Dev nD) : Nat :=
  let c0_i32_984 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c3_i32 : BitVec 32 := 3#32
  let v52 : BitVec 32 := Scalar.addi v40 c3_i32
  let c4_i32_27 : BitVec 32 := 4#32
  let c0_i32_28 : BitVec 32 := 0#32
  let v53 : BitVec 1 := Scalar.cmpi .eq c4_i32_27 c0_i32_28
  let c1_i32_29 : BitVec 32 := 1#32
  let v54 : BitVec 32 := Scalar.select v53 c1_i32_29 c4_i32_27
  let v55 : BitVec 32 := Scalar.remsi v52 v54
  let c0_i32_31 : BitVec 32 := 0#32
  let v57 : BitVec 1 := Scalar.cmpi .slt v55 c0_i32_31
  let c0_i32_32 : BitVec 32 := 0#32
  let v58 : BitVec 1 := Scalar.cmpi .slt v54 c0_i32_32
  let v59 : BitVec 1 := Scalar.xori v57 v58
  let c0_i32_30 : BitVec 32 := 0#32
  let v56 : BitVec 1 := Scalar.cmpi .ne v55 c0_i32_30
  let v60 : BitVec 1 := Scalar.andi v59 v56
  let v61 : BitVec 32 := Scalar.addi v55 v54
  let v62 : BitVec 32 := Scalar.select v60 v61 v55
  let c0_i32_41 : BitVec 32 := 0#32
  let v82 : BitVec 1 := Scalar.cmpi .sgt v62 c0_i32_41
  let v83 : BitVec 32 := Scalar.extui v82
  let c0_i32_42 : BitVec 32 := 0#32
  let v84 : BitVec 1 := Scalar.cmpi .slt v62 c0_i32_42
  let v85 : BitVec 32 := Scalar.extui v84
  let v86 : BitVec 32 := Scalar.subi v83 v85
  let c2_i32_40 : BitVec 32 := 2#32
  let c0_i32_43 : BitVec 32 := 0#32
  let v87 : BitVec 1 := Scalar.cmpi .sgt c2_i32_40 c0_i32_43
  let v88 : BitVec 32 := Scalar.extui v87
  let c0_i32_44 : BitVec 32 := 0#32
  let v89 : BitVec 1 := Scalar.cmpi .slt c2_i32_40 c0_i32_44
  let v90 : BitVec 32 := Scalar.extui v89
  let v91 : BitVec 32 := Scalar.subi v88 v90
  let v92 : BitVec 1 := Scalar.cmpi .ne v86 v91
  let v93 : BitVec 32 := Scalar.remsi v62 c2_i32_40
  let c0_i32_45 : BitVec 32 := 0#32
  let v94 : BitVec 1 := Scalar.cmpi .ne v93 c0_i32_45
  let v95 : BitVec 1 := Scalar.andi v92 v94
  let v81 : BitVec 32 := Scalar.divsi v62 c2_i32_40
  let c1_i32_46 : BitVec 32 := 1#32
  let v96 : BitVec 32 := Scalar.subi v81 c1_i32_46
  let v97 : BitVec 32 := Scalar.select v95 v96 v81
  let v98 : BitVec 32 := Scalar.xori v62 v97
  let c0_i32_61 : BitVec 32 := 0#32
  let v127 : BitVec 1 := Scalar.cmpi .sgt v98 c0_i32_61
  let v128 : BitVec 32 := Scalar.extui v127
  let c0_i32_62 : BitVec 32 := 0#32
  let v129 : BitVec 1 := Scalar.cmpi .slt v98 c0_i32_62
  let v130 : BitVec 32 := Scalar.extui v129
  let v131 : BitVec 32 := Scalar.subi v128 v130
  let c2_i32_60 : BitVec 32 := 2#32
  let c0_i32_63 : BitVec 32 := 0#32
  let v132 : BitVec 1 := Scalar.cmpi .sgt c2_i32_60 c0_i32_63
  let v133 : BitVec 32 := Scalar.extui v132
  let c0_i32_64 : BitVec 32 := 0#32
  let v134 : BitVec 1 := Scalar.cmpi .slt c2_i32_60 c0_i32_64
  let v135 : BitVec 32 := Scalar.extui v134
  let v136 : BitVec 32 := Scalar.subi v133 v135
  let v137 : BitVec 1 := Scalar.cmpi .ne v131 v136
  let v138 : BitVec 32 := Scalar.remsi v98 c2_i32_60
  let c0_i32_65 : BitVec 32 := 0#32
  let v139 : BitVec 1 := Scalar.cmpi .ne v138 c0_i32_65
  let v140 : BitVec 1 := Scalar.andi v137 v139
  let v126 : BitVec 32 := Scalar.divsi v98 c2_i32_60
  let c1_i32_66 : BitVec 32 := 1#32
  let v141 : BitVec 32 := Scalar.subi v126 c1_i32_66
  let v142 : BitVec 32 := Scalar.select v140 v141 v126
  let c8_i32_983 : BitVec 32 := 8#32
  let v1698 : BitVec 32 := Scalar.muli v142 c8_i32_983
  let v1699 : BitVec 32 := Scalar.addi c0_i32_984 v1698
  let c2_i32_67 : BitVec 32 := 2#32
  let c0_i32_68 : BitVec 32 := 0#32
  let v143 : BitVec 1 := Scalar.cmpi .eq c2_i32_67 c0_i32_68
  let c1_i32_69 : BitVec 32 := 1#32
  let v144 : BitVec 32 := Scalar.select v143 c1_i32_69 c2_i32_67
  let v145 : BitVec 32 := Scalar.remsi v98 v144
  let c0_i32_71 : BitVec 32 := 0#32
  let v147 : BitVec 1 := Scalar.cmpi .slt v145 c0_i32_71
  let c0_i32_72 : BitVec 32 := 0#32
  let v148 : BitVec 1 := Scalar.cmpi .slt v144 c0_i32_72
  let v149 : BitVec 1 := Scalar.xori v147 v148
  let c0_i32_70 : BitVec 32 := 0#32
  let v146 : BitVec 1 := Scalar.cmpi .ne v145 c0_i32_70
  let v150 : BitVec 1 := Scalar.andi v149 v146
  let v151 : BitVec 32 := Scalar.addi v145 v144
  let v152 : BitVec 32 := Scalar.select v150 v151 v145
  let c4_i32_985 : BitVec 32 := 4#32
  let v1700 : BitVec 32 := Scalar.muli v152 c4_i32_985
  let v1701 : BitVec 32 := Scalar.addi v1699 v1700
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_986 : BitVec 32 := 1#32
  let v1702 : BitVec 32 := Scalar.muli v8 c1_i32_986
  let v1703 : BitVec 32 := Scalar.addi v1701 v1702
  v1703.toNat
def k0_dev69 (d0 : Dev nD) : Nat :=
  let c0_i32_1256_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1255_r0 : BitVec 32 := 8#32
  let v1973_r0 : BitVec 32 := Scalar.muli v2 c8_i32_1255_r0
  let v1974_r0 : BitVec 32 := Scalar.addi c0_i32_1256_r0 v1973_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1257_r0 : BitVec 32 := 4#32
  let v1975_r0 : BitVec 32 := Scalar.muli v5 c4_i32_1257_r0
  let v1976_r0 : BitVec 32 := Scalar.addi v1974_r0 v1975_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_9 : BitVec 32 := 4#32
  let v23 : BitVec 32 := Scalar.addi v8 c4_i32_9
  let c1_i32_10 : BitVec 32 := 1#32
  let v24 : BitVec 32 := Scalar.subi v23 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_1258_r0 : BitVec 32 := 1#32
  let v1977_r0 : BitVec 32 := Scalar.muli v34 c1_i32_1258_r0
  let v1978_r0 : BitVec 32 := Scalar.addi v1976_r0 v1977_r0
  v1978_r0.toNat
def k0_dev70 (d0 : Dev nD) : Nat :=
  let c0_i32_1261_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1260_r0 : BitVec 32 := 8#32
  let v1979_r0 : BitVec 32 := Scalar.muli v2 c8_i32_1260_r0
  let v1980_r0 : BitVec 32 := Scalar.addi c0_i32_1261_r0 v1979_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1262_r0 : BitVec 32 := 4#32
  let v1981_r0 : BitVec 32 := Scalar.muli v5 c4_i32_1262_r0
  let v1982_r0 : BitVec 32 := Scalar.addi v1980_r0 v1981_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let c0_i32 : BitVec 32 := 0#32
  let v13 : BitVec 1 := Scalar.cmpi .eq c4_i32_4 c0_i32
  let c1_i32_5 : BitVec 32 := 1#32
  let v14 : BitVec 32 := Scalar.select v13 c1_i32_5 c4_i32_4
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_1263_r0 : BitVec 32 := 1#32
  let v1983_r0 : BitVec 32 := Scalar.muli v22 c1_i32_1263_r0
  let v1984_r0 : BitVec 32 := Scalar.addi v1982_r0 v1983_r0
  v1984_r0.toNat
def k0_dev71 (d0 : Dev nD) : Nat :=
  let c0_i32_1266_r0 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c1_i32_20 : BitVec 32 := 1#32
  let v41 : BitVec 32 := Scalar.addi v40 c1_i32_20
  let c4_i32_21 : BitVec 32 := 4#32
  let c0_i32_22 : BitVec 32 := 0#32
  let v42 : BitVec 1 := Scalar.cmpi .eq c4_i32_21 c0_i32_22
  let c1_i32_23 : BitVec 32 := 1#32
  let v43 : BitVec 32 := Scalar.select v42 c1_i32_23 c4_i32_21
  let v44 : BitVec 32 := Scalar.remsi v41 v43
  let c0_i32_25 : BitVec 32 := 0#32
  let v46 : BitVec 1 := Scalar.cmpi .slt v44 c0_i32_25
  let c0_i32_26 : BitVec 32 := 0#32
  let v47 : BitVec 1 := Scalar.cmpi .slt v43 c0_i32_26
  let v48 : BitVec 1 := Scalar.xori v46 v47
  let c0_i32_24 : BitVec 32 := 0#32
  let v45 : BitVec 1 := Scalar.cmpi .ne v44 c0_i32_24
  let v49 : BitVec 1 := Scalar.andi v48 v45
  let v50 : BitVec 32 := Scalar.addi v44 v43
  let v51 : BitVec 32 := Scalar.select v49 v50 v44
  let c0_i32_34 : BitVec 32 := 0#32
  let v64 : BitVec 1 := Scalar.cmpi .sgt v51 c0_i32_34
  let v65 : BitVec 32 := Scalar.extui v64
  let c0_i32_35 : BitVec 32 := 0#32
  let v66 : BitVec 1 := Scalar.cmpi .slt v51 c0_i32_35
  let v67 : BitVec 32 := Scalar.extui v66
  let v68 : BitVec 32 := Scalar.subi v65 v67
  let c2_i32_33 : BitVec 32 := 2#32
  let c0_i32_36 : BitVec 32 := 0#32
  let v69 : BitVec 1 := Scalar.cmpi .sgt c2_i32_33 c0_i32_36
  let v70 : BitVec 32 := Scalar.extui v69
  let c0_i32_37 : BitVec 32 := 0#32
  let v71 : BitVec 1 := Scalar.cmpi .slt c2_i32_33 c0_i32_37
  let v72 : BitVec 32 := Scalar.extui v71
  let v73 : BitVec 32 := Scalar.subi v70 v72
  let v74 : BitVec 1 := Scalar.cmpi .ne v68 v73
  let v75 : BitVec 32 := Scalar.remsi v51 c2_i32_33
  let c0_i32_38 : BitVec 32 := 0#32
  let v76 : BitVec 1 := Scalar.cmpi .ne v75 c0_i32_38
  let v77 : BitVec 1 := Scalar.andi v74 v76
  let v63 : BitVec 32 := Scalar.divsi v51 c2_i32_33
  let c1_i32_39 : BitVec 32 := 1#32
  let v78 : BitVec 32 := Scalar.subi v63 c1_i32_39
  let v79 : BitVec 32 := Scalar.select v77 v78 v63
  let v80 : BitVec 32 := Scalar.xori v51 v79
  let c0_i32_48 : BitVec 32 := 0#32
  let v100 : BitVec 1 := Scalar.cmpi .sgt v80 c0_i32_48
  let v101 : BitVec 32 := Scalar.extui v100
  let c0_i32_49 : BitVec 32 := 0#32
  let v102 : BitVec 1 := Scalar.cmpi .slt v80 c0_i32_49
  let v103 : BitVec 32 := Scalar.extui v102
  let v104 : BitVec 32 := Scalar.subi v101 v103
  let c2_i32_47 : BitVec 32 := 2#32
  let c0_i32_50 : BitVec 32 := 0#32
  let v105 : BitVec 1 := Scalar.cmpi .sgt c2_i32_47 c0_i32_50
  let v106 : BitVec 32 := Scalar.extui v105
  let c0_i32_51 : BitVec 32 := 0#32
  let v107 : BitVec 1 := Scalar.cmpi .slt c2_i32_47 c0_i32_51
  let v108 : BitVec 32 := Scalar.extui v107
  let v109 : BitVec 32 := Scalar.subi v106 v108
  let v110 : BitVec 1 := Scalar.cmpi .ne v104 v109
  let v111 : BitVec 32 := Scalar.remsi v80 c2_i32_47
  let c0_i32_52 : BitVec 32 := 0#32
  let v112 : BitVec 1 := Scalar.cmpi .ne v111 c0_i32_52
  let v113 : BitVec 1 := Scalar.andi v110 v112
  let v99 : BitVec 32 := Scalar.divsi v80 c2_i32_47
  let c1_i32_53 : BitVec 32 := 1#32
  let v114 : BitVec 32 := Scalar.subi v99 c1_i32_53
  let v115 : BitVec 32 := Scalar.select v113 v114 v99
  let c8_i32_1265_r0 : BitVec 32 := 8#32
  let v1985_r0 : BitVec 32 := Scalar.muli v115 c8_i32_1265_r0
  let v1986_r0 : BitVec 32 := Scalar.addi c0_i32_1266_r0 v1985_r0
  let c2_i32_54 : BitVec 32 := 2#32
  let c0_i32_55 : BitVec 32 := 0#32
  let v116 : BitVec 1 := Scalar.cmpi .eq c2_i32_54 c0_i32_55
  let c1_i32_56 : BitVec 32 := 1#32
  let v117 : BitVec 32 := Scalar.select v116 c1_i32_56 c2_i32_54
  let v118 : BitVec 32 := Scalar.remsi v80 v117
  let c0_i32_58 : BitVec 32 := 0#32
  let v120 : BitVec 1 := Scalar.cmpi .slt v118 c0_i32_58
  let c0_i32_59 : BitVec 32 := 0#32
  let v121 : BitVec 1 := Scalar.cmpi .slt v117 c0_i32_59
  let v122 : BitVec 1 := Scalar.xori v120 v121
  let c0_i32_57 : BitVec 32 := 0#32
  let v119 : BitVec 1 := Scalar.cmpi .ne v118 c0_i32_57
  let v123 : BitVec 1 := Scalar.andi v122 v119
  let v124 : BitVec 32 := Scalar.addi v118 v117
  let v125 : BitVec 32 := Scalar.select v123 v124 v118
  let c4_i32_1267_r0 : BitVec 32 := 4#32
  let v1987_r0 : BitVec 32 := Scalar.muli v125 c4_i32_1267_r0
  let v1988_r0 : BitVec 32 := Scalar.addi v1986_r0 v1987_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1268_r0 : BitVec 32 := 1#32
  let v1989_r0 : BitVec 32 := Scalar.muli v8 c1_i32_1268_r0
  let v1990_r0 : BitVec 32 := Scalar.addi v1988_r0 v1989_r0
  v1990_r0.toNat
def k0_dev72 (d0 : Dev nD) : Nat :=
  let c0_i32_1271_r0 : BitVec 32 := 0#32
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.muli c2_i32_19 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.xori v2 v5
  let v40 : BitVec 32 := Scalar.addi v38 v39
  let c3_i32 : BitVec 32 := 3#32
  let v52 : BitVec 32 := Scalar.addi v40 c3_i32
  let c4_i32_27 : BitVec 32 := 4#32
  let c0_i32_28 : BitVec 32 := 0#32
  let v53 : BitVec 1 := Scalar.cmpi .eq c4_i32_27 c0_i32_28
  let c1_i32_29 : BitVec 32 := 1#32
  let v54 : BitVec 32 := Scalar.select v53 c1_i32_29 c4_i32_27
  let v55 : BitVec 32 := Scalar.remsi v52 v54
  let c0_i32_31 : BitVec 32 := 0#32
  let v57 : BitVec 1 := Scalar.cmpi .slt v55 c0_i32_31
  let c0_i32_32 : BitVec 32 := 0#32
  let v58 : BitVec 1 := Scalar.cmpi .slt v54 c0_i32_32
  let v59 : BitVec 1 := Scalar.xori v57 v58
  let c0_i32_30 : BitVec 32 := 0#32
  let v56 : BitVec 1 := Scalar.cmpi .ne v55 c0_i32_30
  let v60 : BitVec 1 := Scalar.andi v59 v56
  let v61 : BitVec 32 := Scalar.addi v55 v54
  let v62 : BitVec 32 := Scalar.select v60 v61 v55
  let c0_i32_41 : BitVec 32 := 0#32
  let v82 : BitVec 1 := Scalar.cmpi .sgt v62 c0_i32_41
  let v83 : BitVec 32 := Scalar.extui v82
  let c0_i32_42 : BitVec 32 := 0#32
  let v84 : BitVec 1 := Scalar.cmpi .slt v62 c0_i32_42
  let v85 : BitVec 32 := Scalar.extui v84
  let v86 : BitVec 32 := Scalar.subi v83 v85
  let c2_i32_40 : BitVec 32 := 2#32
  let c0_i32_43 : BitVec 32 := 0#32
  let v87 : BitVec 1 := Scalar.cmpi .sgt c2_i32_40 c0_i32_43
  let v88 : BitVec 32 := Scalar.extui v87
  let c0_i32_44 : BitVec 32 := 0#32
  let v89 : BitVec 1 := Scalar.cmpi .slt c2_i32_40 c0_i32_44
  let v90 : BitVec 32 := Scalar.extui v89
  let v91 : BitVec 32 := Scalar.subi v88 v90
  let v92 : BitVec 1 := Scalar.cmpi .ne v86 v91
  let v93 : BitVec 32 := Scalar.remsi v62 c2_i32_40
  let c0_i32_45 : BitVec 32 := 0#32
  let v94 : BitVec 1 := Scalar.cmpi .ne v93 c0_i32_45
  let v95 : BitVec 1 := Scalar.andi v92 v94
  let v81 : BitVec 32 := Scalar.divsi v62 c2_i32_40
  let c1_i32_46 : BitVec 32 := 1#32
  let v96 : BitVec 32 := Scalar.subi v81 c1_i32_46
  let v97 : BitVec 32 := Scalar.select v95 v96 v81
  let v98 : BitVec 32 := Scalar.xori v62 v97
  let c0_i32_61 : BitVec 32 := 0#32
  let v127 : BitVec 1 := Scalar.cmpi .sgt v98 c0_i32_61
  let v128 : BitVec 32 := Scalar.extui v127
  let c0_i32_62 : BitVec 32 := 0#32
  let v129 : BitVec 1 := Scalar.cmpi .slt v98 c0_i32_62
  let v130 : BitVec 32 := Scalar.extui v129
  let v131 : BitVec 32 := Scalar.subi v128 v130
  let c2_i32_60 : BitVec 32 := 2#32
  let c0_i32_63 : BitVec 32 := 0#32
  let v132 : BitVec 1 := Scalar.cmpi .sgt c2_i32_60 c0_i32_63
  let v133 : BitVec 32 := Scalar.extui v132
  let c0_i32_64 : BitVec 32 := 0#32
  let v134 : BitVec 1 := Scalar.cmpi .slt c2_i32_60 c0_i32_64
  let v135 : BitVec 32 := Scalar.extui v134
  let v136 : BitVec 32 := Scalar.subi v133 v135
  let v137 : BitVec 1 := Scalar.cmpi .ne v131 v136
  let v138 : BitVec 32 := Scalar.remsi v98 c2_i32_60
  let c0_i32_65 : BitVec 32 := 0#32
  let v139 : BitVec 1 := Scalar.cmpi .ne v138 c0_i32_65
  let v140 : BitVec 1 := Scalar.andi v137 v139
  let v126 : BitVec 32 := Scalar.divsi v98 c2_i32_60
  let c1_i32_66 : BitVec 32 := 1#32
  let v141 : BitVec 32 := Scalar.subi v126 c1_i32_66
  let v142 : BitVec 32 := Scalar.select v140 v141 v126
  let c8_i32_1270_r0 : BitVec 32 := 8#32
  let v1991_r0 : BitVec 32 := Scalar.muli v142 c8_i32_1270_r0
  let v1992_r0 : BitVec 32 := Scalar.addi c0_i32_1271_r0 v1991_r0
  let c2_i32_67 : BitVec 32 := 2#32
  let c0_i32_68 : BitVec 32 := 0#32
  let v143 : BitVec 1 := Scalar.cmpi .eq c2_i32_67 c0_i32_68
  let c1_i32_69 : BitVec 32 := 1#32
  let v144 : BitVec 32 := Scalar.select v143 c1_i32_69 c2_i32_67
  let v145 : BitVec 32 := Scalar.remsi v98 v144
  let c0_i32_71 : BitVec 32 := 0#32
  let v147 : BitVec 1 := Scalar.cmpi .slt v145 c0_i32_71
  let c0_i32_72 : BitVec 32 := 0#32
  let v148 : BitVec 1 := Scalar.cmpi .slt v144 c0_i32_72
  let v149 : BitVec 1 := Scalar.xori v147 v148
  let c0_i32_70 : BitVec 32 := 0#32
  let v146 : BitVec 1 := Scalar.cmpi .ne v145 c0_i32_70
  let v150 : BitVec 1 := Scalar.andi v149 v146
  let v151 : BitVec 32 := Scalar.addi v145 v144
  let v152 : BitVec 32 := Scalar.select v150 v151 v145
  let c4_i32_1272_r0 : BitVec 32 := 4#32
  let v1993_r0 : BitVec 32 := Scalar.muli v152 c4_i32_1272_r0
  let v1994_r0 : BitVec 32 := Scalar.addi v1992_r0 v1993_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1273_r0 : BitVec 32 := 1#32
  let v1995_r0 : BitVec 32 := Scalar.muli v8 c1_i32_1273_r0
  let v1996_r0 : BitVec 32 := Scalar.addi v1994_r0 v1995_r0
  v1996_r0.toNat
abbrev stage0_0 : Fin 1 → Memref sig .tc .vmem S8192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S32768x1024 : Shape := ⟨2, ![32768, 1024]⟩
abbrev S4x8192x1024 : Shape := ⟨3, ![4, 8192, 1024]⟩
abbrev S_ : Shape := ⟨0, ![]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x8192x1024, .f32⟩
  | .hbm, ⟨2, _⟩ => ⟨S_, .f32⟩
  | .hbm, ⟨3, _⟩ => ⟨S8192x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Common.lean ====
/-
The all-reduce over `z` on the 2×2×4 mesh: the mesh's maps, the buffers' chunks, the semaphores, the contents that
travel, and the protocol as a schedule of rounds — every cell has one round.

Chunk `j` of a device's block is 256 rows; a transfer is named by its kind `k : Fin 5` and its chunk:
  kind 0: a prefix of the sum goes up the `z` line, into the next device's `pbuf`;
  kind 1: a suffix of the sum goes down the `z` line, into the previous device's `sbuf`;
  kinds 2, 3, 4: the three hops of the all-gather on the ring of four in the plane, chunks 0–3 one way round, 4–7 the
    other, straight into the result.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the rounds' (duties named by a direction) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh -/

/-- A device's place on its `z` line. -/
def zOf (c : Dev nD) : Fin 4 := Fin.ofNat 4 (c.val % 4)
/-- A device's place in the plane, `2 x + y`. -/
def qOf (c : Dev nD) : Fin 4 := Fin.ofNat 4 (c.val / 4)
/-- The ring of four in the plane: 0 → 1 → 3 → 2 → 0, and back. -/
def qNext : Fin 4 → Fin 4 := fun | 0 => 1 | 1 => 3 | 2 => 0 | 3 => 2
def qPrev : Fin 4 → Fin 4 := fun | 0 => 2 | 1 => 0 | 2 => 3 | 3 => 1
/-- The device at a place in the plane and on the `z` line. -/
def devAt (q z : Fin 4) : Dev nD := Fin.ofNat 16 (q.val * 4 + z.val)

def zl (c : Dev nD) : Dev nD := devAt (qOf c) (zOf c + 3)
def zr (c : Dev nD) : Dev nD := devAt (qOf c) (zOf c + 1)
def nx (c : Dev nD) : Dev nD := devAt (qNext (qOf c)) (zOf c)
def pv (c : Dev nD) : Dev nD := devAt (qPrev (qOf c)) (zOf c)

/-- Whom a device's signal of direction `e` goes to; -/
def sigTo (e : Fin 4) : Dev nD → Dev nD := match e with | 0 => zl | 1 => zr | 2 => nx | 3 => pv
/-- and from whom a device gets its signal of direction `e`. -/
def sigOf (e : Fin 4) : Dev nD → Dev nD := match e with | 0 => zr | 1 => zl | 2 => pv | 3 => nx

theorem sigOf_sigTo (e : Fin 4) (c : Dev nD) : sigOf e (sigTo e c) = c := by revert e c; decide +kernel
theorem sigTo_sigOf (e : Fin 4) (c : Dev nD) : sigTo e (sigOf e c) = c := by revert e c; decide +kernel
def around (e : Fin 4) : Dev nD ≃ Dev nD := ⟨sigTo e, sigOf e, sigOf_sigTo e, sigTo_sigOf e⟩

/-- A transfer's direction: the direction of the signal that lends its destination. -/
def dir (k : Fin 5) (j : Fin 8) : Fin 4 := match k with
  | 0 => 0 | 1 => 1 | 2 => bif Nat.blt j.val 4 then 3 else 2 | 3 => bif Nat.blt j.val 4 then 3 else 2 | 4 => bif Nat.blt j.val 4 then 3 else 2
/-- Whom a device's transfer goes to, and from whom it gets its own. -/
def tgt (k : Fin 5) (j : Fin 8) (c : Dev nD) : Dev nD := sigOf (dir k j) c
def src (k : Fin 5) (j : Fin 8) (c : Dev nD) : Dev nD := sigTo (dir k j) c

theorem src_tgt (k : Fin 5) (j : Fin 8) (c : Dev nD) : src k j (tgt k j c) = c := sigTo_sigOf _ c
theorem tgt_src (k : Fin 5) (j : Fin 8) (c : Dev nD) : tgt k j (src k j c) = c := sigOf_sigTo _ c

/-- Which kinds a device at place `z` of its line sends, and which it receives. -/
def actS (z : Fin 4) (k : Fin 5) : Bool := match k with
  | 0 => match z with | 0 => true | 1 => true | 2 => true | 3 => false
  | 1 => match z with | 0 => false | 1 => true | 2 => true | 3 => true
  | 2 => true | 3 => true | 4 => true
def actR (z : Fin 4) (k : Fin 5) : Bool := match k with
  | 0 => match z with | 0 => false | 1 => true | 2 => true | 3 => true
  | 1 => match z with | 0 => true | 1 => true | 2 => true | 3 => false
  | 2 => true | 3 => true | 4 => true

theorem actS_src (k : Fin 5) (j : Fin 8) (c : Dev nD) : actS (zOf (src k j c)) k = actR (zOf c) k := by
  revert k j c; decide +kernel
theorem actR_tgt (k : Fin 5) (j : Fin 8) (c : Dev nD) : actR (zOf (tgt k j c)) k = actS (zOf c) k := by
  revert k j c; decide +kernel

/-- The device whose block device `c` gets in chunk `j` after `t` hops of the all-gather. -/
def own (j : Fin 8) : ℕ → Dev nD → Dev nD
  | 0, c => c
  | t + 1, c => own j t (src 2 j c)

/-! ## The buffers' chunks -/

abbrev xM : Memref sig .tc .hbm S8192x1024 .f32 := Memref.whole main_arg0
abbrev oM : Memref sig .tc .vmem S8192x1024 .f32 := Memref.whole cc0_stg0_0
abbrev pM : Memref sig .tc .vmem S2048x1024 .f32 := Memref.whole cc0_scratch0
abbrev sM : Memref sig .tc .vmem S2048x1024 .f32 := Memref.whole cc0_scratch1

theorem inbBig (b : Fin 4) (j : Fin 8) : ∀ a, (![2048 * b.val + 256 * j.val, 0] : Fin 2 → ℕ) a + S256x1024.size a ≤ S8192x1024.size a := by
  revert b j; decide
theorem inbBuf (j : Fin 8) : ∀ a, (![256 * j.val, 0] : Fin 2 → ℕ) a + S256x1024.size a ≤ S2048x1024.size a := by
  revert j; decide

abbrev bigRect (b : Fin 4) (j : Fin 8) : Rect S8192x1024 := Rect.unit (s := S8192x1024) ![2048 * b.val + 256 * j.val, 0] S256x1024.size (inbBig b j)
abbrev bufRect (j : Fin 8) : Rect S2048x1024 := Rect.unit (s := S2048x1024) ![256 * j.val, 0] S256x1024.size (inbBuf j)

/-- Rows `2048 b + 256 j …` of the result and of the argument, and chunk `j` of the two buffers. -/
abbrev outCh (b : Fin 4) (j : Fin 8) : Memref sig .tc .vmem S256x1024 .f32 := oM.slice (bigRect b j) (fun _ => rfl)
abbrev argCh (b : Fin 4) (j : Fin 8) : Memref sig .tc .hbm S256x1024 .f32 := xM.slice (bigRect b j) (fun _ => rfl)
abbrev pCh (j : Fin 8) : Memref sig .tc .vmem S256x1024 .f32 := pM.slice (bufRect j) (fun _ => rfl)
abbrev sCh (j : Fin 8) : Memref sig .tc .vmem S256x1024 .f32 := sM.slice (bufRect j) (fun _ => rfl)

/-- The places a chunk has on device `c`: 0 its own rows of the result, 1 `pbuf`, 2 `sbuf`, `3 + t` the rows of the block
    that arrives by hop `t` of the all-gather. -/
def place (c : Dev nD) (j : Fin 8) : ℕ → Memref sig .tc .vmem S256x1024 .f32
  | 0 => outCh (qOf c) j
  | 1 => pCh j
  | 2 => sCh j
  | t + 3 => outCh (qOf (own j (t + 1) c)) j

/-- Where a transfer is read at its sender, and where it lands. -/
def srcPl (z : Fin 4) (k : Fin 5) : ℕ := match k with
  | 0 => match z with | 0 => 0 | 1 => 1 | 2 => 1 | 3 => 1
  | 1 => match z with | 0 => 2 | 1 => 2 | 2 => 2 | 3 => 0
  | 2 => 0 | 3 => 3 | 4 => 4
def dstPl (k : Fin 5) : ℕ := match k with | 0 => 1 | 1 => 2 | 2 => 3 | 3 => 4 | 4 => 5

/-! ## The semaphores -/

set_option maxRecDepth 4000 in
abbrev barS : Sem sig := (SemArray.scalar (sig.barrier 0 rfl) : Sems sig S_).sem
abbrev copyS : DmaSem sig := cc0_scratch2.sem
abbrev exitS : Sem sig := cc0_scoped0.sem

/-- The semaphores of transfer `(k, j)`: the sender's and the receiver's. -/
def sendS (k : Fin 5) (j : Fin 8) : DmaSem sig := match k with
  | 0 => Fin.ofNat 82 (10 + j.val) | 1 => Fin.ofNat 82 (26 + j.val)
  | 2 => Fin.ofNat 82 (34 + 3 * j.val) | 3 => Fin.ofNat 82 (35 + 3 * j.val) | 4 => Fin.ofNat 82 (36 + 3 * j.val)
def recvS (k : Fin 5) (j : Fin 8) : DmaSem sig := match k with
  | 0 => Fin.ofNat 82 (2 + j.val) | 1 => Fin.ofNat 82 (18 + j.val)
  | 2 => Fin.ofNat 82 (58 + 3 * j.val) | 3 => Fin.ofNat 82 (59 + 3 * j.val) | 4 => Fin.ofNat 82 (60 + 3 * j.val)

/-- What a DMA semaphore is for. -/
inductive Role where
  | other | copy | send (k : Fin 5) (j : Fin 8) | recv (k : Fin 5) (j : Fin 8)
deriving DecidableEq

def hop (n : ℕ) : Fin 5 := Fin.ofNat 5 (2 + n % 3)

def role (s : DmaSem sig) : Role :=
  if s.val < 1 then .other else if s.val < 2 then .copy
  else if s.val < 10 then .recv 0 (Fin.ofNat 8 (s.val - 2))
  else if s.val < 18 then .send 0 (Fin.ofNat 8 (s.val - 10))
  else if s.val < 26 then .recv 1 (Fin.ofNat 8 (s.val - 18))
  else if s.val < 34 then .send 1 (Fin.ofNat 8 (s.val - 26))
  else if s.val < 58 then .send (hop (s.val - 34)) (Fin.ofNat 8 ((s.val - 34) / 3))
  else .recv (hop (s.val - 58)) (Fin.ofNat 8 ((s.val - 58) / 3))

theorem role_send (k : Fin 5) (j : Fin 8) : role (sendS k j) = .send k j := by revert k j; decide +kernel
theorem role_recv (k : Fin 5) (j : Fin 8) : role (recvS k j) = .recv k j := by revert k j; decide +kernel
theorem role_copy : role copyS = .copy := by decide +kernel

abbrev barCell (c : Dev nD) : GSem nD τ sig := ((c : Thread nD τ), .reg barS)
abbrev exitCell (c : Dev nD) : GSem nD τ sig := ((c : Thread nD τ), .reg exitS)
abbrev copyCell (c : Dev nD) : GSem nD τ sig := ((c : Thread nD τ), .dma copyS)
abbrev sendCell (k : Fin 5) (j : Fin 8) (c : Dev nD) : GSem nD τ sig := ((c : Thread nD τ), .dma (sendS k j))
abbrev recvCell (k : Fin 5) (j : Fin 8) (c : Dev nD) : GSem nD τ sig := ((c : Thread nD τ), .dma (recvS k j))

theorem exit_ne_bar : exitS ≠ barS := by decide

/-- A chunk's credit, and the entry copy's. -/
def N : ℕ := (pCh 0).view.dmaCredit
theorem N_pos : 0 < N := View.dmaCredit_pos _ (by decide)

abbrev ownRows (c : Dev nD) : Memref sig .tc .vmem S2048x1024 .f32 :=
  oM.slice (Rect.unit (s := S8192x1024) (k0_off1 c) S2048x1024.size (k0_off1_inb c)) (fun _ => rfl)
abbrev argRows (c : Dev nD) : Memref sig .tc .hbm S2048x1024 .f32 :=
  xM.slice (Rect.unit (s := S8192x1024) (k0_off1 c) S2048x1024.size (k0_off1_inb c)) (fun _ => rfl)

def NC : ℕ := (ownRows 0).view.dmaCredit
theorem NC_pos : 0 < NC := View.dmaCredit_pos _ (by decide)

/-! ## The contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

abbrev V : Type := Vec F S256x1024 .f32

/-- Chunk `j` of device `c`'s own block of its argument. -/
def X (c : Dev nD) (j : Fin 8) : Vec F S256x1024 .f32 := (argCh (qOf c) j).view.read (Elt F) (m ((c : Thread nD τ).loc main_arg0))

/-- What the kernel stores, as it computes it: a buffer's chunk plus the own chunk; the own chunk plus the buffer's; prefix plus
    suffix less the own chunk, which both hold. -/
def accV (a b : Vec F S256x1024 .f32) : Vec F S256x1024 .f32 := k0_pay1 a b
def addV (a b : Vec F S256x1024 .f32) : Vec F S256x1024 .f32 := k0_pay40 a b
def mixV (a b x : Vec F S256x1024 .f32) : Vec F S256x1024 .f32 := k0_pay30 a b x

/-- The sum of the blocks of the devices up to `c` on its `z` line (`n` of them before it), and from `c` on. -/
def prefixV (j : Fin 8) : ℕ → Dev nD → Vec F S256x1024 .f32
  | 0, c => X m c j
  | n + 1, c => accV (prefixV j n (zl c)) (X m c j)
def suffixV (j : Fin 8) : ℕ → Dev nD → Vec F S256x1024 .f32
  | 0, c => X m c j
  | n + 1, c => accV (suffixV j n (zr c)) (X m c j)

/-- How many devices come after place `z`. -/
def above (z : Fin 4) : ℕ := 3 - z.val

/-- The reduced chunk device `c` ends its own block with. -/
def red (j : Fin 8) (c : Dev nD) : Vec F S256x1024 .f32 := match zOf c with
  | 0 => addV (X m c j) (suffixV m j (above (zOf (zr c))) (zr c))
  | 1 => mixV (prefixV m j (zOf c).val c) (suffixV m j (above (zOf c)) c) (X m c j)
  | 2 => mixV (prefixV m j (zOf c).val c) (suffixV m j (above (zOf c)) c) (X m c j)
  | 3 => prefixV m j (zOf c).val c

/-- What transfer `(k, j)` carries away from device `c`, and what it brings there. -/
def sendVal (k : Fin 5) (j : Fin 8) (c : Dev nD) : Vec F S256x1024 .f32 := match k with
  | 0 => prefixV m j (zOf c).val c
  | 1 => suffixV m j (above (zOf c)) c
  | 2 => red m j (own j 0 c) | 3 => red m j (own j 1 c) | 4 => red m j (own j 2 c)
def landVal (k : Fin 5) (j : Fin 8) (c : Dev nD) : Vec F S256x1024 .f32 := sendVal m k j (src k j c)

omit [FloatOps F] in
theorem landVal_tgt [FloatOps F] (k : Fin 5) (j : Fin 8) (c : Dev nD) : landVal m k j (tgt k j c) = sendVal m k j c := by
  unfold landVal; rw [src_tgt]

/-- The names of a place's contents. -/
inductive Nm where
  | x | pb | sb | lP | lS | red | l0 | l1 | l2
deriving DecidableEq

/-- The contents a name stands for, in chunk `j` of device `c`. -/
def val (c : Dev nD) (j : Fin 8) : Nm → Vec F S256x1024 .f32
  | .x => X m c j | .pb => sendVal m 0 j c | .sb => sendVal m 1 j c | .lP => landVal m 0 j c | .lS => landVal m 1 j c
  | .red => red m j c | .l0 => landVal m 2 j c | .l1 => landVal m 3 j c | .l2 => landVal m 4 j c

def srcNm (z : Fin 4) (k : Fin 5) : Nm := match k with
  | 0 => match z with | 0 => .x | 1 => .pb | 2 => .pb | 3 => .pb
  | 1 => match z with | 0 => .sb | 1 => .sb | 2 => .sb | 3 => .x
  | 2 => .red | 3 => .l0 | 4 => .l1
def dstNm (k : Fin 5) : Nm := match k with | 0 => .lP | 1 => .lS | 2 => .l0 | 3 => .l1 | 4 => .l2

theorem val_dst (k : Fin 5) (j : Fin 8) (c : Dev nD) : val m c j (dstNm k) = landVal m k j c := by
  fin_cases k <;> rfl

theorem val_src (k : Fin 5) (j : Fin 8) (c : Dev nD) (h : actS (zOf c) k = true) : val m c j (srcNm (zOf c) k) = sendVal m k j c := by
  fin_cases k
  · rcases hz : zOf c with ⟨_ | _ | _ | _ | z, hz'⟩
    · show X m c j = prefixV m j (zOf c).val c; rw [hz]; rfl
    · rfl
    · rfl
    · rw [hz] at h; exact absurd h (by intro h'; exact Bool.false_ne_true h')
    · omega
  · rcases hz : zOf c with ⟨_ | _ | _ | _ | z, hz'⟩
    · rw [hz] at h; exact absurd h (by intro h'; exact Bool.false_ne_true h')
    · rfl
    · rfl
    · show X m c j = suffixV m j (above (zOf c)) c; rw [hz]; rfl
    · omega
  · rfl
  · rfl
  · rfl

/-! ## The schedule -/

/-- Some contents in a chunk. -/
def someAt (c : Dev nD) (r : Memref sig .tc .vmem S256x1024 .f32) : sProp 𝕄 := iprop(∃ f, r.view.loc (c : Thread nD τ) ↦[r.view.set]{fullShare} f)
/-- The destination of transfer `(k, j)` of device `c`, on the device it goes to. -/
def dest (k : Fin 5) (j : Fin 8) (c : Dev nD) : sProp 𝕄 := someAt (tgt k j c) (place (tgt k j c) j (dstPl k))

/-- The transfers of direction `e` that a device at place `z` makes. -/
def transfers (z : Fin 4) (e : Fin 4) : Finset (Fin 5 × Fin 8) := Finset.univ.filter fun kj => dir kj.1 kj.2 = e ∧ actS z kj.1 = true

/-- What the signal of direction `e` on the barrier hands device `c`: the destinations of its transfers of that direction. -/
def barPay (c : Dev nD) (e : Fin 4) : sProp 𝕄 := bigSep (transfers (zOf c) e) fun kj => dest kj.1 kj.2 c
/-- What the sender's semaphore hands back: the share of the source that was lent; -/
def sendPay (k : Fin 5) (j : Fin 8) (c : Dev nD) : sProp 𝕄 := owns (c : Thread nD τ) (place c j (srcPl (zOf c) k)) fullShare.right (sendVal m k j c)
/-- the receiver's: the destination at what was sent. -/
def recvPay (k : Fin 5) (j : Fin 8) (c : Dev nD) : sProp 𝕄 := owns (c : Thread nD τ) (place c j (dstPl k)) fullShare (landVal m k j c)
/-- The entry copy's: the own rows of the result at the argument's, and the argument. -/
def copyPay (c : Dev nD) : sProp 𝕄 :=
  iprop(owns (c : Thread nD τ) (ownRows c) fullShare ((argRows c).view.read (Elt F) (m ((c : Thread nD τ).loc main_arg0)))
    ∗ ((argRows c).view.loc (c : Thread nD τ) ↦[(argRows c).view.set]{fullShare} m ((c : Thread nD τ).loc main_arg0)))

def dmaPay (c : Dev nD) : Role → sProp 𝕄
  | .other => iprop(emp) | .copy => copyPay m c | .send k j => sendPay m k j c | .recv k j => recvPay m k j c

def isTc (g : GSem nD τ sig) : Prop := g.1.2 = .tc
instance (g : GSem nD τ sig) : Decidable (isTc g) := by unfold isTc; infer_instance

/-- Which DMA semaphores a device at place `z` uses. -/
def live (z : Fin 4) : Role → Bool
  | .other => false | .copy => true | .send k _ => actS z k | .recv k _ => actR z k

/-- One round each: a barrier's or exit cell has four duties of one unit, a DMA cell in use one duty of its transfer's
    credit. -/
def rd : Rounds.Schedule (GSem nD τ sig) (Fin 4) 𝕄 where
  duties g r := if r = 0 ∧ isTc g then (match g.2 with | .reg _ => Finset.univ | .dma s => if live (zOf g.1.1) (role s) = true then {0} else ∅) else ∅
  unitless _ := False
  amount g _ _ := match g.2 with | .reg _ => 1 | .dma s => if role s = .copy then NC else N
  payload g _ e := match g.2 with
    | .reg s => if s = barS then barPay g.1.1 e else iprop(emp)
    | .dma s => dmaPay m g.1.1 (role s)
  amount_pos g _ _ _ := by
    obtain ⟨t, _ | s⟩ := g
    · exact Nat.one_pos
    · dsimp only; split
      · exact NC_pos
      · exact N_pos

instance rd_payload_storable (g : GSem nD τ sig) (r : ℕ) (d : Fin 4) :
    BI.Storable (upEmb : UEmb _ 𝕄) ((rd (F := F) m).payload g r d) := by
  obtain ⟨t, s | s⟩ := g
  · show BI.Storable upEmb (if s = barS then barPay t.1 d else iprop(emp))
    unfold barPay dest someAt
    split <;> infer_instance
  · show BI.Storable upEmb (dmaPay m t.1 (role s))
    cases role s <;> unfold dmaPay <;> (try unfold copyPay) <;> (try unfold sendPay) <;> (try unfold recvPay) <;> infer_instance

section Sched
variable (c : Dev nD) (k : Fin 5) (j : Fin 8) (d : Fin 4)

theorem duties_reg (s : Sem sig) : (rd (F := F) m).duties ((c : Thread nD τ), .reg s) 0 = Finset.univ := by dsimp only [rd]; exact if_pos ⟨rfl, rfl⟩
theorem duties_dma (s : DmaSem sig) : (rd (F := F) m).duties ((c : Thread nD τ), .dma s) 0 = if live (zOf c) (role s) = true then {0} else ∅ := by
  dsimp only [rd]; exact if_pos ⟨rfl, rfl⟩
theorem duties_copy : (rd (F := F) m).duties (copyCell c) 0 = {0} := by rw [duties_dma, role_copy]; exact if_pos rfl
theorem duties_send (h : actS (zOf c) k = true) : (rd (F := F) m).duties (sendCell k j c) 0 = {0} := by rw [duties_dma, role_send]; exact if_pos h
theorem duties_recv (h : actR (zOf c) k = true) : (rd (F := F) m).duties (recvCell k j c) 0 = {0} := by rw [duties_dma, role_recv]; exact if_pos h
/-- A semaphore out of use has no duty, in any round. -/
theorem duties_off (s : DmaSem sig) (h : live (zOf c) (role s) = false) (r : ℕ) : (rd (F := F) m).duties ((c : Thread nD τ), .dma s) r = ∅ := by
  dsimp only [rd]
  split
  · rw [h]; exact if_neg Bool.false_ne_true
  · rfl
theorem duties_later (g : GSem nD τ sig) : ∀ r, 1 ≤ r → (rd (F := F) m).duties g r = ∅ :=
  fun r hr => by dsimp only [rd]; rw [if_neg fun h => by omega]
theorem amount_reg (s : Sem sig) : (rd (F := F) m).amount ((c : Thread nD τ), .reg s) 0 d = 1 := rfl
theorem amount_copy : (rd (F := F) m).amount (copyCell c) 0 d = NC := by dsimp only [rd]; rw [role_copy]; exact if_pos rfl
theorem amount_send : (rd (F := F) m).amount (sendCell k j c) 0 d = N := by dsimp only [rd]; rw [role_send]; exact if_neg (by simp)
theorem amount_recv : (rd (F := F) m).amount (recvCell k j c) 0 d = N := by dsimp only [rd]; rw [role_recv]; exact if_neg (by simp)
theorem expect_reg (s : Sem sig) : (rd (F := F) m).expect ((c : Thread nD τ), .reg s) 0 = 4 := by
  unfold Schedule.expect Schedule.amountOf
  rw [duties_reg, Finset.sum_congr rfl fun d _ => amount_reg m c d s, Finset.sum_const, Finset.card_univ, Fintype.card_fin, smul_eq_mul]
/-- A round of one duty expects that duty's amount. -/
theorem expect_single {g : GSem nD τ sig} {n : ℕ} (hd : (rd (F := F) m).duties g 0 = {0}) (ha : (rd (F := F) m).amount g 0 0 = n) :
    (rd (F := F) m).expect g 0 = n := by
  unfold Schedule.expect Schedule.amountOf; rw [hd]; exact (Finset.sum_singleton _ _).trans ha
theorem expect_copy : (rd (F := F) m).expect (copyCell c) 0 = NC := expect_single m (duties_copy m c) (amount_copy m c 0)
theorem expect_send (h : actS (zOf c) k = true) : (rd (F := F) m).expect (sendCell k j c) 0 = N := expect_single m (duties_send m c k j h) (amount_send m c k j 0)
theorem expect_recv (h : actR (zOf c) k = true) : (rd (F := F) m).expect (recvCell k j c) 0 = N := expect_single m (duties_recv m c k j h) (amount_recv m c k j 0)
theorem payload_bar : (rd (F := F) m).payload (barCell c) 0 d = barPay c d := by dsimp only [rd]; exact if_pos rfl
theorem payload_exit : (rd (F := F) m).payload (exitCell c) 0 d = iprop(emp) := by show (if exitS = barS then barPay c d else iprop(emp)) = _; exact if_neg exit_ne_bar
theorem payload_copy : (rd (F := F) m).payload (copyCell c) 0 d = copyPay m c := by show dmaPay m c (role copyS) = _; rw [role_copy]; rfl
theorem payload_send : (rd (F := F) m).payload (sendCell k j c) 0 d = sendPay m k j c := by show dmaPay m c (role (sendS k j)) = _; rw [role_send]; rfl
theorem payload_recv : (rd (F := F) m).payload (recvCell k j c) 0 d = recvPay m k j c := by show dmaPay m c (role (recvS k j)) = _; rw [role_recv]; rfl

theorem rest_bar : bigSep ((rd (F := F) m).duties (barCell c) 0 \ ∅) (fun d => (rd (F := F) m).payload (barCell c) 0 d)
    = bigSep Finset.univ fun e => barPay c e := by
  rw [Finset.sdiff_empty, duties_reg]; exact bigSep_congr fun e _ => payload_bar m c e
theorem rest_copy : bigSep ((rd (F := F) m).duties (copyCell c) 0 \ ∅) (fun d => (rd (F := F) m).payload (copyCell c) 0 d) = copyPay m c := by
  rw [Finset.sdiff_empty, duties_copy, bigSep_singleton, payload_copy]
theorem rest_send (h : actS (zOf c) k = true) : bigSep ((rd (F := F) m).duties (sendCell k j c) 0 \ ∅) (fun d => (rd (F := F) m).payload (sendCell k j c) 0 d) = sendPay m k j c := by
  rw [Finset.sdiff_empty, duties_send m c k j h, bigSep_singleton, payload_send]
theorem rest_recv (h : actR (zOf c) k = true) : bigSep ((rd (F := F) m).duties (recvCell k j c) 0 \ ∅) (fun d => (rd (F := F) m).payload (recvCell k j c) 0 d) = recvPay m k j c := by
  rw [Finset.sdiff_empty, duties_recv m c k j h, bigSep_singleton, payload_recv]

end Sched

/-! ## The levels -/

/-- When a transfer is waited for, in the pipeline's order: the step of the loop and the place within it. -/
def xferLv (z : Fin 4) (k : Fin 5) (j : Fin 8) : ℕ := match k with
  | 0 => 16 * j.val + z.val
  | 1 => match z with | 0 => 16 * (j.val + 6) + 4 | 1 => 16 * (j.val + 4) + 4 | 2 => 16 * (j.val + 2) + 4 | 3 => 0
  | 2 => 16 * (j.val + 10) + 9 | 3 => 16 * (j.val + 13) + 9 | 4 => 16 * (j.val + 16) + 9

def L (g : GSem nD τ sig) : Finset Unit := if g.1.2 = .tc then {()} else ∅
def dmaLv (c : Dev nD) : Role → ℕ
  | .other => 0 | .copy => 0 | .send _ _ => 0 | .recv k j => 10 + xferLv (zOf c) k j
/-- The barrier above every sender's semaphore and the copy; then the receivers' in order; the exit last. -/
def lv (g : GSem nD τ sig) (_ : Unit) : ℕ := match g.2 with
  | .reg s => if s = barS then 1 else 1000
  | .dma s => dmaLv g.1.1 (role s)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; exact if_pos rfl
theorem lv_exit (c : Dev nD) (u : Unit) : lv (exitCell c) u = 1000 := by dsimp only [lv]; exact if_neg exit_ne_bar
theorem lv_copy (c : Dev nD) (u : Unit) : lv (copyCell c) u = 0 := by show dmaLv c (role copyS) = _; rw [role_copy]; rfl
theorem lv_send (k : Fin 5) (j : Fin 8) (c : Dev nD) (u : Unit) : lv (sendCell k j c) u = 0 := by show dmaLv c (role (sendS k j)) = _; rw [role_send]; rfl
theorem lv_recv (k : Fin 5) (j : Fin 8) (c : Dev nD) (u : Unit) : lv (recvCell k j c) u = 10 + xferLv (zOf c) k j := by
  show dmaLv c (role (recvS k j)) = _; rw [role_recv]; rfl

end Cert.AllReduce

end
-- ==== Proof.State.lean ====
/-
A device's state in the middle of the kernel: for each chunk, what it holds at each of the chunk's places and where each of its
transfers stands, as a list of updates of the initial state; what it still owes; and one lemma per kind of step.
-/
module

public import proofs.«01_k».proof.Proof.Common
public import Idealize.ShloMosaic.Lib.MemrefSat

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## The cells by number -/

/-- The semaphores of the protocol: the DMA semaphores, the exit semaphore, the barrier's. -/
def csem (i : Fin 83) : SemLoc sig := if i.val < 81 then .dma (Fin.ofNat 82 (i.val + 1)) else if i.val < 82 then .reg exitS else .reg barS
abbrev kcell (x : Dev nD × Fin 83) : GSem nD τ sig := ((x.1 : Thread nD τ), csem x.2)

theorem csem_dma (s : DmaSem sig) (h : 0 < s.val) : csem (Fin.ofNat 83 (s.val - 1)) = .dma s := by
  revert s; decide +kernel
theorem csem_exit : csem 81 = .reg exitS := rfl
theorem csem_bar : csem 82 = .reg barS := rfl
theorem send_val_pos (k : Fin 5) (j : Fin 8) : 0 < (sendS k j).val := by revert k j; decide +kernel
theorem recv_val_pos (k : Fin 5) (j : Fin 8) : 0 < (recvS k j).val := by revert k j; decide +kernel

variable (m : (ℓ : Loc nD τ sig) → Buf (Elt F) ℓ)

/-- What every device knows: the cells' invariants, that they are at their first round, and the levels. -/
def Recs (K : Dev nD × Fin 83 → ℕ) : sProp 𝕄 :=
  iprop((bigSep Finset.univ fun x => cellInv ER (rd m) (K x) (kcell x)) ∗ (bigSep Finset.univ fun x => reached ER (kcell x) 0) ∗ levAts L lv)

instance Recs_persistent (K : Dev nD × Fin 83 → ℕ) : BI.Persistent (Recs m K) := by unfold Recs; infer_instance

theorem Recs_inv (K : Dev nD × Fin 83 → ℕ) (x : Dev nD × Fin 83) : Recs m K ⊢ cellInv ER (rd m) (K x) (kcell x) := by
  refine (show Recs m K ⊢ bigSep Finset.univ fun x => cellInv ER (rd m) (K x) (kcell x) from ?_).trans (bigSep_elim (Finset.mem_univ x))
  unfold Recs; iintro ⟨H, -⟩; iexact H
theorem Recs_reached (K : Dev nD × Fin 83 → ℕ) (x : Dev nD × Fin 83) : Recs m K ⊢ reached ER (kcell x) 0 := by
  refine (show Recs m K ⊢ bigSep Finset.univ fun x => reached ER (kcell x) 0 from ?_).trans (bigSep_elim (Finset.mem_univ x))
  unfold Recs; iintro ⟨-, H, -⟩; iexact H
theorem Recs_lev (K : Dev nD × Fin 83 → ℕ) : Recs m K ⊢ levAts L lv := by
  unfold Recs; iintro ⟨-, -, H⟩; iexact H

/-- The invariant's number of a DMA semaphore's cell. -/
def ix (s : DmaSem sig) : Fin 83 := Fin.ofNat 83 (s.val - 1)
theorem Recs_dma (K : Dev nD × Fin 83 → ℕ) (c : Dev nD) (s : DmaSem sig) (h : 0 < s.val) :
    Recs m K ⊢ iprop(cellInv ER (rd m) (K (c, ix s)) ((c : Thread nD τ), .dma s) ∗ reached ER ((c : Thread nD τ), .dma s) 0) := by
  have e : kcell (c, ix s) = ((c : Thread nD τ), SemLoc.dma s) := congrArg (Prod.mk _) (csem_dma s h)
  rw [← e]
  iintro #H
  isplitr
  · iapply (Recs_inv m K); iexact H
  · iapply (Recs_reached m K); iexact H

/-! ## The state -/

/-- How a place or a transfer stands: nothing held; held at named contents; the half held that was not lent; held at some
    contents; a transfer that can be made; one in flight; one waited for; one completed; one not made here. -/
inductive RS where
  | none | full (v : Nm) | left (v : Nm) | junk | ready | flight | wait | done | unused
deriving DecidableEq

/-- The number of a chunk's `r`-th item: places are 0–5, transfers made 6–10, transfers received 11–15. -/
abbrev at_ (j : ℕ) (r : ℕ) : ℕ := 16 * j + r
def jOf (i : ℕ) : Fin 8 := Fin.ofNat 8 (i / 16)
def outK (r : ℕ) : Fin 5 := Fin.ofNat 5 (r - 6)
def inK (r : ℕ) : Fin 5 := Fin.ofNat 5 (r - 11)

/-- The state the loop starts from, at place `z` of the line. -/
def init (z : Fin 4) (i : ℕ) : RS :=
  bif Nat.beq (i % 16) 0 then .full .x
  else bif Nat.beq (i % 16) 1 then (bif Nat.beq z.val 0 then .junk else .none)
  else bif Nat.beq (i % 16) 2 then (bif Nat.beq z.val 3 then .junk else .none)
  else bif Nat.blt (i % 16) 6 then .none
  else bif Nat.blt (i % 16) 11 then (bif actS z (outK (i % 16)) then .ready else .unused)
  else (bif actR z (inK (i % 16)) then .wait else .unused)

/-- The state after the updates `us`, the latest first. -/
def look (z : Fin 4) : List (ℕ × RS) → ℕ → RS
  | [], i => init z i
  | (a, s) :: us, i => bif Nat.beq a i then s else look z us i

theorem look_self (z : Fin 4) (a : ℕ) (s : RS) (us : List (ℕ × RS)) : look z ((a, s) :: us) a = s := by
  show (bif Nat.beq a a then s else _) = s; rw [Nat.beq_refl]; rfl
theorem look_ne (z : Fin 4) {a i : ℕ} (h : a ≠ i) (s : RS) (us : List (ℕ × RS)) : look z ((a, s) :: us) i = look z us i := by
  show (bif Nat.beq a i then s else _) = _
  rw [show Nat.beq a i = false from Bool.eq_false_iff.mpr fun h' => h (Nat.eq_of_beq_eq_true h')]; rfl

/-- What the item `r` of chunk `j` is worth in state `s`. -/
def resJ (c : Dev nD) (j : Fin 8) (r : ℕ) : RS → sProp 𝕄
  | .none => iprop(emp)
  | .full v => owns (c : Thread nD τ) (place c j r) fullShare (val m c j v)
  | .left v => owns (c : Thread nD τ) (place c j r) fullShare.left (val m c j v)
  | .junk => someAt c (place c j r)
  | .ready => iprop(dest (outK r) j c ∗ dutyTok ER (sendCell (outK r) j c) 0 0 ∗ dutyTok ER (recvCell (outK r) j (tgt (outK r) j c)) 0 0
      ∗ atPos ER (sendCell (outK r) j c) 0 ∅ 0)
  | .flight => iprop(cred (tallyAt (sendCell (outK r) j c) () N) ∗ atPos ER (sendCell (outK r) j c) 0 ∅ 0)
  | .wait => iprop(cred (tallyAt (recvCell (inK r) j c) () N) ∗ atPos ER (recvCell (inK r) j c) 0 ∅ 0)
  | .done => bif Nat.blt r 11 then atPos ER (sendCell (outK r) j c) 1 ∅ 0 else atPos ER (recvCell (inK r) j c) 1 ∅ 0
  | .unused => bif Nat.blt r 11 then atPos ER (sendCell (outK r) j c) 0 ∅ 0 else atPos ER (recvCell (inK r) j c) 0 ∅ 0

def res (c : Dev nD) (i : ℕ) (s : RS) : sProp 𝕄 := resJ m c (jOf i) (i % 16) s

theorem jOf_at (j : Fin 8) (r : ℕ) (hr : r < 16) : jOf (at_ j.val r) = j := by
  apply Fin.ext; show (16 * j.val + r) / 16 % 8 = j.val; have := j.isLt; omega
theorem mod_at (j : ℕ) (r : ℕ) (hr : r < 16) : at_ j r % 16 = r := by show (16 * j + r) % 16 = r; omega
theorem at_lt (j : Fin 8) (r : ℕ) (hr : r < 16) : at_ j.val r < 128 := by show 16 * j.val + r < 128; have := j.isLt; omega

theorem res_at (c : Dev nD) (j : Fin 8) (r : ℕ) (hr : r < 16) (s : RS) : res m c (at_ j.val r) s = resJ m c j r s := by
  unfold res; rw [jOf_at j r hr, mod_at j.val r hr]

def RS.isReady : RS → Bool | .ready => true | _ => false

/-- What a transfer not yet made owes its receiver. -/
def due (c : Dev nD) (i : ℕ) : CellTallies nD τ sig Unit :=
  tallyAt (recvCell (outK (i % 16)) (jOf i) (tgt (outK (i % 16)) (jOf i) c)) () N
def debt (c : Dev nD) (z : Fin 4) (us : List (ℕ × RS)) : CellTallies nD τ sig Unit :=
  ∑ i ∈ Finset.range 128, if (look z us i).isReady = true then due c i else 0
/-- What a device owes at the exit. -/
def exitDue (c : Dev nD) : CellTallies nD τ sig Unit :=
  tallyAt (exitCell (pv c)) () 1 + tallyAt (exitCell (nx c)) () 1 + tallyAt (exitCell (zr c)) () 1 + tallyAt (exitCell (zl c)) () 1

/-- What a device keeps until the exit: its exit cell and whom it signals there, the cells it is done with, its argument. -/
def Tail (c : Dev nD) : sProp 𝕄 :=
  iprop((atPos ER (exitCell c) 0 ∅ 0 ∗ cred (tallyAt (exitCell c) () 4)
      ∗ dutyTok ER (exitCell (zl c)) 0 0 ∗ dutyTok ER (exitCell (zr c)) 0 1 ∗ dutyTok ER (exitCell (nx c)) 0 2 ∗ dutyTok ER (exitCell (pv c)) 0 3)
    ∗ atPos ER (barCell c) 1 ∅ 0 ∗ atPos ER (copyCell c) 1 ∅ 0
    ∗ ((c : Thread nD τ).loc main_arg0 ↦{fullShare} m ((c : Thread nD τ).loc main_arg0)))

/-- The items of the state, and what waits for the exit. -/
def Items (c : Dev nD) (z : Fin 4) (us : List (ℕ × RS)) : sProp 𝕄 :=
  iprop(bigSep (Finset.range 128) (fun i => res m c i (look z us i)) ∗ Tail m c)

def St (K : Dev nD × Fin 83 → ℕ) (c : Dev nD) (z : Fin 4) (us : List (ℕ × RS)) : sProp 𝕄 :=
  iprop(Recs m K ∗ Items m c z us ∗ ∃ W, owes (c : Thread nD τ) (debt c z us + exitDue c) W)

/-- Two members out, and two others back in their place. -/
theorem pick2 {Φ Ψ : ℕ → sProp 𝕄} {s : Finset ℕ} {a b : ℕ} (ha : a ∈ s) (hb : b ∈ s) (hab : a ≠ b) (h : ∀ i, i ≠ a → i ≠ b → Φ i = Ψ i) :
    bigSep s Φ ⊢ iprop(Φ a ∗ Φ b ∗ ((Ψ a ∗ Ψ b) -∗ bigSep s Ψ)) := by
  have hb' : b ∈ s.erase a := Finset.mem_erase.mpr ⟨fun h => hab h.symm, hb⟩
  have e₁ : bigSep s Φ = iprop(Φ a ∗ Φ b ∗ bigSep ((s.erase a).erase b) Ψ) := by
    rw [bigSep_erase (Φ := Φ) ha, bigSep_erase (Φ := Φ) hb',
      bigSep_congr (Φ := Φ) (Ψ := Ψ) fun i hi => h i (Finset.ne_of_mem_erase (Finset.mem_of_mem_erase hi)) (Finset.ne_of_mem_erase hi)]
    rfl
  have e₂ : bigSep s Ψ = iprop(Ψ a ∗ Ψ b ∗ bigSep ((s.erase a).erase b) Ψ) := by
    rw [bigSep_erase (Φ := Ψ) ha, bigSep_erase (Φ := Ψ) hb']; rfl
  rw [e₁, e₂]
  iintro ⟨H1, H2, H3⟩
  isplitl [H1]; · iexact H1
  isplitl [H2]; · iexact H2
  iintro ⟨H1, H2⟩
  isplitl [H1]; · iexact H1
  isplitl [H2] <;> iassumption
/-- One member out, and another back in its place. -/
theorem pick1 {Φ Ψ : ℕ → sProp 𝕄} {s : Finset ℕ} {a : ℕ} (ha : a ∈ s) (h : ∀ i, i ≠ a → Φ i = Ψ i) :
    bigSep s Φ ⊢ iprop(Φ a ∗ (Ψ a -∗ bigSep s Ψ)) := by
  have e₁ : bigSep s Φ = iprop(Φ a ∗ bigSep (s.erase a) Ψ) := by
    rw [bigSep_erase (Φ := Φ) ha, bigSep_congr (Φ := Φ) (Ψ := Ψ) fun i hi => h i (Finset.ne_of_mem_erase hi)]; rfl
  have e₂ : bigSep s Ψ = iprop(Ψ a ∗ bigSep (s.erase a) Ψ) := bigSep_erase (Φ := Ψ) ha
  rw [e₁, e₂]
  iintro ⟨H1, H3⟩
  isplitl [H1]; · iexact H1
  iintro H1
  isplitl [H1] <;> iassumption

/-- Two items of the state out, and two others back. -/
theorem take2' (c : Dev nD) (z : Fin 4) (us : List (ℕ × RS)) (j : Fin 8) (ra rb : ℕ) (hra : ra < 16) (hrb : rb < 16) (hab : ra ≠ rb)
    {s₁ s₂ : RS} (h₁ : look z us (at_ j.val ra) = s₁) (h₂ : look z us (at_ j.val rb) = s₂) (t₁ t₂ : RS) :
    bigSep (Finset.range 128) (fun i => res m c i (look z us i))
      ⊢ iprop(resJ m c j ra s₁ ∗ resJ m c j rb s₂
        ∗ ((resJ m c j ra t₁ ∗ resJ m c j rb t₂) -∗ bigSep (Finset.range 128) (fun i => res m c i (look z ((at_ j.val ra, t₁) :: (at_ j.val rb, t₂) :: us) i)))) := by
  have hne : at_ j.val ra ≠ at_ j.val rb := fun h => hab (by have h' : 16 * j.val + ra = 16 * j.val + rb := h; omega)
  refine (pick2 (Ψ := fun i => res m c i (look z ((at_ j.val ra, t₁) :: (at_ j.val rb, t₂) :: us) i))
    (Finset.mem_range.mpr (at_lt j ra hra)) (Finset.mem_range.mpr (at_lt j rb hrb)) hne ?_).trans ?_
  · intro i ha hb
    show res m c i (look z us i) = res m c i (look z ((at_ j.val ra, t₁) :: (at_ j.val rb, t₂) :: us) i)
    rw [look_ne z (Ne.symm ha), look_ne z (Ne.symm hb)]
  · rw [look_self, look_ne z hne, look_self, h₁, h₂, res_at m c j ra hra, res_at m c j rb hrb, res_at m c j ra hra, res_at m c j rb hrb]
theorem take1' (c : Dev nD) (z : Fin 4) (us : List (ℕ × RS)) (j : Fin 8) (r : ℕ) (hr : r < 16) {s : RS} (h : look z us (at_ j.val r) = s) (t : RS) :
    bigSep (Finset.range 128) (fun i => res m c i (look z us i))
      ⊢ iprop(resJ m c j r s ∗ (resJ m c j r t -∗ bigSep (Finset.range 128) (fun i => res m c i (look z ((at_ j.val r, t) :: us) i)))) := by
  refine (pick1 (Ψ := fun i => res m c i (look z ((at_ j.val r, t) :: us) i)) (Finset.mem_range.mpr (at_lt j r hr)) ?_).trans ?_
  · intro i ha
    show res m c i (look z us i) = res m c i (look z ((at_ j.val r, t) :: us) i)
    rw [look_ne z (Ne.symm ha)]
  · rw [look_self, h, res_at m c j r hr, res_at m c j r hr]
theorem take0' (c : Dev nD) (z : Fin 4) (us : List (ℕ × RS)) (j : Fin 8) (r : ℕ) (hr : r < 16) {s : RS} (h : look z us (at_ j.val r) = s) :
    bigSep (Finset.range 128) (fun i => res m c i (look z us i))
      ⊢ iprop(resJ m c j r s ∗ (resJ m c j r s -∗ bigSep (Finset.range 128) (fun i => res m c i (look z us i)))) := by
  refine (pick1 (Ψ := fun i => res m c i (look z us i)) (Finset.mem_range.mpr (at_lt j r hr)) fun _ _ => rfl).trans ?_
  rw [h, res_at m c j r hr]

theorem take2 (c : Dev nD) (z : Fin 4) (us : List (ℕ × RS)) (j : Fin 8) (ra rb : ℕ) (hra : ra < 16) (hrb : rb < 16) (hab : ra ≠ rb)
    {s₁ s₂ : RS} (h₁ : look z us (at_ j.val ra) = s₁) (h₂ : look z us (at_ j.val rb) = s₂) (t₁ t₂ : RS) :
    Items m c z us ⊢ iprop(resJ m c j ra s₁ ∗ resJ m c j rb s₂
        ∗ ((resJ m c j ra t₁ ∗ resJ m c j rb t₂) -∗ Items m c z ((at_ j.val ra, t₁) :: (at_ j.val rb, t₂) :: us))) := by
  unfold Items
  iintro ⟨H, HT⟩
  ihave H := (take2' m c z us j ra rb hra hrb hab h₁ h₂ t₁ t₂) $$ H
  icases H with ⟨Ha, Hb, H⟩
  isplitl [Ha]; · iexact Ha
  isplitl [Hb]; · iexact Hb
  iintro Hab
  isplitl [H Hab]; · iapply H; iexact Hab
  iexact HT
theorem take1 (c : Dev nD) (z : Fin 4) (us : List (ℕ × RS)) (j : Fin 8) (r : ℕ) (hr : r < 16) {s : RS} (h : look z us (at_ j.val r) = s) (t : RS) :
    Items m c z us ⊢ iprop(resJ m c j r s ∗ (resJ m c j r t -∗ Items m c z ((at_ j.val r, t) :: us))) := by
  unfold Items
  iintro ⟨H, HT⟩
  ihave H := (take1' m c z us j r hr h t) $$ H
  icases H with ⟨Ha, H⟩
  isplitl [Ha]; · iexact Ha
  iintro Hab
  isplitl [H Hab]; · iapply H; iexact Hab
  iexact HT
theorem take0 (c : Dev nD) (z : Fin 4) (us : List (ℕ × RS)) (j : Fin 8) (r : ℕ) (hr : r < 16) {s : RS} (h : look z us (at_ j.val r) = s) :
    Items m c z us ⊢ iprop(resJ m c j r s ∗ (resJ m c j r s -∗ Items m c z us)) := by
  unfold Items
  iintro ⟨H, HT⟩
  ihave H := (take0' m c z us j r hr h) $$ H
  icases H with ⟨Ha, H⟩
  isplitl [Ha]; · iexact Ha
  iintro Hab
  isplitl [H Hab]; · iapply H; iexact Hab
  iexact HT

/-! ### What is owed -/

theorem debt_upd (c : Dev nD) (z : Fin 4) (us : List (ℕ × RS)) (a : ℕ) (s : RS) (h : (look z us a).isReady = false) (h' : s.isReady = false) :
    debt c z ((a, s) :: us) = debt c z us := by
  unfold debt
  refine Finset.sum_congr rfl fun i _ => ?_
  by_cases hi : a = i
  · subst hi; rw [look_self, h, h']
  · rw [look_ne z hi]
theorem debt_send (c : Dev nD) (z : Fin 4) (us : List (ℕ × RS)) (a : ℕ) (s : RS) (ha : a < 128) (h : (look z us a).isReady = true) (h' : s.isReady = false) :
    debt c z us = debt c z ((a, s) :: us) + due c a := by
  unfold debt
  rw [← Finset.sum_erase_add _ _ (Finset.mem_range.mpr ha), ← Finset.sum_erase_add (Finset.range 128) (fun i => if (look z ((a, s) :: us) i).isReady = true then due c i else 0) (Finset.mem_range.mpr ha)]
  rw [look_self, h, h', if_pos rfl, if_neg Bool.false_ne_true, add_zero]
  congr 1
  refine Finset.sum_congr rfl fun i hi => ?_
  rw [look_ne z (Ne.symm (Finset.ne_of_mem_erase hi))]

end Cert.AllReduce

end
-- ==== Proof.Steps.lean ====
/-
One lemma per kind of step the kernel takes: from the state before it, to the state after it.
-/
module

public import proofs.«01_k».proof.Proof.State

@[expose] public section

set_option maxRecDepth 20000

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What a program of device `c` must start from to end in `Q`. -/
def wpC (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ)

/-- From `S`, `P`: what a run is told as, step by step. -/
def Goes (S P : sProp 𝕄) : Prop := S ⊢ P

theorem ret_raw {c : Dev nD} {α : Type} {x : α} {Q : α → sProp 𝕄} : Q x ⊢ wp frame (wpE' defs₀ 𝒱₀ c.tc none PendingWaitsCtx.empty) Set.univ (.ret x) Q := by
  rw [wp_ret]; iintro H; imodintro; iexact H
theorem ret_intro {c : Dev nD} {α : Type} {x : α} {Q : α → sProp 𝕄} : Q x ⊢ wpC (F := F) c (.ret x) Q := ret_raw

section Glue
variable {c : Dev nD} {α β : Type}

theorem step_bind {S : sProp 𝕄} {p : Prog (TpuEff nD τ sig (Elt F) Λ₀ .tc) α} {k : α → Prog (TpuEff nD τ sig (Elt F) Λ₀ .tc) β} {Q : β → sProp 𝕄}
    (h : Goes S (wpC (F := F) c p (fun a => wpC (F := F) c (k a) Q))) : Goes S (wpC (F := F) c (p >>= k) Q) := by
  unfold Goes wpC at *; rw [wp_bind]; exact h
theorem step_pure {S : sProp 𝕄} {x : α} {Q : α → sProp 𝕄} (h : Goes S (Q x)) : Goes S (wpC (F := F) c (pure x) Q) :=
  BIBase.Entails.trans (show S ⊢ Q x from h) ret_intro
/-- A part's words play no role: what follows holds whatever they are. -/
theorem step_words {S : sProp 𝕄} {x : α} {Q : α → sProp 𝕄} (h : ∀ a : α, Goes S (Q a)) : Goes S (wpC (F := F) c (pure x) Q) := step_pure (h x)
/-- But the device it was told is kept. -/
theorem step_dev {S : sProp 𝕄} {β : Type} {d : Dev nD} {x : β} {Q : (Σ' _ : Dev nD, β) → sProp 𝕄} (h : Goes S (Q ⟨d, x⟩)) : Goes S (wpC (F := F) c (pure ⟨d, x⟩) Q) := step_pure h
theorem words_two {α : Type} {β : Type} {P : (Σ' _ : α, β) → Prop} (h : ∀ a b, P ⟨a, b⟩) : ∀ p, P p := fun ⟨a, b⟩ => h a b
theorem step_pos {S : sProp 𝕄} {p : Prop} [Decidable p] {a : p → Prog (TpuEff nD τ sig (Elt F) Λ₀ .tc) α} {b : ¬p → Prog (TpuEff nD τ sig (Elt F) Λ₀ .tc) α}
    {Q : α → sProp 𝕄} (hp : p) (h : Goes S (wpC (F := F) c (a hp) Q)) : Goes S (wpC (F := F) c (dite p a b) Q) := by rw [dif_pos hp]; exact h
theorem step_neg {S : sProp 𝕄} {p : Prop} [Decidable p] {a : p → Prog (TpuEff nD τ sig (Elt F) Λ₀ .tc) α} {b : ¬p → Prog (TpuEff nD τ sig (Elt F) Λ₀ .tc) α}
    {Q : α → sProp 𝕄} (hp : ¬p) (h : Goes S (wpC (F := F) c (b hp) Q)) : Goes S (wpC (F := F) c (dite p a b) Q) := by rw [dif_neg hp]; exact h
theorem step_device {S : sProp 𝕄} {Q : Dev nD → sProp 𝕄} (h : Goes S (Q c)) : Goes S (wpC (F := F) c (Prog.lift .deviceId) Q) := by
  refine BIBase.Entails.trans (show S ⊢ Q c from h) ?_
  unfold wpC Prog.lift; rw [wp_deviceId]; exact ret_intro

end Glue

/-! ## The items at a transfer's numbers -/

theorem outK_at (k : Fin 5) : outK (6 + k.val) = k := by revert k; decide
theorem inK_at (k : Fin 5) : inK (11 + k.val) = k := by revert k; decide

section Items
variable (c : Dev nD) (j : Fin 8) (k : Fin 5)
theorem resJ_ready : resJ m c j (6 + k.val) .ready
    = iprop(dest k j c ∗ dutyTok ER (sendCell k j c) 0 0 ∗ dutyTok ER (recvCell k j (tgt k j c)) 0 0 ∗ atPos ER (sendCell k j c) 0 ∅ 0) := by
  unfold resJ; dsimp only; rw [outK_at]
theorem resJ_flight : resJ m c j (6 + k.val) .flight = iprop(cred (tallyAt (sendCell k j c) () N) ∗ atPos ER (sendCell k j c) 0 ∅ 0) := by
  unfold resJ; dsimp only; rw [outK_at]
theorem resJ_wait : resJ m c j (11 + k.val) .wait = iprop(cred (tallyAt (recvCell k j c) () N) ∗ atPos ER (recvCell k j c) 0 ∅ 0) := by
  unfold resJ; dsimp only; rw [inK_at]
theorem resJ_sent : resJ m c j (6 + k.val) .done = atPos ER (sendCell k j c) 1 ∅ 0 := by
  unfold resJ; dsimp only; rw [outK_at, show Nat.blt (6 + k.val) 11 = true from by revert k; decide]; rfl
theorem resJ_got : resJ m c j (11 + k.val) .done = atPos ER (recvCell k j c) 1 ∅ 0 := by
  unfold resJ; dsimp only; rw [inK_at, show Nat.blt (11 + k.val) 11 = false from by revert k; decide]; rfl
theorem due_at : due c (at_ j.val (6 + k.val)) = tallyAt (recvCell k j (tgt k j c)) () N := by
  unfold due; rw [jOf_at j _ (by omega), mod_at _ _ (by omega), outK_at]
end Items

/-! ## The levels of what is owed -/

def tgtZ (z : Fin 4) (k : Fin 5) : Fin 4 := match k with | 0 => z + 1 | 1 => z + 3 | 2 => z | 3 => z | 4 => z
theorem zOf_tgt (k : Fin 5) (j : Fin 8) (c : Dev nD) : zOf (tgt k j c) = tgtZ (zOf c) k := by revert k j c; decide +kernel
def lvOut (z : Fin 4) (i : ℕ) : ℕ := 10 + xferLv (tgtZ z (outK (i % 16))) (outK (i % 16)) (jOf i)
theorem lvOut_pos (z : Fin 4) (i : ℕ) : 0 < lvOut z i := by unfold lvOut; omega
/-- Every transfer not yet made is waited for after level `l`. -/
def okWait (z : Fin 4) (us : List (ℕ × RS)) (l : ℕ) : Bool := (List.range 128).all fun i => bif (look z us i).isReady then Nat.blt l (lvOut z i) else true

theorem debt_pos {c : Dev nD} {z : Fin 4} {us : List (ℕ × RS)} {g : GSem nD τ sig} {u : Unit} (h : 0 < debt c z us g u) :
    ∃ i, i < 128 ∧ (look z us i).isReady = true ∧ g = recvCell (outK (i % 16)) (jOf i) (tgt (outK (i % 16)) (jOf i) c) := by
  unfold debt at h
  rw [Finset.sum_apply, Finsupp.finset_sum_apply] at h
  obtain ⟨i, hi, h⟩ := Finset.exists_ne_zero_of_sum_ne_zero (Nat.pos_iff_ne_zero.mp h)
  refine ⟨i, Finset.mem_range.mp hi, ?_⟩
  by_cases hr : (look z us i).isReady = true
  · rw [if_pos hr] at h
    unfold due at h
    rw [tallyAt_apply] at h
    exact ⟨hr, by by_contra hn; exact h (if_neg fun h' => hn h'.1)⟩
  · rw [if_neg hr] at h; exact absurd rfl h

theorem exitDue_pos {c : Dev nD} {g : GSem nD τ sig} {u : Unit} (h : 0 < exitDue c g u) : ∃ d, g = exitCell d := by
  unfold exitDue at h
  simp only [Pi.add_apply, Finsupp.add_apply, tallyAt_apply] at h
  by_contra hn
  rw [if_neg fun h' => hn ⟨_, h'.1⟩, if_neg fun h' => hn ⟨_, h'.1⟩, if_neg fun h' => hn ⟨_, h'.1⟩, if_neg fun h' => hn ⟨_, h'.1⟩] at h
  exact Nat.lt_irrefl 0 h

theorem mayWait {c : Dev nD} {z : Fin 4} (hz : zOf c = z) (us : List (ℕ × RS)) (sm : SemLoc sig) (l : ℕ) (hl : lv ((c : Thread nD τ), sm) () ≤ l) (hl' : l < 1000)
    (h : ∀ i, i < 128 → (look z us i).isReady = true → l < lvOut z i) :
    (levAts L lv : sProp 𝕄) ⊢ MayWait (c : Thread nD τ) sm () (debt c z us + exitDue c) := by
  have hg : ∀ (g : GSem nD τ sig) (u : Unit), 0 < (debt c z us + exitDue c) g u → u ∈ L g ∧ l < lv g u := by
    intro g u hg
    rw [Pi.add_apply, Finsupp.add_apply] at hg
    rcases Nat.eq_zero_or_pos (debt c z us g u) with h0 | hp
    · rw [h0, Nat.zero_add] at hg
      obtain ⟨d, rfl⟩ := exitDue_pos hg
      rw [L_tc, lv_exit]
      exact ⟨Finset.mem_singleton_self _, hl'⟩
    · obtain ⟨i, hi, hr, rfl⟩ := debt_pos hp
      rw [L_tc, lv_recv, zOf_tgt, hz]
      exact ⟨Finset.mem_singleton_self _, h i hi hr⟩
  exact MayOwe.of_cut (L := L) (lev := lv) l (fun p hp => by rw [Finset.mem_singleton.mp hp, L_tc]; exact Finset.mem_singleton_self _)
    (fun g u h => (hg g u h).1) (fun p hp => by rw [Finset.mem_singleton.mp hp]; exact hl) (fun g u h => (hg g u h).2)

theorem okWait_spec {z : Fin 4} {us : List (ℕ × RS)} {l : ℕ} (h : okWait z us l = true) :
    ∀ i, i < 128 → (look z us i).isReady = true → l < lvOut z i := by
  intro i hi hr
  have := List.all_eq_true.mp h i (List.mem_range.mpr hi)
  rw [hr] at this
  exact Nat.blt_eq.mp this

theorem srcPl_lt (z : Fin 4) (k : Fin 5) : srcPl z k < 6 := by revert z k; decide
theorem dstPl_lt (k : Fin 5) : dstPl k < 6 := by revert k; decide
theorem xferLv_lt (z : Fin 4) (k : Fin 5) (j : Fin 8) : 10 + xferLv z k j < 1000 := by revert z k j; decide +kernel
theorem credit_eq (v : View sig .tc .vmem S256x1024 .f32) : v.dmaCredit = N := rfl

/-! ## The semaphores as the program names them -/

/-- The number of the semaphore a row of them has at place `n`. -/
theorem sem_val {w n base nn : ℕ} (hb : base + (⟨1, ![w]⟩ : Shape).numel ≤ nn) (h : ∀ a, (![n] : Fin 1 → ℕ) a + S1.size a ≤ (⟨1, ![w]⟩ : Shape).size a) (hq : S1.Squeezes S_) :
    (((SemArray.consecutive base ⟨1, ![w]⟩ hb).slice (Rect.unit (s := ⟨1, ![w]⟩) ![n] S1.size h)).squeeze S_ hq).sem.val = base + n := by
  show base + ((⟨1, ![w]⟩ : Shape).rowMajor _).val = _
  rw [Shape.rowMajor_val_one]
  rw [show ∀ i : S1.Idx, ((Rect.unit (s := ⟨1, ![w]⟩) ![n] S1.size h).emb i 0).val = n + 1 * (i 0).val from fun _ => rfl]
  have : (Shape.reshapeEquiv hq.numel_eq (fun i => i.elim0) (0 : Fin 1)).val < 1 := (Shape.reshapeEquiv hq.numel_eq (fun i => i.elim0) (0 : Fin 1)).isLt
  have h0 := Nat.lt_one_iff.mp this
  rw [h0, Nat.mul_zero, Nat.add_zero]

theorem semRecvP {n : ℕ} (h : ∀ a, (![n] : Fin 1 → ℕ) a + S1.size a ≤ S8.size a) (hq : S1.Squeezes S_) :
    ((cc0_scratch3.slice (Rect.unit (s := S8) ![n] S1.size h)).squeeze S_ hq).sem = recvS 0 (Fin.ofNat 8 n) := by
  have hn : n < 8 := h 0
  refine Fin.ext ((sem_val _ h hq).trans ?_)
  exact (show ∀ i : Fin 8, 2 + i.val = (recvS 0 (Fin.ofNat 8 i.val)).val by decide +kernel) ⟨n, hn⟩
theorem semSendP {n : ℕ} (h : ∀ a, (![n] : Fin 1 → ℕ) a + S1.size a ≤ S8.size a) (hq : S1.Squeezes S_) :
    ((cc0_scratch4.slice (Rect.unit (s := S8) ![n] S1.size h)).squeeze S_ hq).sem = sendS 0 (Fin.ofNat 8 n) := by
  have hn : n < 8 := h 0
  refine Fin.ext ((sem_val _ h hq).trans ?_)
  exact (show ∀ i : Fin 8, 10 + i.val = (sendS 0 (Fin.ofNat 8 i.val)).val by decide +kernel) ⟨n, hn⟩
theorem semRecvS {n : ℕ} (h : ∀ a, (![n] : Fin 1 → ℕ) a + S1.size a ≤ S8.size a) (hq : S1.Squeezes S_) :
    ((cc0_scratch5.slice (Rect.unit (s := S8) ![n] S1.size h)).squeeze S_ hq).sem = recvS 1 (Fin.ofNat 8 n) := by
  have hn : n < 8 := h 0
  refine Fin.ext ((sem_val _ h hq).trans ?_)
  exact (show ∀ i : Fin 8, 18 + i.val = (recvS 1 (Fin.ofNat 8 i.val)).val by decide +kernel) ⟨n, hn⟩
theorem semSendS {n : ℕ} (h : ∀ a, (![n] : Fin 1 → ℕ) a + S1.size a ≤ S8.size a) (hq : S1.Squeezes S_) :
    ((cc0_scratch6.slice (Rect.unit (s := S8) ![n] S1.size h)).squeeze S_ hq).sem = sendS 1 (Fin.ofNat 8 n) := by
  have hn : n < 8 := h 0
  refine Fin.ext ((sem_val _ h hq).trans ?_)
  exact (show ∀ i : Fin 8, 26 + i.val = (sendS 1 (Fin.ofNat 8 i.val)).val by decide +kernel) ⟨n, hn⟩
theorem semSendA {n : ℕ} (h : ∀ a, (![n] : Fin 1 → ℕ) a + S1.size a ≤ S24.size a) (hq : S1.Squeezes S_) :
    ((cc0_scratch7.slice (Rect.unit (s := S24) ![n] S1.size h)).squeeze S_ hq).sem = sendS (Fin.ofNat 5 (2 + n % 3)) (Fin.ofNat 8 (n / 3)) := by
  have hn : n < 24 := h 0
  refine Fin.ext ((sem_val _ h hq).trans ?_)
  exact (show ∀ i : Fin 24, 34 + i.val = (sendS (Fin.ofNat 5 (2 + i.val % 3)) (Fin.ofNat 8 (i.val / 3))).val by decide +kernel) ⟨n, hn⟩
theorem semRecvA {n : ℕ} (h : ∀ a, (![n] : Fin 1 → ℕ) a + S1.size a ≤ S24.size a) (hq : S1.Squeezes S_) :
    ((cc0_scratch8.slice (Rect.unit (s := S24) ![n] S1.size h)).squeeze S_ hq).sem = recvS (Fin.ofNat 5 (2 + n % 3)) (Fin.ofNat 8 (n / 3)) := by
  have hn : n < 24 := h 0
  refine Fin.ext ((sem_val _ h hq).trans ?_)
  exact (show ∀ i : Fin 24, 58 + i.val = (recvS (Fin.ofNat 5 (2 + i.val % 3)) (Fin.ofNat 8 (i.val / 3))).val by decide +kernel) ⟨n, hn⟩

/-! ## The places as the program names them -/

theorem pl_own {c : Dev nD} {j : Fin 8} {off : Fin 2 → ℕ} (inb : ∀ a, off a + S256x1024.size a ≤ S8192x1024.size a)
    (h : off = ![2048 * (qOf c).val + 256 * j.val, 0]) :
    oM.slice (Rect.unit (s := S8192x1024) off S256x1024.size inb) (fun _ => rfl) = place c j 0 := by subst h; rfl
theorem pl_hop {c : Dev nD} {j : Fin 8} {t : ℕ} {off : Fin 2 → ℕ} (inb : ∀ a, off a + S256x1024.size a ≤ S8192x1024.size a)
    (h : off = ![2048 * (qOf (own j (t + 1) c)).val + 256 * j.val, 0]) :
    oM.slice (Rect.unit (s := S8192x1024) off S256x1024.size inb) (fun _ => rfl) = place c j (t + 3) := by subst h; rfl
theorem pl_p {c : Dev nD} {j : Fin 8} {off : Fin 2 → ℕ} (inb : ∀ a, off a + S256x1024.size a ≤ S2048x1024.size a) (h : off = ![256 * j.val, 0]) :
    pM.slice (Rect.unit (s := S2048x1024) off S256x1024.size inb) (fun _ => rfl) = place c j 1 := by subst h; rfl
/-- The chunk an offset into a buffer is of. -/
abbrev jAt (o : ℕ) : Fin 8 := Fin.ofNat 8 (o / 256)
theorem pl_p' {c : Dev nD} {o : ℕ} (inb : ∀ a, (![o, 0] : Fin 2 → ℕ) a + S256x1024.size a ≤ S2048x1024.size a) (h : o = 256 * (jAt o).val) :
    pM.slice (Rect.unit (s := S2048x1024) ![o, 0] S256x1024.size inb) (fun _ => rfl) = place c (jAt o) 1 := pl_p inb (congrArg (fun o => (![o, 0] : Fin 2 → ℕ)) h)
theorem pl_s {c : Dev nD} {j : Fin 8} {off : Fin 2 → ℕ} (inb : ∀ a, off a + S256x1024.size a ≤ S2048x1024.size a) (h : off = ![256 * j.val, 0]) :
    sM.slice (Rect.unit (s := S2048x1024) off S256x1024.size inb) (fun _ => rfl) = place c j 2 := by subst h; rfl

/-! ## What is stored -/

section Vals
variable {c : Dev nD} {z : Fin 4}

theorem zOf_zl (c : Dev nD) : zOf (zl c) = zOf c + 3 := by revert c; decide +kernel
theorem zOf_zr (c : Dev nD) : zOf (zr c) = zOf c + 1 := by revert c; decide +kernel

/-- The prefix that came, with the own chunk, is the prefix to send; -/
theorem acc_pb (j : Fin 8) (h : zOf c ≠ 0) : accV (val m c j .lP) (val m c j .x) = val m c j .pb := by
  show accV (prefixV m j (zOf (zl c)).val (zl c)) (X m c j) = prefixV m j (zOf c).val c
  rw [zOf_zl]
  generalize zOf c = z at h
  fin_cases z
  · exact absurd rfl h
  all_goals rfl
/-- so the suffix; -/
theorem acc_sb (j : Fin 8) (h : zOf c ≠ 3) : accV (val m c j .lS) (val m c j .x) = val m c j .sb := by
  show accV (suffixV m j (above (zOf (zr c))) (zr c)) (X m c j) = suffixV m j (above (zOf c)) c
  rw [zOf_zr]
  generalize zOf c = z at h
  fin_cases z
  · rfl
  · rfl
  · rfl
  · exact absurd rfl h
/-- and the reduced chunk: at the line's first device, between, and at its last. -/
theorem red_first (j : Fin 8) (h : zOf c = 0) : addV (val m c j .x) (val m c j .lS) = val m c j .red := by
  show _ = red m j c; unfold red; rw [h]; rfl
theorem red_one (j : Fin 8) (h : zOf c = 1) : mixV (val m c j .pb) (val m c j .sb) (val m c j .x) = val m c j .red := by
  show _ = red m j c; unfold red; rw [h]; show mixV (prefixV m j (zOf c).val c) (suffixV m j (above (zOf c)) c) _ = _; rw [h]; rfl
theorem red_two (j : Fin 8) (h : zOf c = 2) : mixV (val m c j .pb) (val m c j .sb) (val m c j .x) = val m c j .red := by
  show _ = red m j c; unfold red; rw [h]; show mixV (prefixV m j (zOf c).val c) (suffixV m j (above (zOf c)) c) _ = _; rw [h]; rfl
theorem red_last (j : Fin 8) (h : zOf c = 3) : val m c j .pb = val m c j .red := by
  show _ = red m j c; unfold red; rw [h]; show prefixV m j (zOf c).val c = _; rw [h]
end Vals

theorem pl_s' {c : Dev nD} {o : ℕ} (inb : ∀ a, (![o, 0] : Fin 2 → ℕ) a + S256x1024.size a ≤ S2048x1024.size a) (h : o = 256 * (jAt o).val) :
    sM.slice (Rect.unit (s := S2048x1024) ![o, 0] S256x1024.size inb) (fun _ => rfl) = place c (jAt o) 2 := pl_s inb (congrArg (fun o => (![o, 0] : Fin 2 → ℕ)) h)

section Step
variable {K : Dev nD × Fin 83 → ℕ} {c : Dev nD} {z : Fin 4} {us : List (ℕ × RS)}

/-! ## The waits -/

/-- The wait for a transfer made: the lent share of its source is back. -/
theorem st_waitSend (hz : zOf c = z) {k : Fin 5} {j : Fin 8} {s : DmaSem sig} (hs : s = sendS k j) (hk : actS z k = true)
    (h₁ : look z us (at_ j.val (6 + k.val)) = .flight) (h₂ : look z us (at_ j.val (srcPl z k)) = .left (srcNm z k))
    {src dst : Memref sig .tc .vmem S256x1024 .f32} {hsrc : src.view.WordExact} {hdst : dst.view.WordExact} {Q : PUnit → sProp 𝕄}
    (hQ : Goes (St m K c z ((at_ j.val (6 + k.val), .done) :: (at_ j.val (srcPl z k), .full (srcNm z k)) :: us)) (Q ⟨⟩)) :
    Goes (St m K c z us) (wpC c (Prog.lift (.waitDma2 s src dst hsrc hdst)) Q) := by
  unfold Goes at *
  subst hs
  have hsp := srcPl_lt z k
  have hk' : actS (zOf c) k = true := by rw [hz]; exact hk
  unfold wpC Prog.lift
  unfold St
  iintro ⟨#HR, Hs, %W, HO⟩
  ihave H := (take2 m c z us j (6 + k.val) (srcPl z k) (by omega) (by omega) (by omega) h₁ h₂ .done (.full (srcNm z k))) $$ Hs
  icases H with ⟨Ha, Hb, Hback⟩
  ihave Ha' := (Entails.of_eq (resJ_flight m c j k)) $$ Ha
  icases Ha' with ⟨Hc, Hat⟩
  ihave Hi := (Recs_dma m K c (sendS k j) (send_val_pos k j)) $$ HR
  icases Hi with ⟨#HI, -⟩
  iapply (Rounds.wp_wait_rest_token 𝒱₀ ER (rd m) (c : Thread nD τ) none (κ := K (c, ix (sendS k j)))
      (wpE_waitDma2_eq 𝒱₀ (c : Thread nD τ) none Set.univ) (Set.mem_univ _) () (O := debt c z us + exitDue c) (W := W) (R := 0) (m := 0) (T := ∅)
      (by rw [Nat.zero_add, expect_send m c k j hk']; exact credit_eq _)) $$ [Hc HO Hat]
  · isplitr; · iexact HI
    isplitl [Hc]; · rw [credit_eq]; iexact Hc
    isplitl [HO]; · iexact HO
    isplitr
    · have e₁ := Recs_lev m K
      have e₂ := mayWait (F := F) hz us (.dma (sendS k j)) 0 (le_of_eq (lv_send k j c ())) (by decide) (fun i _ _ => lvOut_pos z i)
      have e₃ := e₁.trans e₂
      iapply e₃; iexact HR
    iexact Hat
  iintro ⟨HO, Hat, -, Hpay⟩
  ihave Hp := (Entails.of_eq (rest_send m c k j hk')) $$ Hpay
  iapply (ret_raw (c := c))
  iapply hQ
  unfold St
  isplitr; · iexact HR
  isplitl [Hat Hb Hp Hback]
  · iapply Hback
    isplitl [Hat]; · rw [resJ_sent]; iexact Hat
    unfold resJ
    iapply (owns_halves (c : Thread nD τ) (place c j (srcPl z k)) fullShare (val m c j (srcNm z k))).2
    isplitl [Hb]; · iexact Hb
    unfold sendPay
    rw [hz, ← val_src m k j c hk', hz]
    iexact Hp
  · iexists _
    rw [debt_upd c z _ _ _ (by rw [look_ne z (by show 16 * j.val + srcPl z k ≠ 16 * j.val + (6 + k.val); omega), h₁]; rfl) rfl, debt_upd c z _ _ _ (by rw [h₂]; rfl) rfl]
    iexact HO

/-- The wait for a transfer to arrive: its destination, at what was sent. -/
theorem st_waitRecv (hz : zOf c = z) {k : Fin 5} {j : Fin 8} {s : DmaSem sig} (hs : s = recvS k j) (hk : actR z k = true)
    (h₁ : look z us (at_ j.val (11 + k.val)) = .wait) (h₂ : look z us (at_ j.val (dstPl k)) = .none)
    (hw : okWait z us (10 + xferLv z k j) = true)
    {src dst : Memref sig .tc .vmem S256x1024 .f32} {hsrc : src.view.WordExact} {hdst : dst.view.WordExact} {Q : PUnit → sProp 𝕄}
    (hQ : Goes (St m K c z ((at_ j.val (11 + k.val), .done) :: (at_ j.val (dstPl k), .full (dstNm k)) :: us)) (Q ⟨⟩)) :
    Goes (St m K c z us) (wpC c (Prog.lift (.waitDma2 s src dst hsrc hdst)) Q) := by
  unfold Goes at *
  subst hs
  have hsp := dstPl_lt k
  have hk' : actR (zOf c) k = true := by rw [hz]; exact hk
  have hl := xferLv_lt z k j
  unfold wpC Prog.lift
  unfold St
  iintro ⟨#HR, Hs, %W, HO⟩
  ihave H := (take2 m c z us j (11 + k.val) (dstPl k) (by omega) (by omega) (by omega) h₁ h₂ .done (.full (dstNm k))) $$ Hs
  icases H with ⟨Ha, -, Hback⟩
  ihave Ha' := (Entails.of_eq (resJ_wait m c j k)) $$ Ha
  icases Ha' with ⟨Hc, Hat⟩
  ihave Hi := (Recs_dma m K c (recvS k j) (recv_val_pos k j)) $$ HR
  icases Hi with ⟨#HI, -⟩
  iapply (Rounds.wp_wait_rest_token 𝒱₀ ER (rd m) (c : Thread nD τ) none (κ := K (c, ix (recvS k j)))
      (wpE_waitDma2_eq 𝒱₀ (c : Thread nD τ) none Set.univ) (Set.mem_univ _) () (O := debt c z us + exitDue c) (W := W) (R := 0) (m := 0) (T := ∅)
      (by rw [Nat.zero_add, expect_recv m c k j hk']; exact credit_eq _)) $$ [Hc HO Hat]
  · isplitr; · iexact HI
    isplitl [Hc]; · rw [credit_eq]; iexact Hc
    isplitl [HO]; · iexact HO
    isplitr
    · have e₁ := Recs_lev m K
      have e₂ := mayWait (F := F) hz us (.dma (recvS k j)) (10 + xferLv z k j) (le_of_eq ((lv_recv k j c ()).trans (by rw [hz]))) hl (okWait_spec hw)
      have e₃ := e₁.trans e₂
      iapply e₃; iexact HR
    iexact Hat
  iintro ⟨HO, Hat, -, Hpay⟩
  ihave Hp := (Entails.of_eq (rest_recv m c k j hk')) $$ Hpay
  iapply (ret_raw (c := c))
  iapply hQ
  unfold St
  isplitr; · iexact HR
  isplitl [Hat Hp Hback]
  · iapply Hback
    isplitl [Hat]; · rw [resJ_got]; iexact Hat
    unfold recvPay
    unfold resJ
    rw [← val_dst m k j c]
    iexact Hp
  · iexists _
    rw [debt_upd c z _ _ _ (by rw [look_ne z (by show 16 * j.val + dstPl k ≠ 16 * j.val + (11 + k.val); omega), h₁]; rfl) rfl, debt_upd c z _ _ _ (by rw [h₂]; rfl) rfl]
    iexact HO

/-! ## The sends -/

/-- A transfer starts: half of its source is lent, its destination goes with it. -/
theorem st_send (hz : zOf c = z) {k : Fin 5} {j : Fin 8} {n : ℕ} {hlt : n < nD} {sS sR : DmaSem sig} (hS : sS = sendS k j) (hR : sR = recvS k j) (hn : n = (tgt k j c).val)
    (hk : actS z k = true)
    (h₁ : look z us (at_ j.val (6 + k.val)) = .ready) (h₂ : look z us (at_ j.val (srcPl z k)) = .full (srcNm z k))
    {src : Memref sig .tc .vmem S256x1024 .f32} {dst : Memref sig (Dev.tc (⟨n, hlt⟩ : Dev nD) : Thread nD τ).2.kind .vmem S256x1024 .f32}
    (hs : src = place c j (srcPl z k)) (hd : dst = place (tgt k j c) j (dstPl k))
    {hsc : dst.view.ref.isScScratch = false} {hsrc : src.view.WordExact} {hdst : dst.view.WordExact}
    {hsem : DmaTarget.Typed .vmem (.dma sR) (.remote (Dev.tc (⟨n, hlt⟩ : Dev nD) : Thread nD τ) dst (.dma sS) hsc)} {Q : PUnit → sProp 𝕄}
    (hQ : Goes (St m K c z ((at_ j.val (6 + k.val), .flight) :: (at_ j.val (srcPl z k), .left (srcNm z k)) :: us)) (Q ⟨⟩)) :
    Goes (St m K c z us) (wpC (F := F) c (Prog.lift (.enqueueDma src (.remote (Dev.tc (⟨n, hlt⟩ : Dev nD) : Thread nD τ) dst (.dma sS) hsc) (.dma sR) hsrc hdst hsem)) Q) := by
  unfold Goes at *
  obtain rfl : (tgt k j c).val = n := hn.symm
  subst hS hR hs hd
  have hsp := srcPl_lt z k
  have hk' : actS (zOf c) k = true := by rw [hz]; exact hk
  have hr' : actR (zOf (tgt k j c)) k = true := by rw [actR_tgt]; exact hk'
  have hne : at_ j.val (srcPl z k) ≠ at_ j.val (6 + k.val) := by
    show 16 * j.val + srcPl z k ≠ 16 * j.val + (6 + k.val); omega
  have hdebt : debt c z us + exitDue c
      = (debt c z ((at_ j.val (6 + k.val), .flight) :: (at_ j.val (srcPl z k), .left (srcNm z k)) :: us) + exitDue c) + tallyAt (recvCell k j (tgt k j c)) () N := by
    rw [← debt_upd c z us (at_ j.val (srcPl z k)) (.left (srcNm z k)) (by rw [h₂]; rfl) rfl,
      debt_send c z _ (at_ j.val (6 + k.val)) .flight (at_lt j _ (by omega)) (by rw [look_ne z hne, h₁]; rfl) rfl, due_at, add_right_comm]
  unfold wpC Prog.lift
  unfold St
  iintro ⟨#HR, Hs, %W, HO⟩
  ihave H := (take2 m c z us j (6 + k.val) (srcPl z k) (by omega) (by omega) (by omega) h₁ h₂ .flight (.left (srcNm z k))) $$ Hs
  icases H with ⟨Ha, Hb, Hback⟩
  ihave Ha' := (Entails.of_eq (resJ_ready m c j k)) $$ Ha
  icases Ha' with ⟨Hd, Ht1, Ht2, Hat⟩
  ihave Hi := (Recs_dma m K c (sendS k j) (send_val_pos k j)) $$ HR
  icases Hi with ⟨#HI, #Hr⟩
  ihave Hi' := (Recs_dma m K (tgt k j c) (recvS k j) (recv_val_pos k j)) $$ HR
  icases Hi' with ⟨#HI', #Hr'⟩
  ihave Hb' := (show resJ m c j (srcPl z k) (.full (srcNm z k)) ⊢ _ from (owns_halves (c : Thread nD τ) (place c j (srcPl z k)) fullShare (val m c j (srcNm z k))).1) $$ Hb
  icases Hb' with ⟨Hl, Hrt⟩
  unfold dest someAt
  icases Hd with ⟨%fd, Hd⟩
  unfold owns
  icases Hrt with ⟨%fs, %hfs, Hrt⟩
  iapply (Rounds.wp_send_pointsTo 𝒱₀ ER (rd m) (c : Thread nD τ) none (c' := (tgt k j c : Thread nD τ)) (κ₁ := K (c, ix (sendS k j))) (κ₂ := K (tgt k j c, ix (recvS k j)))
      (r₁ := 0) (r₂ := 0) (d₁ := 0) (d₂ := 0) (fs := fs) (fd := fd) (q := fullShare.right)
      (by rw [duties_send m c k j hk']; exact Finset.mem_singleton_self _) (by rw [duties_recv m (tgt k j c) k j hr']; exact Finset.mem_singleton_self _)
      () () N rfl (amount_send m c k j 0) (amount_recv m (tgt k j c) k j 0)
      (debt c z ((at_ j.val (6 + k.val), .flight) :: (at_ j.val (srcPl z k), .left (srcNm z k)) :: us) + exitDue c) hdebt (W := W)
      ?pay₁ ?pay₂) $$ [HO Hrt Hd Ht1 Ht2]
  case pay₁ =>
    rw [payload_send]; unfold sendPay; rw [← val_src m k j c hk', hz]; unfold owns
    iintro H; iexists fs
    isplitr
    · ipureintro; exact hfs
    · iexact H
  case pay₂ =>
    rw [payload_recv]; unfold recvPay owns
    iintro H; iexists _
    isplitr
    rotate_left
    · iexact H
    · ipureintro
      rw [View.read_write_univ, hfs, landVal_tgt, ← val_src m k j c hk', hz]
  · isplitr; · iexact HI
    isplitr; · iexact HI'
    isplitl [Hrt]; · iexact Hrt
    isplitl [Hd]; · iexact Hd
    isplitl [HO]; · iexact HO
    isplitl [Ht1]; · iexact Ht1
    isplitr; · iexact Hr
    isplitl [Ht2]; · iexact Ht2
    iexact Hr'
  iintro ⟨Hc, HO⟩
  iapply (ret_raw (F := F) (c := c))
  iapply hQ
  unfold St
  isplitr; · iexact HR
  isplitl [Hc Hat Hl Hback]
  · iapply Hback
    isplitl [Hc Hat]
    · rw [resJ_flight]; isplitl [Hc] <;> iassumption
    · unfold resJ owns; iexact Hl
  · iexists _; iexact HO

/-! ## Loads and stores -/

/-- A load reads what the state says. -/
theorem st_load {d : Fin 2 → ℕ} {M : Memref sig .tc .vmem ⟨2, d⟩ .f32} {off : Fin 2 → ℕ} {inb : ∀ a, off a + S256x1024.size a ≤ d a}
    {j : Fin 8} {p : ℕ} (hp : M.slice (Rect.unit (s := ⟨2, d⟩) off S256x1024.size inb) (fun _ => rfl) = place c j p) (hp' : p < 6)
    {v : Nm} (h : look z us (at_ j.val p) = .full v ∨ look z us (at_ j.val p) = .left v)
    {hl : M.view.LoadsAt (Rect.unit (s := ⟨2, d⟩) off S256x1024.size inb).toLoadRect} {Q : V (F := F) → sProp 𝕄}
    (hQ : Goes (St m K c z us) (Q (val m c j v))) :
    Goes (St m K c z us) (wpC (F := F) c (Prog.lift (.load M (Rect.unit (s := ⟨2, d⟩) off S256x1024.size inb).toLoadRect hl)) Q) := by
  unfold Goes at *
  obtain ⟨q, st, hl', hq⟩ : ∃ q st, look z us (at_ j.val p) = st ∧ resJ m c j p st = owns (c : Thread nD τ) (M.slice (Rect.unit (s := ⟨2, d⟩) off S256x1024.size inb) (fun _ => rfl)) q (val m c j v) := by
    rw [hp]
    rcases h with h | h
    · exact ⟨_, _, h, rfl⟩
    · exact ⟨_, _, h, rfl⟩
  unfold wpC Prog.lift
  refine BIBase.Entails.trans (Q := iprop(∃ f, ⌜(M.slice (Rect.unit (s := ⟨2, d⟩) off S256x1024.size inb) (fun _ => rfl)).view.read (Elt F) f = val m c j v⌝
    ∗ ((M.access (Rect.unit (s := ⟨2, d⟩) off S256x1024.size inb)).loc (c : Thread nD τ) ↦[(M.access (Rect.unit (s := ⟨2, d⟩) off S256x1024.size inb)).set]{q} f)
    ∗ (((M.access (Rect.unit (s := ⟨2, d⟩) off S256x1024.size inb)).loc (c : Thread nD τ) ↦[(M.access (Rect.unit (s := ⟨2, d⟩) off S256x1024.size inb)).set]{q} f) -∗ St m K c z us))) ?_ ?_
  · unfold St
    iintro ⟨#HR, Hs, HO⟩
    ihave H := (take0 m c z us j p (by omega) hl') $$ Hs
    icases H with ⟨Ha, Hback⟩
    ihave Ha := (Entails.of_eq hq) $$ Ha
    unfold owns
    icases Ha with ⟨%f, %hf, Ha⟩
    iexists f
    isplitr; · ipureintro; exact hf
    isplitl [Ha]; · iexact Ha
    iintro Ha
    isplitr; · iexact HR
    isplitl [Ha Hback]
    · iapply Hback
      iapply (Entails.of_eq hq.symm)
      unfold owns; iexists f
      isplitr; · ipureintro; exact hf
      iexact Ha
    · iexact HO
  · iintro ⟨%f, %hf, Ha, Hback⟩
    iapply (wp_load_rect 𝒱₀ (c : Thread nD τ) none Set.univ (subset_rfl)) $$ Ha
    iintro Ha
    iapply (ret_raw (F := F) (c := c))
    rw [show (M.access (Rect.unit (s := ⟨2, d⟩) off S256x1024.size inb)).read (Elt F) f = val m c j v from hf]
    iapply hQ
    iapply Hback; iexact Ha

/-- A store leaves what it stores. -/
theorem st_store {d : Fin 2 → ℕ} {M : Memref sig .tc .vmem ⟨2, d⟩ .f32} {off : Fin 2 → ℕ} {inb : ∀ a, off a + S256x1024.size a ≤ d a}
    {j : Fin 8} {p : ℕ} (hp : M.slice (Rect.unit (s := ⟨2, d⟩) off S256x1024.size inb) (fun _ => rfl) = place c j p) (hp' : p < 6)
    {v : Nm} (h : look z us (at_ j.val p) = .full v) {w : V (F := F)} {v' : Nm} (hw : w = val m c j v')
    {hx : (M.access (Rect.unit (s := ⟨2, d⟩) off S256x1024.size inb)).Stores Finset.univ} {hm}
    {Q : PUnit → sProp 𝕄} (hQ : Goes (St m K c z ((at_ j.val p, .full v') :: us)) (Q ⟨⟩)) :
    Goes (St m K c z us) (wpC (F := F) c (Prog.lift (.store M (Rect.unit (s := ⟨2, d⟩) off S256x1024.size inb) w Finset.univ hx hm)) Q) := by
  unfold Goes at *
  have hq : ∀ u, resJ m c j p (.full u) = owns (c : Thread nD τ) (M.slice (Rect.unit (s := ⟨2, d⟩) off S256x1024.size inb) (fun _ => rfl)) fullShare (val m c j u) := by
    rw [hp]; exact fun _ => rfl
  unfold wpC Prog.lift
  refine BIBase.Entails.trans (Q := iprop(∃ f,
    ((M.access (Rect.unit (s := ⟨2, d⟩) off S256x1024.size inb)).loc (c : Thread nD τ) ↦[(M.access (Rect.unit (s := ⟨2, d⟩) off S256x1024.size inb)).set]{fullShare} f)
    ∗ (((M.access (Rect.unit (s := ⟨2, d⟩) off S256x1024.size inb)).loc (c : Thread nD τ) ↦[(M.access (Rect.unit (s := ⟨2, d⟩) off S256x1024.size inb)).set]{fullShare}
        (M.access (Rect.unit (s := ⟨2, d⟩) off S256x1024.size inb)).write (Elt F) f w Finset.univ) -∗ St m K c z ((at_ j.val p, .full v') :: us)))) ?_ ?_
  · unfold St
    iintro ⟨#HR, Hs, %W, HO⟩
    ihave H := (take1 m c z us j p (by omega) h (.full v')) $$ Hs
    icases H with ⟨Ha, Hback⟩
    ihave Ha := (Entails.of_eq (hq v)) $$ Ha
    unfold owns
    icases Ha with ⟨%f, %hf, Ha⟩
    iexists f
    isplitl [Ha]; · iexact Ha
    iintro Ha
    isplitr; · iexact HR
    isplitl [Ha Hback]
    · iapply Hback
      iapply (Entails.of_eq (hq v').symm)
      unfold owns; iexists _
      isplitr
      rotate_left
      · iexact Ha
      · ipureintro
        exact (View.read_write_univ _ _).trans hw
    · iexists W
      rw [debt_upd c z _ _ _ (by rw [h]; rfl) rfl]
      iexact HO
  · iintro ⟨%f, Ha, Hback⟩
    iapply (wp_store 𝒱₀ (c : Thread nD τ) none Set.univ (S := (M.access (Rect.unit (s := ⟨2, d⟩) off S256x1024.size inb)).set) (by exact subset_rfl)) $$ Ha
    iintro Ha
    iapply (ret_raw (F := F) (c := c))
    iapply hQ
    iapply Hback; iexact Ha

end Step

end Cert.AllReduce

end
-- ==== Proof.Entry.lean ====
/-
The two ends of the kernel: the copy of the own block, the signals that lend the destinations and the wait for them, up to the loop's
state; and from the loop's last state, the signals and the wait of the exit.
-/
module

public import proofs.«01_k».proof.Proof.Steps

@[expose] public section

set_option maxRecDepth 20000

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The chunks' rows -/

theorem off1_eq (c : Dev nD) : k0_off1 c = ![2048 * (qOf c).val, 0] := by revert c; decide +kernel

theorem mem_big {b : Fin 4} {j : Fin 8} {i : S8192x1024.Idx} : i ∈ (bigRect b j).set ↔ 2048 * b.val + 256 * j.val ≤ (i 0).val ∧ (i 0).val < 2048 * b.val + 256 * j.val + 256 := by
  have h1 : (i 1).val < 1024 := (i 1).isLt
  refine Rect.mem_set_unit.trans ⟨fun h => h 0, fun h a => ?_⟩
  fin_cases a
  · exact h
  · exact ⟨Nat.zero_le _, show (i 1).val < 0 + 1024 by omega⟩
theorem mem_buf {j : Fin 8} {i : S2048x1024.Idx} : i ∈ (bufRect j).set ↔ 256 * j.val ≤ (i 0).val ∧ (i 0).val < 256 * j.val + 256 := by
  have h1 : (i 1).val < 1024 := (i 1).isLt
  refine Rect.mem_set_unit.trans ⟨fun h => h 0, fun h a => ?_⟩
  fin_cases a
  · exact h
  · exact ⟨Nat.zero_le _, show (i 1).val < 0 + 1024 by omega⟩
theorem mem_own {c : Dev nD} {i : S8192x1024.Idx} :
    i ∈ (Rect.unit (s := S8192x1024) (k0_off1 c) S2048x1024.size (k0_off1_inb c)).set ↔ 2048 * (qOf c).val ≤ (i 0).val ∧ (i 0).val < 2048 * (qOf c).val + 2048 := by
  have h1 : (i 1).val < 1024 := (i 1).isLt
  refine Rect.mem_set_unit.trans ?_
  rw [off1_eq]
  refine ⟨fun h => h 0, fun h a => ?_⟩
  fin_cases a
  · exact h
  · exact ⟨Nat.zero_le _, show (i 1).val < 0 + 1024 by omega⟩

theorem set_out (b : Fin 4) (j : Fin 8) : (outCh b j).view.set = (bigRect b j).set := View.set_slice_whole _ _
theorem set_own (c : Dev nD) : (ownRows c).view.set = (Rect.unit (s := S8192x1024) (k0_off1 c) S2048x1024.size (k0_off1_inb c)).set := View.set_slice_whole _ _

theorem big_disjoint {b b' : Fin 4} {j j' : Fin 8} (h : (b, j) ≠ (b', j')) : Disjoint (bigRect b j).set (bigRect b' j').set := by
  refine Finset.disjoint_left.mpr fun i hi hi' => h ?_
  rw [mem_big] at hi hi'
  have := b.isLt; have := b'.isLt; have := j.isLt; have := j'.isLt
  have hb : b.val = b'.val := by omega
  have hj : j.val = j'.val := by omega
  exact Prod.ext (Fin.ext hb) (Fin.ext hj)

theorem own_biUnion (c : Dev nD) : (Finset.univ : Finset (Fin 8)).biUnion (fun j => (bigRect (qOf c) j).set)
    = (Rect.unit (s := S8192x1024) (k0_off1 c) S2048x1024.size (k0_off1_inb c)).set := by
  ext i
  rw [mem_own, Finset.mem_biUnion]
  constructor
  · rintro ⟨j, -, hj⟩
    rw [mem_big] at hj
    have := j.isLt
    omega
  · intro h
    refine ⟨Fin.ofNat 8 (((i 0).val - 2048 * (qOf c).val) / 256), Finset.mem_univ _, mem_big.mpr ?_⟩
    have e : (Fin.ofNat 8 (((i 0).val - 2048 * (qOf c).val) / 256)).val = ((i 0).val - 2048 * (qOf c).val) / 256 :=
      Nat.mod_eq_of_lt (by omega)
    rw [e]; omega

/-- The own rows are the own chunks. -/
theorem own_chunks (c : Dev nD) (q : PosShare TreeShare) (f : Buf (Elt F) ((c : Thread nD τ).loc cc0_stg0_0)) :
    ((c : Thread nD τ).loc cc0_stg0_0 ↦[(ownRows c).view.set]{q} f : sProp 𝕄)
      = bigSep Finset.univ fun j : Fin 8 => (c : Thread nD τ).loc cc0_stg0_0 ↦[(outCh (qOf c) j).view.set]{q} f := by
  rw [set_own, ← own_biUnion]
  refine (pointsTo_biUnion _ _ fun j _ j' _ h => big_disjoint fun h' => h (congrArg Prod.snd h')).trans (bigSep_congr fun j _ => ?_)
  rw [set_out]

variable (m : (ℓ : Loc nD τ sig) → Buf (Elt F) ℓ)

/-- After the copy an own chunk of the result is the argument's. -/
theorem own_read (c : Dev nD) (j : Fin 8) (f : Buf (Elt F) ((c : Thread nD τ).loc cc0_stg0_0))
    (h : (ownRows c).view.read (Elt F) f = (argRows c).view.read (Elt F) (m ((c : Thread nD τ).loc main_arg0))) :
    (outCh (qOf c) j).view.read (Elt F) f = X m c j := by
  funext i
  have hi : (bigRect (qOf c) j).emb i ∈ (Rect.unit (s := S8192x1024) (k0_off1 c) S2048x1024.size (k0_off1_inb c)).set := by
    rw [← own_biUnion]
    refine Finset.mem_biUnion.mpr ⟨j, Finset.mem_univ _, ?_⟩
    rw [← Rect.map_emb_univ]; exact Finset.mem_map_of_mem _ (Finset.mem_univ _)
  rw [← Rect.map_emb_univ, Finset.mem_map] at hi
  obtain ⟨k, -, hk⟩ := hi
  have hk' := congrFun h k
  show f ((bigRect (qOf c) j).emb i) = m ((c : Thread nD τ).loc main_arg0) ((bigRect (qOf c) j).emb i)
  rw [← hk]
  exact hk'

theorem big_mono {I : Type} {s : Finset I} {Φ Ψ : I → sProp 𝕄} (h : ∀ i, Φ i ⊢ Ψ i) : bigSep s Φ ⊢ bigSep s Ψ := bigSep_mono fun i _ => h i
theorem big_sep {I : Type} {s : Finset I} (Φ Ψ : I → sProp 𝕄) : iprop(bigSep s Φ ∗ bigSep s Ψ) ⊢ bigSep s fun i => iprop(Φ i ∗ Ψ i) :=
  Entails.of_eq (bigSep_sep s Φ Ψ).symm

theorem owns_open (c : Dev nD) (w : Vec F S2048x1024 .f32) : (owns (c : Thread nD τ) (ownRows c) fullShare w : sProp 𝕄)
    ⊢ iprop(∃ f, ⌜(ownRows c).view.read (Elt F) f = w⌝ ∗ ((c : Thread nD τ).loc cc0_stg0_0 ↦[(ownRows c).view.set]{fullShare} f)) := by
  unfold owns; exact BIBase.Entails.rfl

theorem own_give (c : Dev nD) (j : Fin 8) (f : Buf (Elt F) ((c : Thread nD τ).loc cc0_stg0_0))
    (h : (ownRows c).view.read (Elt F) f = (argRows c).view.read (Elt F) (m ((c : Thread nD τ).loc main_arg0))) :
    ((c : Thread nD τ).loc cc0_stg0_0 ↦[(outCh (qOf c) j).view.set]{fullShare} f : sProp 𝕄) ⊢ owns (c : Thread nD τ) (place c j 0) fullShare (X m c j) := by
  unfold owns
  iintro H; iexists f
  isplitr
  · ipureintro; exact own_read m c j f h
  · iexact H

/-! ## What a device holds before the loop -/

section Parts
variable (c : Dev nD) (kj : Fin 5 × Fin 8)

/-- A transfer the device makes, without its destination; -/
def outPart : sProp 𝕄 :=
  if actS (zOf c) kj.1 = true then iprop(dutyTok ER (sendCell kj.1 kj.2 c) 0 0 ∗ dutyTok ER (recvCell kj.1 kj.2 (tgt kj.1 kj.2 c)) 0 0 ∗ atPos ER (sendCell kj.1 kj.2 c) 0 ∅ 0)
  else atPos ER (sendCell kj.1 kj.2 c) 0 ∅ 0
/-- one it gets; -/
def inPart : sProp 𝕄 :=
  if actR (zOf c) kj.1 = true then iprop(cred (tallyAt (recvCell kj.1 kj.2 c) () N) ∗ atPos ER (recvCell kj.1 kj.2 c) 0 ∅ 0)
  else atPos ER (recvCell kj.1 kj.2 c) 0 ∅ 0
/-- the chunk of a buffer nothing arrives in; -/
def idlePart : sProp 𝕄 := if actR (zOf c) kj.1 = true then iprop(emp) else someAt c (place c kj.2 (dstPl kj.1))
/-- and what the barrier brings: the destination. -/
def destPart : sProp 𝕄 := if actS (zOf c) kj.1 = true then dest kj.1 kj.2 c else iprop(emp)
end Parts

/-- The exit: the cell, the credit for the wait, and the tokens of the four signals. -/
def ExitP (c : Dev nD) : sProp 𝕄 :=
  iprop(atPos ER (exitCell c) 0 ∅ 0 ∗ cred (tallyAt (exitCell c) () 4)
      ∗ dutyTok ER (exitCell (zl c)) 0 0 ∗ dutyTok ER (exitCell (zr c)) 0 1 ∗ dutyTok ER (exitCell (nx c)) 0 2 ∗ dutyTok ER (exitCell (pv c)) 0 3)

/-- What plays no role before the loop. -/
def Keep (c : Dev nD) : sProp 𝕄 :=
  iprop((bigSep Finset.univ fun kj => outPart c kj) ∗ (bigSep Finset.univ fun kj => inPart c kj) ∗ (bigSep Finset.univ fun kj => idlePart c kj) ∗ ExitP c)

/-- What the signals still to be sent on the barrier owe, and the tokens and the lent destinations that go with them. -/
def barDue (c : Dev nD) : List (Fin 4) → CellTallies nD τ sig Unit
  | [] => 0
  | e :: es => barDue c es + tallyAt (barCell (sigTo e c)) () 1
def barToks (c : Dev nD) : List (Fin 4) → sProp 𝕄
  | [] => iprop(emp)
  | e :: es => iprop(dutyTok ER (barCell (sigTo e c)) 0 e ∗ barPay (sigTo e c) e ∗ barToks c es)

/-- What the device has for its barrier cell, and the signals to come. -/
def BarP (c : Dev nD) (es : List (Fin 4)) : sProp 𝕄 :=
  iprop(atPos ER (barCell c) 0 ∅ 0 ∗ cred (tallyAt (barCell c) () 4) ∗ barToks c es ∗ ∃ W, owes (c : Thread nD τ) (debt c (zOf c) [] + exitDue c + barDue c es) W)

abbrev xLoc (c : Dev nD) : Loc nD τ sig := (c : Thread nD τ).loc main_arg0

/-- Before the copy; -/
def E0 (K : Dev nD × Fin 83 → ℕ) (c : Dev nD) : sProp 𝕄 :=
  iprop(Recs m K ∗ Keep c ∗ BarP c [0, 1, 2, 3] ∗ (dutyTok ER (copyCell c) 0 0 ∗ atPos ER (copyCell c) 0 ∅ 0)
    ∗ (∃ f, (c : Thread nD τ).loc cc0_stg0_0 ↦[(ownRows c).view.set]{fullShare} f) ∗ (xLoc c ↦{fullShare} m (xLoc c)))
/-- while it is in flight; -/
def E1 (K : Dev nD × Fin 83 → ℕ) (c : Dev nD) : sProp 𝕄 :=
  iprop(Recs m K ∗ Keep c ∗ BarP c [0, 1, 2, 3] ∗ (cred (tallyAt (copyCell c) () NC) ∗ atPos ER (copyCell c) 0 ∅ 0)
    ∗ (xLoc c ↦[Finset.univ \ (argRows c).view.set]{fullShare} m (xLoc c)))
/-- with the signals `es` still to send. -/
def Sg (K : Dev nD × Fin 83 → ℕ) (c : Dev nD) (es : List (Fin 4)) : sProp 𝕄 :=
  iprop(Recs m K ∗ Keep c ∗ BarP c es ∗ atPos ER (copyCell c) 1 ∅ 0 ∗ (bigSep Finset.univ fun j : Fin 8 => owns (c : Thread nD τ) (place c j 0) fullShare (X m c j))
    ∗ (xLoc c ↦{fullShare} m (xLoc c)))

theorem Recs_bar (K : Dev nD × Fin 83 → ℕ) (c : Dev nD) : Recs m K ⊢ iprop(cellInv ER (rd m) (K (c, 82)) (barCell c) ∗ reached ER (barCell c) 0) := by
  have e : kcell (c, 82) = barCell c := congrArg (Prod.mk _) csem_bar
  rw [← e]
  iintro #H
  isplitr
  · iapply (Recs_inv m K); iexact H
  · iapply (Recs_reached m K); iexact H
theorem Recs_exit (K : Dev nD × Fin 83 → ℕ) (c : Dev nD) : Recs m K ⊢ iprop(cellInv ER (rd m) (K (c, 81)) (exitCell c) ∗ reached ER (exitCell c) 0) := by
  have e : kcell (c, 81) = exitCell c := congrArg (Prod.mk _) csem_exit
  rw [← e]
  iintro #H
  isplitr
  · iapply (Recs_inv m K); iexact H
  · iapply (Recs_reached m K); iexact H

theorem barDue_pos {c : Dev nD} {es : List (Fin 4)} {g : GSem nD τ sig} {u : Unit} (h : 0 < barDue c es g u) : ∃ d, g = barCell d := by
  induction es with
  | nil => exact absurd h (Nat.lt_irrefl 0)
  | cons e es ih =>
    unfold barDue at h
    rw [Pi.add_apply, Finsupp.add_apply, tallyAt_apply] at h
    by_contra hn
    rw [if_neg fun h' => hn ⟨_, h'.1⟩, Nat.add_zero] at h
    exact hn (ih h)

/-- Everything owed at the start is owed to cells above level 0, -/
theorem owed_above (c : Dev nD) (es : List (Fin 4)) (g : GSem nD τ sig) (u : Unit)
    (hg : 0 < (debt c (zOf c) [] + exitDue c + barDue c es) g u) : u ∈ L g ∧ 0 < lv g u := by
  rw [Pi.add_apply, Finsupp.add_apply, Pi.add_apply, Finsupp.add_apply] at hg
  rcases Nat.eq_zero_or_pos (barDue c es g u) with h0 | hp
  · rw [h0, Nat.add_zero] at hg
    rcases Nat.eq_zero_or_pos (debt c (zOf c) [] g u) with h0 | hp
    · rw [h0, Nat.zero_add] at hg
      obtain ⟨d, rfl⟩ := exitDue_pos hg
      rw [L_tc, lv_exit]
      exact ⟨Finset.mem_singleton_self _, by decide⟩
    · obtain ⟨i, hi, hr, rfl⟩ := debt_pos hp
      rw [L_tc, lv_recv]
      exact ⟨Finset.mem_singleton_self _, by omega⟩
  · obtain ⟨d, rfl⟩ := barDue_pos hp
    rw [L_tc, lv_bar]
    exact ⟨Finset.mem_singleton_self _, Nat.one_pos⟩

/-- so the copy may be waited for with everything still owed. -/
theorem mayWait_copy (c : Dev nD) (es : List (Fin 4)) :
    (levAts L lv : sProp 𝕄) ⊢ MayWait (c : Thread nD τ) (.dma copyS) () (debt c (zOf c) [] + exitDue c + barDue c es) :=
  MayOwe.of_cut (L := L) (lev := lv) 0 (fun p hp => by rw [Finset.mem_singleton.mp hp, L_tc]; exact Finset.mem_singleton_self _)
    (fun g u h => (owed_above c es g u h).1) (fun p hp => by rw [Finset.mem_singleton.mp hp]; exact le_of_eq (lv_copy c ()))
    (fun g u h => (owed_above c es g u h).2)

section Ends
variable {m} {K : Dev nD × Fin 83 → ℕ} {c : Dev nD} {z : Fin 4} {us : List (ℕ × RS)}

/-- The copy of the own rows starts. -/
theorem en_copy {hsrc hdst hsem} {Q : PUnit → sProp 𝕄} (hQ : Goes (E1 m K c) (Q ⟨⟩)) :
    Goes (E0 m K c) (wpC c (Prog.lift (.enqueueDma (argRows c) (.here (ownRows c)) (.dma cc0_scratch2.sem) hsrc hdst hsem)) Q) := by
  unfold Goes at *
  unfold wpC Prog.lift E0
  iintro ⟨#HR, HK, HB, ⟨Ht, Hat⟩, ⟨%fd, Ho⟩, Hx⟩
  ihave Hx' := (pointsTo_split_subset (ℓ := xLoc c) (q := fullShare) (f := m (xLoc c)) (Finset.subset_univ (argRows c).view.set)).1 $$ Hx
  icases Hx' with ⟨Hx1, Hx2⟩
  ihave Hi := (Recs_dma m K c copyS (by decide +kernel)) $$ HR
  icases Hi with ⟨#HI, #Hr⟩
  iapply (Rounds.wp_copy_pointsTo 𝒱₀ ER (rd m) (c : Thread nD τ) none (src := argRows c) (dst := ownRows c) (κ := K (c, ix copyS)) (q := fullShare)
      (fs := m (xLoc c)) (fd := fd) (r := 0) (d := 0)
      (by rw [duties_copy m c]; exact Finset.mem_singleton_self _) () NC rfl (amount_copy m c 0) ?pay) $$ [Ht Ho Hx1]
  case pay =>
    rw [payload_copy]; unfold copyPay owns
    iintro ⟨H1, H2⟩
    isplitl [H1]
    · iexists _
      isplitr
      rotate_left
      · iexact H1
      · ipureintro; rw [View.read_write_univ]
    · iexact H2
  · isplitr; · iexact HI
    isplitl [Hx1]; · iexact Hx1
    isplitl [Ho]; · iexact Ho
    isplitl [Ht]; · iexact Ht
    iexact Hr
  iintro Hc
  iapply (ret_raw (F := F) (c := c))
  iapply hQ
  unfold E1
  isplitr; · iexact HR
  isplitl [HK]; · iexact HK
  isplitl [HB]; · iexact HB
  isplitl [Hc Hat]; · isplitl [Hc] <;> iassumption
  iexact Hx2

/-- The copy is waited for: the own rows of the result are the argument's. -/
theorem en_wait {hsrc hdst} {Q : PUnit → sProp 𝕄} (hQ : Goes (Sg m K c [0, 1, 2, 3]) (Q ⟨⟩)) :
    Goes (E1 m K c) (wpC c (Prog.lift (.waitDma2 cc0_scratch2.sem (argRows c) (ownRows c) hsrc hdst)) Q) := by
  unfold Goes at *
  unfold wpC Prog.lift E1 BarP
  iintro ⟨#HR, HK, ⟨Hba, Hbc, Hbt, %W, HO⟩, ⟨Hc, Hat⟩, Hx2⟩
  ihave Hi := (Recs_dma m K c copyS (by decide +kernel)) $$ HR
  icases Hi with ⟨#HI, -⟩
  iapply (Rounds.wp_wait_rest_token 𝒱₀ ER (rd m) (c : Thread nD τ) none (κ := K (c, ix copyS))
      (wpE_waitDma2_eq 𝒱₀ (c : Thread nD τ) none Set.univ) (Set.mem_univ _) () (O := debt c (zOf c) [] + exitDue c + barDue c [0, 1, 2, 3]) (W := W) (R := 0) (m := 0) (T := ∅)
      (by rw [Nat.zero_add]; exact (expect_copy m c).symm)) $$ [Hc HO Hat]
  · isplitr; · iexact HI
    isplitl [Hc]; · iexact Hc
    isplitl [HO]; · iexact HO
    isplitr
    · have e := (Recs_lev m K).trans (mayWait_copy (F := F) c [0, 1, 2, 3])
      iapply e; iexact HR
    iexact Hat
  iintro ⟨HO, Hat, -, Hpay⟩
  ihave Hp := (Entails.of_eq (rest_copy m c)) $$ Hpay
  unfold copyPay
  icases Hp with ⟨Ho, Hx1⟩
  ihave Hx := (pointsTo_split_subset (ℓ := xLoc c) (q := fullShare) (f := m (xLoc c)) (Finset.subset_univ (argRows c).view.set)).2 $$ [Hx1 Hx2]
  · isplitl [Hx1] <;> iassumption
  iapply (ret_raw (c := c))
  iapply hQ
  unfold Sg BarP
  isplitr; · iexact HR
  isplitl [HK]; · iexact HK
  isplitl [Hba Hbc Hbt HO]
  · isplitl [Hba]; · iexact Hba
    isplitl [Hbc]; · iexact Hbc
    isplitl [Hbt]; · iexact Hbt
    iexists _; iexact HO
  isplitl [Hat]; · iexact Hat
  isplitl [Ho]
  · ihave Ho' := (owns_open (F := F) c _) $$ Ho
    icases Ho' with ⟨%f, %hf, Ho⟩
    ihave Ho := (Entails.of_eq (own_chunks (F := F) c fullShare f)) $$ Ho
    have e := big_mono (s := Finset.univ) fun (j : Fin 8) => own_give m c j f hf
    iapply e; iexact Ho
  iexact Hx

/-- A signal on a neighbour's barrier lends it the destinations of its transfers. -/
theorem en_sig {e : Fin 4} {es : List (Fin 4)} {d : ℕ} {hlt : d < nD} (hn : d = (sigTo e c).val) {Q : PUnit → sProp 𝕄} (hQ : Goes (Sg m K c es) (Q ⟨⟩)) :
    Goes (Sg m K c (e :: es)) (wpC c (semSignalWord (⟨d, hlt⟩ : Dev nD) (SemArray.scalar (sig.barrier 0 rfl) : Sems sig S_).sem 1#32) Q) := by
  unfold Goes at *
  obtain rfl : (sigTo e c).val = d := hn.symm
  unfold wpC semSignalWord Sg BarP barToks
  iintro ⟨#HR, HK, ⟨Hba, Hbc, ⟨Ht, Hp, Hbt⟩, %W, HO⟩, Hrest⟩
  ihave Hi := (Recs_bar m K (sigTo e c)) $$ HR
  icases Hi with ⟨#HI, #Hr⟩
  ihave Hp' := (Entails.of_eq (payload_bar m (sigTo e c) e).symm) $$ Hp
  iapply (Rounds.wp_signal 𝒱₀ ER (rd m) (c : Thread nD τ) none (dst := (sigTo e c : Thread nD τ)) (κ := K (sigTo e c, 82)) (r := 0)
      (d := e) (by rw [duties_reg]; exact Finset.mem_univ _) ((amount_reg m (sigTo e c) e barS).trans (by decide)) () (debt c (zOf c) [] + exitDue c + barDue c es)
      (add_assoc _ _ _).symm) $$ [HO Ht Hp']
  · isplitr; · iexact HI
    isplitl [HO]; · iexact HO
    isplitl [Ht]; · iexact Ht
    isplitl [Hp']; · iexact Hp'
    iexact Hr
  iintro HO
  iapply (ret_raw (c := c))
  iapply hQ
  unfold Sg BarP
  isplitr; · iexact HR
  isplitl [HK]; · iexact HK
  isplitr [Hrest]
  · isplitl [Hba]; · iexact Hba
    isplitl [Hbc]; · iexact Hbc
    isplitl [Hbt]; · iexact Hbt
    iexists _; iexact HO
  iexact Hrest

/-! ### The loop's first state -/

/-- The numbers of one item of every transfer. -/
def emb (a : ℕ) (ha : a < 12) : Fin 5 × Fin 8 ↪ ℕ :=
  ⟨fun kj => at_ kj.2.val (a + kj.1.val), fun x y h => by
    have h' : 16 * x.2.val + (a + x.1.val) = 16 * y.2.val + (a + y.1.val) := h
    have := x.1.isLt; have := y.1.isLt
    exact Prod.ext (Fin.ext (by omega)) (Fin.ext (by omega))⟩
def emb0 : Fin 8 ↪ ℕ := ⟨fun j => at_ j.val 0, fun x y h => by
  have h' : 16 * x.val + 0 = 16 * y.val + 0 := h
  exact Fin.ext (by omega)⟩

theorem items_range : Finset.range 128 = Finset.univ.map emb0 ∪ (Finset.univ.map (emb 1 (by omega)) ∪ (Finset.univ.map (emb 6 (by omega)) ∪ Finset.univ.map (emb 11 (by omega)))) := by
  decide +kernel

/-- The items: the own chunks, the other places, the transfers made, the transfers got. -/
theorem items_split (Φ : ℕ → sProp 𝕄) : bigSep (Finset.range 128) Φ
    = iprop((bigSep Finset.univ fun j : Fin 8 => Φ (at_ j.val 0)) ∗ (bigSep Finset.univ fun kj : Fin 5 × Fin 8 => Φ (at_ kj.2.val (1 + kj.1.val)))
      ∗ (bigSep Finset.univ fun kj : Fin 5 × Fin 8 => Φ (at_ kj.2.val (6 + kj.1.val))) ∗ (bigSep Finset.univ fun kj : Fin 5 × Fin 8 => Φ (at_ kj.2.val (11 + kj.1.val)))) := by
  rw [items_range, bigSep_union (by decide +kernel), bigSep_union (by decide +kernel), bigSep_union (by decide +kernel), bigSep_map, bigSep_map, bigSep_map, bigSep_map]
  rfl

theorem init_own (z : Fin 4) (j : Fin 8) : init z (at_ j.val 0) = .full .x := by revert z j; decide +kernel
theorem init_place (z : Fin 4) (k : Fin 5) (j : Fin 8) : init z (at_ j.val (1 + k.val)) = bif actR z k then .none else .junk := by revert z k j; decide +kernel
theorem init_out (z : Fin 4) (k : Fin 5) (j : Fin 8) : init z (at_ j.val (6 + k.val)) = bif actS z k then .ready else .unused := by revert z k j; decide +kernel
theorem init_in (z : Fin 4) (k : Fin 5) (j : Fin 8) : init z (at_ j.val (11 + k.val)) = bif actR z k then .wait else .unused := by revert z k j; decide +kernel
theorem dstPl_eq (k : Fin 5) : dstPl k = 1 + k.val := by revert k; decide

theorem resJ_outOff (k : Fin 5) (j : Fin 8) : resJ m c j (6 + k.val) .unused = atPos ER (sendCell k j c) 0 ∅ 0 := by
  unfold resJ; dsimp only; rw [outK_at, show Nat.blt (6 + k.val) 11 = true from by revert k; decide]; rfl
theorem resJ_inOff (k : Fin 5) (j : Fin 8) : resJ m c j (11 + k.val) .unused = atPos ER (recvCell k j c) 0 ∅ 0 := by
  unfold resJ; dsimp only; rw [inK_at, show Nat.blt (11 + k.val) 11 = false from by revert k; decide]; rfl

/-- The destinations the barrier brings, by transfer. -/
theorem dests (c : Dev nD) : (bigSep Finset.univ fun e => barPay (F := F) c e) = bigSep Finset.univ fun kj => destPart (F := F) c kj := by
  have h : (Finset.univ.filter fun kj : Fin 5 × Fin 8 => actS (zOf c) kj.1 = true) = Finset.univ.biUnion fun e => transfers (zOf c) e := by
    ext kj
    unfold transfers
    simp only [Finset.mem_filter, Finset.mem_univ, true_and, Finset.mem_biUnion, exists_eq_left']
  refine Eq.trans ?_ (bigSep_filter Finset.univ (fun kj : Fin 5 × Fin 8 => actS (zOf c) kj.1 = true) (fun kj => dest (F := F) kj.1 kj.2 c))
  rw [h, bigSep_biUnion_eq _ _ _ fun e _ e' _ hne => Finset.disjoint_left.mpr fun kj h₁ h₂ =>
    hne ((Finset.mem_filter.mp h₁).2.1.symm.trans (Finset.mem_filter.mp h₂).2.1)]
  rfl

/-- The parts as the loop's items. -/
theorem own_item (c : Dev nD) (j : Fin 8) : owns (c : Thread nD τ) (place c j 0) fullShare (X m c j) ⊢ res m c (at_ j.val 0) (look (zOf c) [] (at_ j.val 0)) := by
  rw [show look (zOf c) [] (at_ j.val 0) = .full .x from init_own _ _, res_at m c j 0 (by omega)]
  exact BIBase.Entails.rfl
theorem idle_item (c : Dev nD) (kj : Fin 5 × Fin 8) : idlePart (F := F) c kj ⊢ res m c (at_ kj.2.val (1 + kj.1.val)) (look (zOf c) [] (at_ kj.2.val (1 + kj.1.val))) := by
  rw [show look (zOf c) [] (at_ kj.2.val (1 + kj.1.val)) = _ from init_place _ _ _, res_at m c kj.2 _ (by have := kj.1.isLt; omega)]
  unfold idlePart
  rw [dstPl_eq]
  generalize actR (zOf c) kj.1 = b
  cases b
  · exact BIBase.Entails.rfl
  · exact BIBase.Entails.rfl
theorem out_item (c : Dev nD) (kj : Fin 5 × Fin 8) : iprop(outPart (F := F) c kj ∗ destPart (F := F) c kj)
    ⊢ res m c (at_ kj.2.val (6 + kj.1.val)) (look (zOf c) [] (at_ kj.2.val (6 + kj.1.val))) := by
  rw [show look (zOf c) [] (at_ kj.2.val (6 + kj.1.val)) = _ from init_out _ _ _, res_at m c kj.2 _ (by have := kj.1.isLt; omega)]
  unfold outPart destPart
  generalize actS (zOf c) kj.1 = b
  cases b
  · rw [if_neg Bool.false_ne_true, if_neg Bool.false_ne_true, show (bif false then RS.ready else RS.unused) = RS.unused from rfl, resJ_outOff]
    iintro ⟨H, -⟩; iexact H
  · rw [if_pos rfl, if_pos rfl, show (bif true then RS.ready else RS.unused) = RS.ready from rfl, resJ_ready]
    iintro ⟨H, H'⟩; isplitl [H'] <;> iassumption
theorem in_item (c : Dev nD) (kj : Fin 5 × Fin 8) : inPart (F := F) c kj ⊢ res m c (at_ kj.2.val (11 + kj.1.val)) (look (zOf c) [] (at_ kj.2.val (11 + kj.1.val))) := by
  rw [show look (zOf c) [] (at_ kj.2.val (11 + kj.1.val)) = _ from init_in _ _ _, res_at m c kj.2 _ (by have := kj.1.isLt; omega)]
  unfold inPart
  generalize actR (zOf c) kj.1 = b
  cases b
  · rw [if_neg Bool.false_ne_true, show (bif false then RS.wait else RS.unused) = RS.unused from rfl, resJ_inOff]
  · rw [if_pos rfl, show (bif true then RS.wait else RS.unused) = RS.wait from rfl, resJ_wait]

/-- The four neighbours have signalled: the loop can start. -/
theorem en_bar {Q : PUnit → sProp 𝕄} (hz : zOf c = z) (hQ : Goes (St m K c z []) (Q ⟨⟩)) :
    Goes (Sg m K c []) (wpC c (semWaitWord (SemArray.scalar (sig.barrier 0 rfl) : Sems sig S_).sem 4#32) Q) := by
  unfold Goes at *
  subst hz
  unfold wpC semWaitWord Sg BarP
  iintro ⟨#HR, HK, ⟨Hat, Hc, -, %W, HO⟩, Hca, Ho, Hx⟩
  ihave Hi := (Recs_bar m K c) $$ HR
  icases Hi with ⟨#HI, -⟩
  have hO : debt c (zOf c) [] + exitDue c + barDue c [] = debt c (zOf c) [] + exitDue c := add_zero _
  iapply (Rounds.wp_wait_rest_token 𝒱₀ ER (rd m) (c : Thread nD τ) none (κ := K (c, 82))
      (wpE_semWait_eq 𝒱₀ (c : Thread nD τ) none Set.univ) (Set.mem_univ _) () (O := debt c (zOf c) [] + exitDue c) (W := W) (R := 0) (m := 0) (T := ∅)
      (by rw [Nat.zero_add]; exact Eq.trans (by decide) (expect_reg m c barS).symm)) $$ [Hc HO Hat]
  · isplitr; · iexact HI
    isplitl [Hc]; · iexact Hc
    isplitl [HO]; · rw [hO]; iexact HO
    isplitr
    · have e₂ := mayWait (F := F) (rfl : zOf c = zOf c) [] (.reg barS) 1 (le_of_eq (lv_bar c ())) (by decide) (fun i _ _ => by unfold lvOut; omega)
      have e₃ := (Recs_lev m K).trans e₂
      iapply e₃; iexact HR
    iexact Hat
  iintro ⟨HO, Hat, -, Hpay⟩
  ihave Hp := (Entails.of_eq ((rest_bar m c).trans (dests c))) $$ Hpay
  iapply (ret_raw (c := c))
  iapply hQ
  unfold St
  isplitr; · iexact HR
  isplitr [HO]
  · unfold Items Keep
    icases HK with ⟨Hk1, Hk2, Hk3, Hk4⟩
    rw [items_split]
    isplitr [Hat Hca Hx Hk4]
    · isplitl [Ho]
      · have e := big_mono (s := Finset.univ) fun (j : Fin 8) => own_item (m := m) c j
        iapply e; iexact Ho
      isplitl [Hk3]
      · have e := big_mono (s := Finset.univ) fun (kj : Fin 5 × Fin 8) => idle_item (m := m) c kj
        iapply e; iexact Hk3
      isplitl [Hk1 Hp]
      · have e := big_mono (s := Finset.univ) fun (kj : Fin 5 × Fin 8) => out_item (m := m) c kj
        have e' := BIBase.Entails.trans (big_sep (fun kj => outPart (F := F) c kj) (fun kj => destPart (F := F) c kj)) e
        iapply e'
        isplitl [Hk1] <;> iassumption
      · have e := big_mono (s := Finset.univ) fun (kj : Fin 5 × Fin 8) => in_item (m := m) c kj
        iapply e; iexact Hk2
    · unfold Tail ExitP
      isplitl [Hk4]; · iexact Hk4
      isplitl [Hat]; · iexact Hat
      isplitl [Hca] <;> iassumption
  · iexists _; iexact HO

/-! ### The exit -/

end Ends

/-- The state the loop ends in, at place `z` of the line. -/
def fin (z : Fin 4) (i : ℕ) : RS :=
  bif Nat.beq (i % 16) 0 then .full .red
  else bif Nat.beq (i % 16) 1 then (bif Nat.beq z.val 0 then .junk else .full .pb)
  else bif Nat.beq (i % 16) 2 then (bif Nat.beq z.val 3 then .junk else bif Nat.beq z.val 0 then .full .lS else .full .sb)
  else bif Nat.beq (i % 16) 3 then .full .l0 else bif Nat.beq (i % 16) 4 then .full .l1 else bif Nat.beq (i % 16) 5 then .full .l2
  else bif Nat.blt (i % 16) 11 then (bif actS z (outK (i % 16)) then .done else .unused)
  else (bif actR z (inK (i % 16)) then .done else .unused)
def atEnd (z : Fin 4) (us : List (ℕ × RS)) : Bool := (List.range 128).all fun i => decide (look z us i = fin z i)

theorem fin_notReady (z : Fin 4) (i : ℕ) : (fin z i).isReady = false := by
  have h : ∀ (z : Fin 4) (r : Fin 16), (fin z r.val).isReady = false := by decide +kernel
  have e : fin z i = fin z (i % 16) := by unfold fin; rw [Nat.mod_mod]
  rw [e]; exact h z ⟨i % 16, Nat.mod_lt _ (by decide)⟩

/-- What the signals still to be sent at the exit owe, and their tokens. -/
def exDue (c : Dev nD) : List (Fin 4) → CellTallies nD τ sig Unit
  | [] => 0
  | e :: es => exDue c es + tallyAt (exitCell (sigTo e c)) () 1
def exToks (c : Dev nD) : List (Fin 4) → sProp 𝕄
  | [] => iprop(emp)
  | e :: es => iprop(dutyTok ER (exitCell (sigTo e c)) 0 e ∗ exToks c es)

/-- What the device ends with, but for the exit cell. -/
def EndP (c : Dev nD) : sProp 𝕄 :=
  iprop(bigSep (Finset.range 128) (fun i => res m c i (fin (zOf c) i)) ∗ atPos ER (barCell c) 1 ∅ 0 ∗ atPos ER (copyCell c) 1 ∅ 0 ∗ (xLoc c ↦{fullShare} m (xLoc c)))

/-- With the exit signals `es` still to send; -/
def Ex (K : Dev nD × Fin 83 → ℕ) (c : Dev nD) (es : List (Fin 4)) : sProp 𝕄 :=
  iprop(Recs m K ∗ EndP m c ∗ (atPos ER (exitCell c) 0 ∅ 0 ∗ cred (tallyAt (exitCell c) () 4)) ∗ exToks c es ∗ ∃ W, owes (c : Thread nD τ) (exDue c es) W)
/-- and at the end. -/
def Out (K : Dev nD × Fin 83 → ℕ) (c : Dev nD) : sProp 𝕄 :=
  iprop(Recs m K ∗ EndP m c ∗ atPos ER (exitCell c) 1 ∅ 0 ∗ ∃ W, owes (c : Thread nD τ) 0 W)

section Exit
variable {m} {K : Dev nD × Fin 83 → ℕ} {c : Dev nD} {z : Fin 4} {us : List (ℕ × RS)}

/-- The loop's last state is the exit's first. -/
theorem ex_start (hz : zOf c = z) (hf : atEnd z us = true) : St m K c z us ⊢ Ex m K c [0, 1, 2, 3] := by
  subst hz
  have hl : ∀ i ∈ Finset.range 128, look (zOf c) us i = fin (zOf c) i := fun i hi =>
    of_decide_eq_true (List.all_eq_true.mp hf i (List.mem_range.mpr (Finset.mem_range.mp hi)))
  have hd : debt c (zOf c) us = 0 := by
    unfold debt
    exact Finset.sum_eq_zero fun i hi => by rw [hl i hi, fin_notReady, if_neg Bool.false_ne_true]
  have he : debt c (zOf c) us + exitDue c = exDue c [0, 1, 2, 3] := by
    rw [hd, zero_add]; unfold exitDue; simp only [exDue, zero_add]; rfl
  unfold St Ex Items EndP Tail
  rw [bigSep_congr fun i hi => congrArg (res m c i) (hl i hi), he]
  iintro ⟨#HR, ⟨Hi, ⟨Ha, Hc, Ht⟩, Hb, Hcp, Hx⟩, HO⟩
  isplitr; · iexact HR
  isplitl [Hi Hb Hcp Hx]
  · isplitl [Hi]; · iexact Hi
    isplitl [Hb]; · iexact Hb
    isplitl [Hcp] <;> iassumption
  isplitl [Ha Hc]; · isplitl [Ha] <;> iassumption
  isplitl [Ht]
  · icases Ht with ⟨H1, H2, H3, H4⟩
    simp only [exToks]
    isplitl [H1]; · iexact H1
    isplitl [H2]; · iexact H2
    isplitl [H3]; · iexact H3
    isplitl [H4]; · iexact H4
    iempintro
  iexact HO

theorem ex_sig {e : Fin 4} {es : List (Fin 4)} {d : ℕ} {hlt : d < nD} (hn : d = (sigTo e c).val) {Q : PUnit → sProp 𝕄} (hQ : Goes (Ex m K c es) (Q ⟨⟩)) :
    Goes (Ex m K c (e :: es)) (wpC c (semSignalWord (⟨d, hlt⟩ : Dev nD) cc0_scoped0.sem 1#32) Q) := by
  unfold Goes at *
  obtain rfl : (sigTo e c).val = d := hn.symm
  unfold wpC semSignalWord Ex exToks
  iintro ⟨#HR, HE, Hac, ⟨Ht, Hbt⟩, %W, HO⟩
  ihave Hi := (Recs_exit m K (sigTo e c)) $$ HR
  icases Hi with ⟨#HI, #Hr⟩
  iapply (Rounds.wp_signal 𝒱₀ ER (rd m) (c : Thread nD τ) none (dst := (sigTo e c : Thread nD τ)) (κ := K (sigTo e c, 81)) (r := 0)
      (d := e) (by rw [duties_reg]; exact Finset.mem_univ _) ((amount_reg m (sigTo e c) e exitS).trans (by decide)) () (exDue c es) rfl) $$ [HO Ht]
  · isplitr; · iexact HI
    isplitl [HO]; · iexact HO
    isplitl [Ht]; · iexact Ht
    isplitr; · rw [payload_exit]; iempintro
    iexact Hr
  iintro HO
  iapply (ret_raw (c := c))
  iapply hQ
  unfold Ex
  isplitr; · iexact HR
  isplitl [HE]; · iexact HE
  isplitl [Hac]; · iexact Hac
  isplitl [Hbt]; · iexact Hbt
  iexists _; iexact HO

/-- The first signal of the exit. -/
theorem ex_first (hz : zOf c = z) (hf : atEnd z us = true) {d : ℕ} {hlt : d < nD} (hn : d = (sigTo 0 c).val) {Q : PUnit → sProp 𝕄} (hQ : Goes (Ex m K c [1, 2, 3]) (Q ⟨⟩)) :
    Goes (St m K c z us) (wpC c (semSignalWord (⟨d, hlt⟩ : Dev nD) cc0_scoped0.sem 1#32) Q) :=
  BIBase.Entails.trans (ex_start hz hf) (ex_sig hn hQ)

theorem ex_wait {Q : PUnit → sProp 𝕄} (hQ : Goes (Out m K c) (Q ⟨⟩)) : Goes (Ex m K c []) (wpC c (semWaitWord cc0_scoped0.sem 4#32) Q) := by
  unfold Goes at *
  unfold wpC semWaitWord Ex
  iintro ⟨#HR, HE, ⟨Hat, Hc⟩, -, %W, HO⟩
  ihave Hi := (Recs_exit m K c) $$ HR
  icases Hi with ⟨#HI, -⟩
  iapply (Rounds.wp_wait_rest_token 𝒱₀ ER (rd m) (c : Thread nD τ) none (κ := K (c, 81))
      (wpE_semWait_eq 𝒱₀ (c : Thread nD τ) none Set.univ) (Set.mem_univ _) () (O := 0) (W := W) (R := 0) (m := 0) (T := ∅)
      (by rw [Nat.zero_add]; exact Eq.trans (by decide) (expect_reg m c exitS).symm)) $$ [Hc HO Hat]
  · isplitr; · iexact HI
    isplitl [Hc]; · iexact Hc
    isplitl [HO]; · iexact HO
    isplitr; · rw [MayWait_zero]; iempintro
    iexact Hat
  iintro ⟨HO, Hat, -⟩
  iapply (ret_raw (c := c))
  iapply hQ
  unfold Out
  isplitr; · iexact HR
  isplitl [HE]; · iexact HE
  isplitl [Hat]; · iexact Hat
  iexists _; iexact HO

end Exit

end Cert.AllReduce

end
-- ==== Proof.Body.lean ====
/-
The kernel's body, once, at a device of any place on its `z` line: its skeleton is walked from the first state to the last, each
step by the lemma for its kind, the conditions on the device decided in the case of its place.
-/
module
public import proofs.«01_k».proof.Proof.Entry
@[expose] public section
set_option maxRecDepth 20000
noncomputable section
namespace Cert.AllReduce
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ)

set_option maxHeartbeats 0 in
/-- From what a device is given at the start, the body runs to its end, with every transfer waited for, every block of the result in
place and nothing owed. -/
theorem body (K : Dev nD × Fin 83 → ℕ) (c : Dev nD) (Q : PUnit → sProp 𝕄) (hQ : Goes (Out m K c) (Q ⟨⟩)) :
    Goes (E0 m K c) (wpC (F := F) c (cc0_body (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scoped0) Q) := by
  have hq : zOf c = 0 ∨ zOf c = 1 ∨ zOf c = 2 ∨ zOf c = 3 := by generalize zOf c = z; revert z; decide
  rcases hq with hz | hz | hz | hz
  all_goals
    rw [cc0_body_eq_skeleton]; delta cc0_body_skel
    with_reducible refine step_bind ?_
    rw [k0_part85_eq_skeleton]; delta k0_part85_skel
    with_reducible refine step_bind ?_
    rw [k0_part28_eq_skeleton]; delta k0_part28_skel
    with_reducible refine step_bind ?_
    with_reducible refine step_device ?_
    with_reducible refine step_pure ?_
    with_reducible refine step_bind ?_
    rw [k0_part29_eq_skeleton]; delta k0_part29_skel
    with_reducible refine step_pure ?_
    repeat (first
      | with_reducible refine en_copy ?_
      | with_reducible refine en_wait ?_
      | (with_reducible refine en_sig ?_ ?_
         · clear hQ; revert c; decide +kernel)
      | with_reducible refine en_bar hz ?_
      | (with_reducible refine ex_first hz ?_ ?_ ?_
         · decide +kernel
         · clear hQ; revert c; decide +kernel)
      | (with_reducible refine ex_sig ?_ ?_
         · clear hQ; revert c; decide +kernel)
      | with_reducible refine ex_wait ?_
      | with_reducible exact hQ
      | with_reducible refine step_bind ?_
      | (with_reducible refine step_pos ?_ ?_
         · clear hQ; revert c; decide +kernel)
      | (with_reducible refine step_neg ?_ ?_
         · clear hQ; revert c; decide +kernel)
      | (with_reducible refine' st_send m hz ?_ ?_ ?_ ?_ ?_ ?_ ?_ ?_ ?_
         rotate_left 2
         · first | with_reducible exact semSendP _ _ | with_reducible exact semSendS _ _ | with_reducible exact semSendA _ _
         · first | with_reducible exact semRecvP _ _ | with_reducible exact semRecvS _ _ | with_reducible exact semRecvA _ _
         · clear hQ; revert c; decide +kernel
         · decide +kernel
         · decide +kernel
         · decide +kernel
         · first | exact pl_p _ rfl | exact pl_s _ rfl | exact pl_own _ (by clear hQ; revert c; decide +kernel) | exact pl_hop (t := 0) _ (by clear hQ; revert c; decide +kernel) | exact pl_hop (t := 1) _ (by clear hQ; revert c; decide +kernel)
         · first | exact pl_p _ rfl | exact pl_s _ rfl | exact pl_hop (t := 0) _ (by clear hQ; revert c; decide +kernel) | exact pl_hop (t := 1) _ (by clear hQ; revert c; decide +kernel) | exact pl_hop (t := 2) _ (by clear hQ; revert c; decide +kernel))
      | (with_reducible refine' st_waitSend m hz ?_ ?_ ?_ ?_ ?_
         rotate_left 2
         · first | with_reducible exact semSendP _ _ | with_reducible exact semSendS _ _ | with_reducible exact semSendA _ _
         · decide +kernel
         · decide +kernel
         · decide +kernel)
      | (with_reducible refine' st_waitRecv m hz ?_ ?_ ?_ ?_ ?_ ?_
         rotate_left 2
         · first | with_reducible exact semRecvP _ _ | with_reducible exact semRecvS _ _ | with_reducible exact semRecvA _ _
         · decide +kernel
         · decide +kernel
         · decide +kernel
         · decide +kernel)
      | (with_reducible refine' st_load m (p := 1) (v := .lP) ?_ ?_ ?_ ?_
         rotate_left 1
         · exact pl_p' _ rfl
         · decide
         · decide +kernel)
      | (with_reducible refine' st_load m (p := 1) (v := .pb) ?_ ?_ ?_ ?_
         rotate_left 1
         · exact pl_p' _ rfl
         · decide
         · decide +kernel)
      | (with_reducible refine' st_load m (p := 2) (v := .lS) ?_ ?_ ?_ ?_
         rotate_left 1
         · exact pl_s' _ rfl
         · decide
         · decide +kernel)
      | (with_reducible refine' st_load m (p := 2) (v := .sb) ?_ ?_ ?_ ?_
         rotate_left 1
         · exact pl_s' _ rfl
         · decide
         · decide +kernel)
      | (with_reducible refine' st_load m (p := 0) (v := .x) ?_ ?_ ?_ ?_
         rotate_left 1
         · first
          | exact pl_own (j := 0) _ (by clear hQ; revert c; decide +kernel)
          | exact pl_own (j := 1) _ (by clear hQ; revert c; decide +kernel)
          | exact pl_own (j := 2) _ (by clear hQ; revert c; decide +kernel)
          | exact pl_own (j := 3) _ (by clear hQ; revert c; decide +kernel)
          | exact pl_own (j := 4) _ (by clear hQ; revert c; decide +kernel)
          | exact pl_own (j := 5) _ (by clear hQ; revert c; decide +kernel)
          | exact pl_own (j := 6) _ (by clear hQ; revert c; decide +kernel)
          | exact pl_own (j := 7) _ (by clear hQ; revert c; decide +kernel)
         · decide
         · decide +kernel)
      | (with_reducible refine' st_store m (p := 1) (v := .lP) (v' := .pb) ?_ ?_ ?_ ?_ ?_
         rotate_left 1
         · exact pl_p' _ rfl
         · decide
         · decide +kernel
         · exact acc_pb m _ (by rw [hz]; decide))
      | (with_reducible refine' st_store m (p := 2) (v := .lS) (v' := .sb) ?_ ?_ ?_ ?_ ?_
         rotate_left 1
         · exact pl_s' _ rfl
         · decide
         · decide +kernel
         · exact acc_sb m _ (by rw [hz]; decide))
      | (with_reducible refine' st_store m (p := 0) (v := .x) (v' := .red) ?_ ?_ ?_ ?_ ?_
         rotate_left 1
         · first
          | exact pl_own (j := 0) _ (by clear hQ; revert c; decide +kernel)
          | exact pl_own (j := 1) _ (by clear hQ; revert c; decide +kernel)
          | exact pl_own (j := 2) _ (by clear hQ; revert c; decide +kernel)
          | exact pl_own (j := 3) _ (by clear hQ; revert c; decide +kernel)
          | exact pl_own (j := 4) _ (by clear hQ; revert c; decide +kernel)
          | exact pl_own (j := 5) _ (by clear hQ; revert c; decide +kernel)
          | exact pl_own (j := 6) _ (by clear hQ; revert c; decide +kernel)
          | exact pl_own (j := 7) _ (by clear hQ; revert c; decide +kernel)
         · decide
         · decide +kernel
         · first | exact red_first m _ hz | exact red_one m _ hz | exact red_two m _ hz | exact red_last m _ hz)
      | with_reducible refine step_dev ?_
      | (with_reducible refine step_words ?_
         repeat (with_reducible refine words_two ?_; intro _)
         intro _)
      | (rw [k0_part1_eq_skeleton]; delta k0_part1_skel)
      | (rw [k0_part2_eq_skeleton]; delta k0_part2_skel)
      | (rw [k0_part3_eq_skeleton]; delta k0_part3_skel)
      | (rw [k0_part4_eq_skeleton]; delta k0_part4_skel)
      | (rw [k0_part5_eq_skeleton]; delta k0_part5_skel)
      | (rw [k0_part6_eq_skeleton]; delta k0_part6_skel)
      | (rw [k0_part7_eq_skeleton]; delta k0_part7_skel)
      | (rw [k0_part8_eq_skeleton]; delta k0_part8_skel)
      | (rw [k0_part9_eq_skeleton]; delta k0_part9_skel)
      | (rw [k0_part10_eq_skeleton]; delta k0_part10_skel)
      | (rw [k0_part11_eq_skeleton]; delta k0_part11_skel)
      | (rw [k0_part12_eq_skeleton]; delta k0_part12_skel)
      | (rw [k0_part13_eq_skeleton]; delta k0_part13_skel)
      | (rw [k0_part14_eq_skeleton]; delta k0_part14_skel)
      | (rw [k0_part15_eq_skeleton]; delta k0_part15_skel)
      | (rw [k0_part16_eq_skeleton]; delta k0_part16_skel)
      | (rw [k0_part17_eq_skeleton]; delta k0_part17_skel)
      | (rw [k0_part18_eq_skeleton]; delta k0_part18_skel)
      | (rw [k0_part19_eq_skeleton]; delta k0_part19_skel)
      | (rw [k0_part20_eq_skeleton]; delta k0_part20_skel)
      | (rw [k0_part21_eq_skeleton]; delta k0_part21_skel)
      | (rw [k0_part22_eq_skeleton]; delta k0_part22_skel)
      | (rw [k0_part23_eq_skeleton]; delta k0_part23_skel)
      | (rw [k0_part24_eq_skeleton]; delta k0_part24_skel)
      | (rw [k0_part25_eq_skeleton]; delta k0_part25_skel)
      | (rw [k0_part26_eq_skeleton]; delta k0_part26_skel)
      | (rw [k0_part27_eq_skeleton]; delta k0_part27_skel)
      | (rw [k0_part28_eq_skeleton]; delta k0_part28_skel)
      | (rw [k0_part29_eq_skeleton]; delta k0_part29_skel)
      | (rw [k0_part30_eq_skeleton]; delta k0_part30_skel)
      | (rw [k0_part31_eq_skeleton]; delta k0_part31_skel)
      | (rw [k0_part32_eq_skeleton]; delta k0_part32_skel)
      | (rw [k0_part33_eq_skeleton]; delta k0_part33_skel)
      | (rw [k0_part34_eq_skeleton]; delta k0_part34_skel)
      | (rw [k0_part35_eq_skeleton]; delta k0_part35_skel)
      | (rw [k0_part36_eq_skeleton]; delta k0_part36_skel)
      | (rw [k0_part37_eq_skeleton]; delta k0_part37_skel)
      | (rw [k0_part38_eq_skeleton]; delta k0_part38_skel)
      | (rw [k0_part39_eq_skeleton]; delta k0_part39_skel)
      | (rw [k0_part40_eq_skeleton]; delta k0_part40_skel)
      | (rw [k0_part41_eq_skeleton]; delta k0_part41_skel)
      | (rw [k0_part42_eq_skeleton]; delta k0_part42_skel)
      | (rw [k0_part43_eq_skeleton]; delta k0_part43_skel)
      | (rw [k0_part44_eq_skeleton]; delta k0_part44_skel)
      | (rw [k0_part45_eq_skeleton]; delta k0_part45_skel)
      | (rw [k0_part46_eq_skeleton]; delta k0_part46_skel)
      | (rw [k0_part47_eq_skeleton]; delta k0_part47_skel)
      | (rw [k0_part48_eq_skeleton]; delta k0_part48_skel)
      | (rw [k0_part49_eq_skeleton]; delta k0_part49_skel)
      | (rw [k0_part50_eq_skeleton]; delta k0_part50_skel)
      | (rw [k0_part51_eq_skeleton]; delta k0_part51_skel)
      | (rw [k0_part52_eq_skeleton]; delta k0_part52_skel)
      | (rw [k0_part53_eq_skeleton]; delta k0_part53_skel)
      | (rw [k0_part54_eq_skeleton]; delta k0_part54_skel)
      | (rw [k0_part55_eq_skeleton]; delta k0_part55_skel)
      | (rw [k0_part56_eq_skeleton]; delta k0_part56_skel)
      | (rw [k0_part57_eq_skeleton]; delta k0_part57_skel)
      | (rw [k0_part58_eq_skeleton]; delta k0_part58_skel)
      | (rw [k0_part59_eq_skeleton]; delta k0_part59_skel)
      | (rw [k0_part60_eq_skeleton]; delta k0_part60_skel)
      | (rw [k0_part61_eq_skeleton]; delta k0_part61_skel)
      | (rw [k0_part62_eq_skeleton]; delta k0_part62_skel)
      | (rw [k0_part63_eq_skeleton]; delta k0_part63_skel)
      | (rw [k0_part64_eq_skeleton]; delta k0_part64_skel)
      | (rw [k0_part65_eq_skeleton]; delta k0_part65_skel)
      | (rw [k0_part66_eq_skeleton]; delta k0_part66_skel)
      | (rw [k0_part67_eq_skeleton]; delta k0_part67_skel)
      | (rw [k0_part68_eq_skeleton]; delta k0_part68_skel)
      | (rw [k0_part69_eq_skeleton]; delta k0_part69_skel)
      | (rw [k0_part70_eq_skeleton]; delta k0_part70_skel)
      | (rw [k0_part71_eq_skeleton]; delta k0_part71_skel)
      | (rw [k0_part72_eq_skeleton]; delta k0_part72_skel)
      | (rw [k0_part73_eq_skeleton]; delta k0_part73_skel)
      | (rw [k0_part74_eq_skeleton]; delta k0_part74_skel)
      | (rw [k0_part75_eq_skeleton]; delta k0_part75_skel)
      | (rw [k0_part76_eq_skeleton]; delta k0_part76_skel)
      | (rw [k0_part77_eq_skeleton]; delta k0_part77_skel)
      | (rw [k0_part78_eq_skeleton]; delta k0_part78_skel)
      | (rw [k0_part79_eq_skeleton]; delta k0_part79_skel)
      | (rw [k0_part80_eq_skeleton]; delta k0_part80_skel)
      | (rw [k0_part81_eq_skeleton]; delta k0_part81_skel)
      | (rw [k0_part82_eq_skeleton]; delta k0_part82_skel)
      | (rw [k0_part83_eq_skeleton]; delta k0_part83_skel)
      | (rw [k0_part84_eq_skeleton]; delta k0_part84_skel)
      | (rw [k0_part85_eq_skeleton]; delta k0_part85_skel))

end Cert.AllReduce

end
-- ==== Proof.Mem.lean ====
/-
The buffers whole and by chunk: what a device starts from cut into the chunks the protocol lends and keeps, and the chunks it ends
with joined to the result it computes.
-/
module

public import proofs.«01_k».proof.Proof.Entry

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Finite conjunctions written out -/

theorem four (Φ : Fin 4 → sProp 𝕄) : bigSep Finset.univ Φ = iprop(Φ 0 ∗ Φ 1 ∗ Φ 2 ∗ Φ 3) := bigSep_univ_eq_bigSepL [0, 1, 2, 3] (by decide) (by decide) Φ
theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
/-- By kind, then by chunk. -/
theorem kinds (Φ : Fin 5 × Fin 8 → sProp 𝕄) : bigSep Finset.univ Φ
    = iprop((bigSep Finset.univ fun j => Φ (0, j)) ∗ (bigSep Finset.univ fun j => Φ (1, j)) ∗ (bigSep Finset.univ fun j => Φ (2, j))
      ∗ (bigSep Finset.univ fun j => Φ (3, j)) ∗ (bigSep Finset.univ fun j => Φ (4, j))) :=
  (bigSep_univ_prod Φ).trans (five fun k => bigSep Finset.univ fun j => Φ (k, j))

/-! ## The result's chunks -/

theorem big_cover : (Finset.univ : Finset (Fin 4 × Fin 8)).biUnion (fun x => (bigRect x.1 x.2).set) = Finset.univ := by
  ext i
  have h0 : (i 0).val < 8192 := (i 0).isLt
  simp only [Finset.mem_biUnion, Finset.mem_univ, true_and, iff_true]
  exact ⟨(⟨(i 0).val / 2048, by omega⟩, ⟨(i 0).val % 2048 / 256, by omega⟩), mem_big.mpr (by dsimp only; omega)⟩
theorem buf_cover : (Finset.univ : Finset (Fin 8)).biUnion (fun j => (bufRect j).set) = Finset.univ := by
  ext i
  have h0 : (i 0).val < 2048 := (i 0).isLt
  simp only [Finset.mem_biUnion, Finset.mem_univ, true_and, iff_true]
  exact ⟨⟨(i 0).val / 256, by omega⟩, mem_buf.mpr (by dsimp only; omega)⟩
theorem buf_disjoint {j j' : Fin 8} (h : j ≠ j') : Disjoint (bufRect j).set (bufRect j').set := by
  refine Finset.disjoint_left.mpr fun i hi hi' => h ?_
  rw [mem_buf] at hi hi'
  exact Fin.ext (by omega)

/-- The four blocks of a chunk are the own one and the three that arrive. -/
theorem hops_inj (j : Fin 8) (c : Dev nD) : Function.Injective fun t : Fin 4 => qOf (own j t.val c) := by
  have h : ∀ (j : Fin 8) (c : Dev nD) (t t' : Fin 4), qOf (own j t.val c) = qOf (own j t'.val c) → t = t' := by decide +kernel
  exact fun t t' => h j c t t'
def hops (j : Fin 8) (c : Dev nD) : Fin 4 ≃ Fin 4 := Equiv.ofBijective _ (Finite.injective_iff_bijective.mp (hops_inj j c))

/-- The result whole is its chunks: for each, the own block's and the three that arrive. -/
theorem out_split (c : Dev nD) (f : Buf (Elt F) ((c : Thread nD τ).loc cc0_stg0_0)) :
    ((c : Thread nD τ).loc cc0_stg0_0 ↦{fullShare} f : sProp 𝕄)
      = iprop((bigSep Finset.univ fun j : Fin 8 => (c : Thread nD τ).loc cc0_stg0_0 ↦[(outCh (qOf c) j).view.set]{fullShare} f)
        ∗ (bigSep Finset.univ fun j : Fin 8 => (c : Thread nD τ).loc cc0_stg0_0 ↦[(outCh (qOf (own j 1 c)) j).view.set]{fullShare} f)
        ∗ (bigSep Finset.univ fun j : Fin 8 => (c : Thread nD τ).loc cc0_stg0_0 ↦[(outCh (qOf (own j 2 c)) j).view.set]{fullShare} f)
        ∗ (bigSep Finset.univ fun j : Fin 8 => (c : Thread nD τ).loc cc0_stg0_0 ↦[(outCh (qOf (own j 3 c)) j).view.set]{fullShare} f)) := by
  have e : ((c : Thread nD τ).loc cc0_stg0_0 ↦{fullShare} f : sProp 𝕄)
      = (c : Thread nD τ).loc cc0_stg0_0 ↦[(Finset.univ : Finset (Fin 4 × Fin 8)).biUnion (fun x => (bigRect x.1 x.2).set)]{fullShare} f := by rw [big_cover]
  rw [e, pointsTo_biUnion _ _ fun x _ x' _ h => big_disjoint h, bigSep_univ_prod, bigSep_univ_comm,
    ← bigSep_sep', ← bigSep_sep', ← bigSep_sep']
  refine bigSep_congr fun j _ => ?_
  rw [bigSep_univ_equiv (hops j c), four]
  rw [set_out, set_out, set_out, set_out]
  rfl
theorem p_split (c : Dev nD) (f : Buf (Elt F) ((c : Thread nD τ).loc cc0_scratch0)) :
    ((c : Thread nD τ).loc cc0_scratch0 ↦{fullShare} f : sProp 𝕄) = bigSep Finset.univ fun j : Fin 8 => (c : Thread nD τ).loc cc0_scratch0 ↦[(bufRect j).set]{fullShare} f := by
  have e : ((c : Thread nD τ).loc cc0_scratch0 ↦{fullShare} f : sProp 𝕄)
      = (c : Thread nD τ).loc cc0_scratch0 ↦[(Finset.univ : Finset (Fin 8)).biUnion (fun j => (bufRect j).set)]{fullShare} f := by rw [buf_cover]
  rw [e]
  exact pointsTo_biUnion _ _ fun j _ j' _ h => buf_disjoint h
theorem s_split (c : Dev nD) (f : Buf (Elt F) ((c : Thread nD τ).loc cc0_scratch1)) :
    ((c : Thread nD τ).loc cc0_scratch1 ↦{fullShare} f : sProp 𝕄) = bigSep Finset.univ fun j : Fin 8 => (c : Thread nD τ).loc cc0_scratch1 ↦[(bufRect j).set]{fullShare} f := by
  have e : ((c : Thread nD τ).loc cc0_scratch1 ↦{fullShare} f : sProp 𝕄)
      = (c : Thread nD τ).loc cc0_scratch1 ↦[(Finset.univ : Finset (Fin 8)).biUnion (fun j => (bufRect j).set)]{fullShare} f := by rw [buf_cover]
  rw [e]
  exact pointsTo_biUnion _ _ fun j _ j' _ h => buf_disjoint h

theorem set_p (j : Fin 8) : (pCh j).view.set = (bufRect j).set := View.set_slice_whole _ _
theorem set_s (j : Fin 8) : (sCh j).view.set = (bufRect j).set := View.set_slice_whole _ _

theorem some_p (c : Dev nD) (j : Fin 8) (f : Buf (Elt F) ((c : Thread nD τ).loc cc0_scratch0)) :
    ((c : Thread nD τ).loc cc0_scratch0 ↦[(bufRect j).set]{fullShare} f : sProp 𝕄) ⊢ someAt c (pCh j) := by
  rw [← set_p]; unfold someAt; iintro H; iexists f; iexact H
theorem some_s (c : Dev nD) (j : Fin 8) (f : Buf (Elt F) ((c : Thread nD τ).loc cc0_scratch1)) :
    ((c : Thread nD τ).loc cc0_scratch1 ↦[(bufRect j).set]{fullShare} f : sProp 𝕄) ⊢ someAt c (sCh j) := by
  rw [← set_s]; unfold someAt; iintro H; iexists f; iexact H
theorem some_o (c : Dev nD) (b : Fin 4) (j : Fin 8) (f : Buf (Elt F) ((c : Thread nD τ).loc cc0_stg0_0)) :
    ((c : Thread nD τ).loc cc0_stg0_0 ↦[(outCh b j).view.set]{fullShare} f : sProp 𝕄) ⊢ someAt c (outCh b j) := by
  unfold someAt; iintro H; iexists f; iexact H

/-- The three buffers at the start: the own rows, and where each transfer is to land. -/
theorem mem_start (c : Dev nD) :
    iprop((∃ f, (c : Thread nD τ).loc cc0_stg0_0 ↦{fullShare} f) ∗ (∃ f, (c : Thread nD τ).loc cc0_scratch0 ↦{fullShare} f)
        ∗ (∃ f, (c : Thread nD τ).loc cc0_scratch1 ↦{fullShare} f))
      ⊢ (iprop((∃ f, (c : Thread nD τ).loc cc0_stg0_0 ↦[(ownRows c).view.set]{fullShare} f)
        ∗ bigSep Finset.univ fun kj : Fin 5 × Fin 8 => someAt c (place c kj.2 (dstPl kj.1))) : sProp 𝕄) := by
  iintro ⟨⟨%f, Ho⟩, ⟨%g, Hp⟩, ⟨%h, Hs⟩⟩
  ihave Ho := (Entails.of_eq (out_split (F := F) c f)) $$ Ho
  ihave Hp := (Entails.of_eq (p_split (F := F) c g)) $$ Hp
  ihave Hs := (Entails.of_eq (s_split (F := F) c h)) $$ Hs
  icases Ho with ⟨H0, H1, H2, H3⟩
  isplitl [H0]
  · iexists f; ihave H := (Entails.of_eq (own_chunks (F := F) c fullShare f).symm) $$ H0; iexact H
  · rw [kinds]
    isplitl [Hp]; · have e := big_mono (s := Finset.univ) fun j : Fin 8 => some_p (F := F) c j g
                    iapply e; iexact Hp
    isplitl [Hs]; · have e := big_mono (s := Finset.univ) fun j : Fin 8 => some_s (F := F) c j h
                    iapply e; iexact Hs
    isplitl [H1]; · have e := big_mono (s := Finset.univ) fun j : Fin 8 => some_o (F := F) c (qOf (own j 1 c)) j f
                    iapply e; iexact H1
    isplitl [H2]; · have e := big_mono (s := Finset.univ) fun j : Fin 8 => some_o (F := F) c (qOf (own j 2 c)) j f
                    iapply e; iexact H2
    have e := big_mono (s := Finset.univ) fun j : Fin 8 => some_o (F := F) c (qOf (own j 3 c)) j f
    iapply e; iexact H3

/-! ## What is lent -/

/-- A landing place of a transfer that comes goes to its sender, by the signal of its direction; the others stay. -/
theorem lend (c : Dev nD) : (bigSep Finset.univ fun kj : Fin 5 × Fin 8 => someAt (F := F) c (place c kj.2 (dstPl kj.1)))
    ⊢ iprop((bigSep Finset.univ fun e => barPay (F := F) (sigTo e c) e) ∗ bigSep Finset.univ fun kj => idlePart (F := F) c kj) := by
  have h : (Finset.univ.filter fun kj : Fin 5 × Fin 8 => actR (zOf c) kj.1 = true) = Finset.univ.biUnion fun e => transfers (zOf (sigTo e c)) e := by
    ext kj
    unfold transfers
    simp only [Finset.mem_filter, Finset.mem_univ, true_and, Finset.mem_biUnion, exists_eq_left']
    rw [← actS_src kj.1 kj.2 c]; rfl
  have hb : (bigSep Finset.univ fun e => barPay (F := F) (sigTo e c) e)
      = bigSep Finset.univ fun kj : Fin 5 × Fin 8 => if actR (zOf c) kj.1 = true then someAt (F := F) c (place c kj.2 (dstPl kj.1)) else iprop(emp) := by
    refine Eq.trans ?_ (bigSep_filter Finset.univ (fun kj : Fin 5 × Fin 8 => actR (zOf c) kj.1 = true) (fun kj => someAt (F := F) c (place c kj.2 (dstPl kj.1))))
    rw [h, bigSep_biUnion_eq _ _ _ fun e _ e' _ hne => Finset.disjoint_left.mpr fun kj h₁ h₂ =>
      hne ((Finset.mem_filter.mp h₁).2.1.symm.trans (Finset.mem_filter.mp h₂).2.1)]
    refine bigSep_congr fun e _ => bigSep_congr fun kj hkj => ?_
    have he := (Finset.mem_filter.mp hkj).2.1
    subst he
    unfold dest
    rw [show tgt kj.1 kj.2 (sigTo (dir kj.1 kj.2) c) = c from tgt_src kj.1 kj.2 c]
  rw [hb]
  refine BIBase.Entails.trans (big_mono fun kj => ?_) (Entails.of_eq (bigSep_sep' Finset.univ
    (fun kj : Fin 5 × Fin 8 => if actR (zOf c) kj.1 = true then someAt (F := F) c (place c kj.2 (dstPl kj.1)) else iprop(emp)) (fun kj => idlePart (F := F) c kj)))
  unfold idlePart
  by_cases ha : actR (zOf c) kj.1 = true
  · rw [if_pos ha, if_pos ha]
    iintro H
    isplitl [H]; · iexact H
    iempintro
  · rw [if_neg ha, if_neg ha]
    iintro H
    isplitr; · iempintro
    iexact H

/-! ## The end -/

variable (m : (ℓ : Loc nD τ sig) → Buf (Elt F) ℓ)

/-- Row `i` of the result by block, chunk, and row of the chunk. -/
def blockOf (i : S8192x1024.Idx) : Fin 4 := Fin.ofNat 4 ((i 0).val / 2048)
def chunkOf (i : S8192x1024.Idx) : Fin 8 := Fin.ofNat 8 ((i 0).val % 2048 / 256)
def rowOf (i : S8192x1024.Idx) : S256x1024.Idx := fun a => match a with
  | ⟨0, _⟩ => ⟨(i 0).val % 256, Nat.mod_lt _ (by decide)⟩
  | ⟨1, _⟩ => ⟨(i 1).val, (i 1).isLt⟩

/-- What device `c` ends with: each block's chunks as reduced by the device of that block on `c`'s plane. -/
def outAt (c : Dev nD) : (cc0_stg0_0 : Ref sig .tc).ty.Contents (Elt F) := fun i => red m (chunkOf i) (devAt (blockOf i) (zOf c)) (rowOf i)

theorem emb_big (b : Fin 4) (j : Fin 8) (x : S256x1024.Idx) :
    blockOf ((bigRect b j).emb x) = b ∧ chunkOf ((bigRect b j).emb x) = j ∧ rowOf ((bigRect b j).emb x) = x := by
  have h0 : ((bigRect b j).emb x 0).val = 2048 * b.val + 256 * j.val + 1 * (x 0).val := rfl
  have h1 : ((bigRect b j).emb x 1).val = 0 + 1 * (x 1).val := rfl
  have hx : (x 0).val < 256 := (x 0).isLt
  have := b.isLt; have := j.isLt
  refine ⟨Fin.ext ?_, Fin.ext ?_, funext fun a => ?_⟩
  · show ((bigRect b j).emb x 0).val / 2048 % 4 = b.val; rw [h0]; omega
  · show ((bigRect b j).emb x 0).val % 2048 / 256 % 8 = j.val; rw [h0]; omega
  · fin_cases a
    · refine Fin.ext ?_; show ((bigRect b j).emb x 0).val % 256 = (x 0).val; rw [h0]; omega
    · refine Fin.ext ?_; show ((bigRect b j).emb x 1).val = (x 1).val; rw [h1]; omega

/-- A chunk at a device's reduced value is the result's there. -/
theorem chunk_end (c d : Dev nD) (j : Fin 8) (h : devAt (qOf d) (zOf c) = d) :
    owns (c : Thread nD τ) (outCh (qOf d) j) fullShare (red m j d) ⊢ ((c : Thread nD τ).loc cc0_stg0_0 ↦[(outCh (qOf d) j).view.set]{fullShare} outAt m c : sProp 𝕄) := by
  unfold owns
  iintro ⟨%f, %hf, H⟩
  have e : ((c : Thread nD τ).loc cc0_stg0_0 ↦[(outCh (qOf d) j).view.set]{fullShare} f : sProp 𝕄)
      = (c : Thread nD τ).loc cc0_stg0_0 ↦[(outCh (qOf d) j).view.set]{fullShare} outAt m c := by
    refine pointsTo_congr fun i hi => ?_
    rw [set_out, ← Rect.map_emb_univ, Finset.mem_map] at hi
    obtain ⟨x, -, rfl⟩ := hi
    obtain ⟨hb, hj, hr⟩ := emb_big (qOf d) j x
    have hx := congrFun hf x
    show f ((bigRect (qOf d) j).emb x) = red m (chunkOf ((bigRect (qOf d) j).emb x)) (devAt (blockOf ((bigRect (qOf d) j).emb x)) (zOf c)) (rowOf ((bigRect (qOf d) j).emb x))
    rw [hb, hj, hr, h]
    exact hx
  ihave H := (Entails.of_eq e) $$ H
  iexact H

theorem own_dev (j : Fin 8) (c : Dev nD) (t : Fin 4) : devAt (qOf (own j t.val c)) (zOf c) = own j t.val c := by revert j c t; decide +kernel

/-- Whose block arrives by a hop. -/
abbrev hopDev (j : Fin 8) (k : Fin 5) (c : Dev nD) : Dev nD := own j (k.val - 1) c

theorem end_own (c : Dev nD) (j : Fin 8) : res m c (at_ j.val 0) (fin (zOf c) (at_ j.val 0))
    ⊢ ((c : Thread nD τ).loc cc0_stg0_0 ↦[(outCh (qOf c) j).view.set]{fullShare} outAt m c : sProp 𝕄) := by
  rw [show fin (zOf c) (at_ j.val 0) = .full .red from by generalize zOf c = z; revert z j; decide +kernel, res_at m c j 0 (by omega)]
  exact chunk_end m c c j (own_dev j c 0)
theorem end_hop (c : Dev nD) (j : Fin 8) (k : Fin 5) (hk : 2 ≤ k.val) : res m c (at_ j.val (1 + k.val)) (fin (zOf c) (at_ j.val (1 + k.val)))
    ⊢ ((c : Thread nD τ).loc cc0_stg0_0 ↦[(outCh (qOf (hopDev j k c)) j).view.set]{fullShare} outAt m c : sProp 𝕄) := by
  rw [res_at m c j _ (by have := k.isLt; omega)]
  have hf : ∀ (z : Fin 4) (j : Fin 8) (k : Fin 5), 2 ≤ k.val → fin z (at_ j.val (1 + k.val)) = .full (dstNm k) := by decide +kernel
  rw [hf _ _ _ hk]
  fin_cases k
  · exact absurd hk (by decide)
  · exact absurd hk (by decide)
  · exact chunk_end m c (own j 1 c) j (own_dev j c 1)
  · exact chunk_end m c (own j 2 c) j (own_dev j c 2)
  · exact chunk_end m c (own j 3 c) j (own_dev j c 3)

/-- Chunks of a buffer at whatever contents are the buffer at some. -/
theorem end_p (c : Dev nD) (j : Fin 8) : res m c (at_ j.val 1) (fin (zOf c) (at_ j.val 1))
    ⊢ (iprop(∃ f, (c : Thread nD τ).loc cc0_scratch0 ↦[(bufRect j).set]{fullShare} f) : sProp 𝕄) := by
  rw [res_at m c j _ (by omega), ← set_p]
  have hf : ∀ (z : Fin 4) (j : Fin 8), fin z (at_ j.val 1) = .junk ∨ fin z (at_ j.val 1) = .full .pb := by decide +kernel
  rcases hf (zOf c) j with h | h
  · rw [h]; exact BIBase.Entails.rfl
  · rw [h]
    show owns (c : Thread nD τ) (pCh j) fullShare _ ⊢ _
    unfold owns
    iintro ⟨%f, -, H⟩; iexists f; iexact H
theorem end_s (c : Dev nD) (j : Fin 8) : res m c (at_ j.val 2) (fin (zOf c) (at_ j.val 2))
    ⊢ (iprop(∃ f, (c : Thread nD τ).loc cc0_scratch1 ↦[(bufRect j).set]{fullShare} f) : sProp 𝕄) := by
  rw [res_at m c j _ (by omega), ← set_s]
  have hf : ∀ (z : Fin 4) (j : Fin 8), fin z (at_ j.val 2) = .junk ∨ fin z (at_ j.val 2) = .full .sb ∨ fin z (at_ j.val 2) = .full .lS := by decide +kernel
  rcases hf (zOf c) j with h | h
  · rw [h]; exact BIBase.Entails.rfl
  · have e : ∀ w, owns (c : Thread nD τ) (sCh j) fullShare w ⊢ (iprop(∃ f, (c : Thread nD τ).loc cc0_scratch1 ↦[(sCh j).view.set]{fullShare} f) : sProp 𝕄) := by
      intro w
      unfold owns
      iintro ⟨%f, -, H⟩; iexists f; iexact H
    rcases h with h | h
    · rw [h]; exact e _
    · rw [h]; exact e _

theorem join_p (c : Dev nD) : (bigSep Finset.univ fun j : Fin 8 => iprop(∃ f, (c : Thread nD τ).loc cc0_scratch0 ↦[(bufRect j).set]{fullShare} f))
    ⊢ (iprop(∃ f, (c : Thread nD τ).loc cc0_scratch0 ↦{fullShare} f) : sProp 𝕄) := by
  by_cases h : Nonempty (Buf (Elt F) ((c : Thread nD τ).loc cc0_scratch0))
  · refine (BI.bigSep_exists_pi Finset.univ (fun (j : Fin 8) f => ((c : Thread nD τ).loc cc0_scratch0 ↦[(bufRect j).set]{fullShare} f : sProp 𝕄))).trans ?_
    iintro ⟨%fs, H⟩
    ihave H := (pointsTo_biUnion_join Finset.univ (fun j : Fin 8 => (bufRect j).set) fs (fs 0) fun j _ j' _ h => buf_disjoint h) $$ H
    icases H with ⟨%g, -, H⟩
    iexists g
    rw [buf_cover]; iexact H
  · refine BIBase.Entails.trans (show _ ⊢ iprop(∃ f, (c : Thread nD τ).loc cc0_scratch0 ↦[(bufRect 0).set]{fullShare} f) from bigSep_elim (Finset.mem_univ (0 : Fin 8))) ?_
    iintro ⟨%f, H⟩
    exact absurd ⟨f⟩ h
theorem join_s (c : Dev nD) : (bigSep Finset.univ fun j : Fin 8 => iprop(∃ f, (c : Thread nD τ).loc cc0_scratch1 ↦[(bufRect j).set]{fullShare} f))
    ⊢ (iprop(∃ f, (c : Thread nD τ).loc cc0_scratch1 ↦{fullShare} f) : sProp 𝕄) := by
  by_cases h : Nonempty (Buf (Elt F) ((c : Thread nD τ).loc cc0_scratch1))
  · refine (BI.bigSep_exists_pi Finset.univ (fun (j : Fin 8) f => ((c : Thread nD τ).loc cc0_scratch1 ↦[(bufRect j).set]{fullShare} f : sProp 𝕄))).trans ?_
    iintro ⟨%fs, H⟩
    ihave H := (pointsTo_biUnion_join Finset.univ (fun j : Fin 8 => (bufRect j).set) fs (fs 0) fun j _ j' _ h => buf_disjoint h) $$ H
    icases H with ⟨%g, -, H⟩
    iexists g
    rw [buf_cover]; iexact H
  · refine BIBase.Entails.trans (show _ ⊢ iprop(∃ f, (c : Thread nD τ).loc cc0_scratch1 ↦[(bufRect 0).set]{fullShare} f) from bigSep_elim (Finset.mem_univ (0 : Fin 8))) ?_
    iintro ⟨%f, H⟩
    exact absurd ⟨f⟩ h

/-- The places at the end: the result, and the two buffers. -/
theorem mem_end (c : Dev nD) :
    iprop((bigSep Finset.univ fun j : Fin 8 => res m c (at_ j.val 0) (fin (zOf c) (at_ j.val 0)))
        ∗ (bigSep Finset.univ fun kj : Fin 5 × Fin 8 => res m c (at_ kj.2.val (1 + kj.1.val)) (fin (zOf c) (at_ kj.2.val (1 + kj.1.val)))))
      ⊢ (iprop(((c : Thread nD τ).loc cc0_stg0_0 ↦{fullShare} outAt m c) ∗ (∃ f, (c : Thread nD τ).loc cc0_scratch0 ↦{fullShare} f)
        ∗ (∃ f, (c : Thread nD τ).loc cc0_scratch1 ↦{fullShare} f)) : sProp 𝕄) := by
  rw [kinds, out_split]
  iintro ⟨H, Hp, Hs, H1, H2, H3⟩
  isplitl [H H1 H2 H3]
  · isplitl [H]; · have e := big_mono (s := Finset.univ) fun j : Fin 8 => end_own m c j
                   iapply e; iexact H
    isplitl [H1]; · have e := big_mono (s := Finset.univ) fun j : Fin 8 => end_hop m c j 2 (by decide)
                    iapply e; iexact H1
    isplitl [H2]; · have e := big_mono (s := Finset.univ) fun j : Fin 8 => end_hop m c j 3 (by decide)
                    iapply e; iexact H2
    have e := big_mono (s := Finset.univ) fun j : Fin 8 => end_hop m c j 4 (by decide)
    iapply e; iexact H3
  isplitl [Hp]
  · iapply (join_p (F := F) c)
    have e := big_mono (s := Finset.univ) fun j : Fin 8 => end_p m c j
    iapply e; iexact Hp
  · iapply (join_s (F := F) c)
    have e := big_mono (s := Finset.univ) fun j : Fin 8 => end_s m c j
    iapply e; iexact Hs

end Cert.AllReduce

end
-- ==== Proof.Ghost.lean ====
/-
The protocol's ghost state: what the launch deals each device, how the tokens go round to the devices that pay with them, the credit a
device is launched with, and that a device has from these what its body starts from and gives back what it started with.
-/
module

public import proofs.«01_k».proof.Proof.Mem

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A device's cells by use -/

def sendE : Fin 5 × Fin 8 ↪ Fin 83 := ⟨fun kj => ix (sendS kj.1 kj.2), by
  have h : ∀ a b : Fin 5 × Fin 8, ix (sendS a.1 a.2) = ix (sendS b.1 b.2) → a = b := by decide +kernel
  exact fun a b => h a b⟩
def recvE : Fin 5 × Fin 8 ↪ Fin 83 := ⟨fun kj => ix (recvS kj.1 kj.2), by
  have h : ∀ a b : Fin 5 × Fin 8, ix (recvS a.1 a.2) = ix (recvS b.1 b.2) → a = b := by decide +kernel
  exact fun a b => h a b⟩

theorem cells_univ : (Finset.univ : Finset (Fin 83)) = {0} ∪ ({81} ∪ ({82} ∪ (Finset.univ.map sendE ∪ Finset.univ.map recvE))) := by decide +kernel

/-- Anything told of each semaphore: of the copy's, the exit's, the barrier's, the senders', the receivers'. -/
theorem cells_split (Ψ : SemLoc sig → sProp 𝕄) : (bigSep Finset.univ fun i : Fin 83 => Ψ (csem i))
    = iprop(Ψ (.dma copyS) ∗ Ψ (.reg exitS) ∗ Ψ (.reg barS) ∗ (bigSep Finset.univ fun kj : Fin 5 × Fin 8 => Ψ (.dma (sendS kj.1 kj.2)))
      ∗ (bigSep Finset.univ fun kj : Fin 5 × Fin 8 => Ψ (.dma (recvS kj.1 kj.2)))) := by
  have h0 : csem 0 = .dma copyS := csem_dma copyS (by decide +kernel)
  have hs : ∀ kj : Fin 5 × Fin 8, csem (sendE kj) = .dma (sendS kj.1 kj.2) := fun kj => csem_dma _ (send_val_pos _ _)
  have hr : ∀ kj : Fin 5 × Fin 8, csem (recvE kj) = .dma (recvS kj.1 kj.2) := fun kj => csem_dma _ (recv_val_pos _ _)
  rw [cells_univ, bigSep_union (by decide +kernel), bigSep_union (by decide +kernel), bigSep_union (by decide +kernel), bigSep_union (by decide +kernel),
    bigSep_singleton, bigSep_singleton, bigSep_singleton, bigSep_map, bigSep_map, h0, csem_exit, csem_bar,
    bigSep_congr fun kj _ => congrArg Ψ (hs kj), bigSep_congr fun kj _ => congrArg Ψ (hr kj)]
  rfl

theorem csem_injective : Function.Injective csem := by
  have h : ∀ i j : Fin 83, csem i = csem j → i = j := by decide +kernel
  exact fun i j => h i j
theorem kcell_injective : Function.Injective (kcell : Dev nD × Fin 83 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-! ## The tokens -/

/-- The tokens of a device's own cells; -/
def toks (c : Dev nD) : sProp 𝕄 := bigSep Finset.univ fun i : Fin 83 => bigSep Finset.univ fun e : Fin 4 => dutyTok ER (kcell (c, i)) 0 e
/-- of them, those of duties there are; -/
def ownToks (c : Dev nD) : sProp 𝕄 :=
  iprop(dutyTok ER (copyCell c) 0 0 ∗ (bigSep Finset.univ fun e : Fin 4 => dutyTok ER (exitCell c) 0 e) ∗ (bigSep Finset.univ fun e : Fin 4 => dutyTok ER (barCell c) 0 e)
    ∗ (bigSep Finset.univ fun kj : Fin 5 × Fin 8 => dutyTok ER (sendCell kj.1 kj.2 c) 0 0)
    ∗ (bigSep Finset.univ fun kj : Fin 5 × Fin 8 => dutyTok ER (recvCell kj.1 kj.2 c) 0 0))
/-- and the tokens a device pays with. -/
def payToks (c : Dev nD) : sProp 𝕄 :=
  iprop(dutyTok ER (copyCell c) 0 0 ∗ (bigSep Finset.univ fun e : Fin 4 => dutyTok ER (exitCell (sigTo e c)) 0 e)
    ∗ (bigSep Finset.univ fun e : Fin 4 => dutyTok ER (barCell (sigTo e c)) 0 e)
    ∗ (bigSep Finset.univ fun kj : Fin 5 × Fin 8 => dutyTok ER (sendCell kj.1 kj.2 c) 0 0)
    ∗ (bigSep Finset.univ fun kj : Fin 5 × Fin 8 => dutyTok ER (recvCell kj.1 kj.2 (tgt kj.1 kj.2 c)) 0 0))

theorem toks_own (c : Dev nD) : toks (F := F) c ⊢ ownToks c := by
  have e : toks (F := F) c = _ := cells_split fun sm => bigSep Finset.univ fun e : Fin 4 => dutyTok ER ((c : Thread nD τ), sm) 0 e
  rw [e]
  have first : ∀ g : GSem nD τ sig, (bigSep Finset.univ fun e : Fin 4 => dutyTok ER g 0 e : sProp 𝕄) ⊢ dutyTok ER g 0 0 :=
    fun g => bigSep_elim (Finset.mem_univ (0 : Fin 4))
  unfold ownToks
  iintro ⟨H0, H1, H2, H3, H4⟩
  isplitl [H0]; · iapply (first (copyCell c)); iexact H0
  isplitl [H1]; · iexact H1
  isplitl [H2]; · iexact H2
  isplitl [H3]
  · have e := big_mono (s := Finset.univ) fun kj : Fin 5 × Fin 8 => first (sendCell kj.1 kj.2 c)
    iapply e; iexact H3
  · have e := big_mono (s := Finset.univ) fun kj : Fin 5 × Fin 8 => first (recvCell kj.1 kj.2 c)
    iapply e; iexact H4

/-- A family over the devices, each index's part turned round the mesh. -/
theorem turn {I : Type} [Fintype I] (σ : I → Dev nD ≃ Dev nD) (T : Dev nD → I → sProp 𝕄) :
    (bigSep Finset.univ fun c => bigSep Finset.univ fun i => T c i) = bigSep Finset.univ fun c => bigSep Finset.univ fun i => T (σ i c) i := by
  rw [bigSep_univ_comm, bigSep_univ_comm (fun c i => T (σ i c) i)]
  exact bigSep_congr fun i _ => bigSep_univ_equiv (σ i) fun c => T c i

theorem toks_around : (bigSep Finset.univ fun c : Dev nD => toks (F := F) c) ⊢ bigSep Finset.univ fun c : Dev nD => payToks (F := F) c := by
  refine BIBase.Entails.trans (big_mono toks_own) ?_
  unfold ownToks payToks
  rw [bigSep_sep', bigSep_sep', bigSep_sep', bigSep_sep', bigSep_sep', bigSep_sep', bigSep_sep', bigSep_sep',
    turn around (fun c e => (dutyTok ER (exitCell c) 0 e : sProp 𝕄)), turn around (fun c e => (dutyTok ER (barCell c) 0 e : sProp 𝕄)),
    turn (fun kj : Fin 5 × Fin 8 => (around (dir kj.1 kj.2)).symm) (fun c kj => (dutyTok ER (recvCell kj.1 kj.2 c) 0 0 : sProp 𝕄))]
  exact BIBase.Entails.rfl

/-! ## The credit at launch -/

/-- What a device owes at launch: its transfers, its signals at the exit, its signals on the barrier. -/
def O₀ (d : Dev nD) : CellTallies nD τ sig Unit := debt d (zOf d) [] + exitDue d + barDue d [0, 1, 2, 3]

theorem dev_of_cell {sm sm' : SemLoc sig} {c d : Dev nD} (h : (((c : Thread nD τ), sm) : GSem nD τ sig) = ((d : Thread nD τ), sm')) : c = d :=
  congrArg (fun g : GSem nD τ sig => g.1.1) h

theorem debt_reg (d c : Dev nD) (s : Sem sig) : debt d (zOf d) [] ((c : Thread nD τ), .reg s) () = 0 := by
  by_contra h
  obtain ⟨i, -, -, hg⟩ := debt_pos (Nat.pos_of_ne_zero h)
  exact absurd (congrArg Prod.snd hg) (by intro h; cases h)
theorem exit_off (d : Dev nD) {g : GSem nD τ sig} (hg : ∀ c, g ≠ exitCell c) : exitDue d g () = 0 := by
  by_contra h
  obtain ⟨c, hc⟩ := exitDue_pos (Nat.pos_of_ne_zero h)
  exact hg c hc
theorem bar_off (d : Dev nD) (es : List (Fin 4)) {g : GSem nD τ sig} (hg : ∀ c, g ≠ barCell c) : barDue d es g () = 0 := by
  by_contra h
  obtain ⟨c, hc⟩ := barDue_pos (Nat.pos_of_ne_zero h)
  exact hg c hc

/-- Each device is owed one signal of each direction. -/
theorem one_each (sm : SemLoc sig) (e : Fin 4) (c : Dev nD) :
    ∑ d : Dev nD, (tallyAt (((sigTo e d : Dev nD) : Thread nD τ), sm) () 1 : CellTallies nD τ sig Unit) ((c : Thread nD τ), sm) () = 1 := by
  rw [Finset.sum_congr rfl fun d _ => (show _ = if d = sigOf e c then 1 else 0 from ?_), Finset.sum_ite_eq' Finset.univ (sigOf e c) fun _ => 1, if_pos (Finset.mem_univ _)]
  rw [tallyAt_apply]
  by_cases h : d = sigOf e c
  · subst h; rw [sigTo_sigOf, if_pos ⟨rfl, rfl⟩, if_pos rfl]
  · rw [if_neg fun h' => h (by rw [dev_of_cell h'.1, sigOf_sigTo]), if_neg h]

theorem bar_sum (c : Dev nD) (es : List (Fin 4)) : ∑ d : Dev nD, barDue d es (barCell c) () = es.length := by
  induction es with
  | nil => exact Finset.sum_eq_zero fun _ _ => rfl
  | cons e es ih =>
    unfold barDue
    rw [Finset.sum_congr rfl fun d _ => by rw [Pi.add_apply, Finsupp.add_apply], Finset.sum_add_distrib, ih, one_each]; rfl

theorem owed_bar (c : Dev nD) : ∑ d : Dev nD, O₀ d (barCell c) () = 4 := by
  rw [Finset.sum_congr rfl fun d _ => (show O₀ d (barCell c) () = barDue d [0, 1, 2, 3] (barCell c) () from ?_)]
  · exact bar_sum c [0, 1, 2, 3]
  · unfold O₀
    rw [Pi.add_apply, Finsupp.add_apply, Pi.add_apply, Finsupp.add_apply, debt_reg,
      exit_off d fun c' h => exit_ne_bar (by cases (congrArg Prod.snd h : SemLoc.reg barS = SemLoc.reg exitS)), zero_add, zero_add]
theorem owed_exit (c : Dev nD) : ∑ d : Dev nD, O₀ d (exitCell c) () = 4 := by
  rw [Finset.sum_congr rfl fun d _ => (show O₀ d (exitCell c) () = exitDue d (exitCell c) () from ?_)]
  · unfold exitDue
    rw [Finset.sum_congr rfl fun d _ => by rw [Pi.add_apply, Finsupp.add_apply, Pi.add_apply, Finsupp.add_apply, Pi.add_apply, Finsupp.add_apply],
      Finset.sum_add_distrib, Finset.sum_add_distrib, Finset.sum_add_distrib]
    have h0 := one_each (.reg exitS) 0 c
    have h1 := one_each (.reg exitS) 1 c
    have h2 := one_each (.reg exitS) 2 c
    have h3 := one_each (.reg exitS) 3 c
    rw [show (∑ d : Dev nD, (tallyAt (exitCell (pv d)) () 1 : CellTallies nD τ sig Unit) (exitCell c) ()) = 1 from h3,
      show (∑ d : Dev nD, (tallyAt (exitCell (nx d)) () 1 : CellTallies nD τ sig Unit) (exitCell c) ()) = 1 from h2,
      show (∑ d : Dev nD, (tallyAt (exitCell (zr d)) () 1 : CellTallies nD τ sig Unit) (exitCell c) ()) = 1 from h1,
      show (∑ d : Dev nD, (tallyAt (exitCell (zl d)) () 1 : CellTallies nD τ sig Unit) (exitCell c) ()) = 1 from h0]
  · unfold O₀
    rw [Pi.add_apply, Finsupp.add_apply, Pi.add_apply, Finsupp.add_apply, debt_reg,
      bar_off d _ fun c' h => exit_ne_bar (by cases (congrArg Prod.snd h : SemLoc.reg exitS = SemLoc.reg barS)), zero_add, add_zero]

theorem recv_inj {k k' : Fin 5} {j j' : Fin 8} {c c' : Dev nD} (h : recvCell k j c = recvCell k' j' c') : k = k' ∧ j = j' ∧ c = c' := by
  have hs : recvS k j = recvS k' j' := SemLoc.dma.inj (congrArg Prod.snd h)
  have hr := congrArg role hs
  rw [role_recv, role_recv] at hr
  exact ⟨(Role.recv.inj hr).1, (Role.recv.inj hr).2, dev_of_cell h⟩

theorem ready_at (z : Fin 4) (i : ℕ) (hi : i < 128) (h : (init z i).isReady = true) : i = at_ (jOf i).val (6 + (outK (i % 16)).val) := by
  have hd : ∀ (z : Fin 4) (i : Fin 128), (init z i.val).isReady = true → i.val = at_ (jOf i.val).val (6 + (outK (i.val % 16)).val) := by decide +kernel
  exact hd z ⟨i, hi⟩ h

theorem owed_recv (k : Fin 5) (j : Fin 8) (c : Dev nD) : ∑ d : Dev nD, O₀ d (recvCell k j c) () = if actR (zOf c) k = true then N else 0 := by
  have term : ∀ d : Dev nD, ∀ i ∈ Finset.range 128, ¬ (d = src k j c ∧ i = at_ j.val (6 + k.val)) →
      (if (look (zOf d) [] i).isReady = true then due d i else 0 : CellTallies nD τ sig Unit) (recvCell k j c) () = 0 := by
    intro d i hi hne
    by_cases hr : (look (zOf d) [] i).isReady = true
    · rw [if_pos hr]
      unfold due
      rw [tallyAt_apply]
      refine if_neg fun h => hne ?_
      obtain ⟨h1, h2, h3⟩ := recv_inj h.1
      have e := ready_at (zOf d) i (Finset.mem_range.mp hi) hr
      rw [← h1, ← h2] at e h3
      exact ⟨by rw [h3, src_tgt], e⟩
    · rw [if_neg hr]; rfl
  have h : ∀ d : Dev nD, O₀ d (recvCell k j c) () = ∑ i ∈ Finset.range 128, (if (look (zOf d) [] i).isReady = true then due d i else 0 : CellTallies nD τ sig Unit) (recvCell k j c) () := by
    intro d
    unfold O₀
    rw [Pi.add_apply, Finsupp.add_apply, Pi.add_apply, Finsupp.add_apply,
      exit_off d (g := recvCell k j c) (fun c' h => by cases (congrArg Prod.snd h : SemLoc.dma (recvS k j) = SemLoc.reg exitS)),
      bar_off d _ (g := recvCell k j c) (fun c' h => by cases (congrArg Prod.snd h : SemLoc.dma (recvS k j) = SemLoc.reg barS)), add_zero, add_zero]
    unfold debt
    rw [Finset.sum_apply, Finsupp.finset_sum_apply]
  have hmem : at_ j.val (6 + k.val) ∈ Finset.range 128 := Finset.mem_range.mpr (at_lt j _ (by omega))
  rw [Finset.sum_congr rfl fun d _ => h d,
    Finset.sum_eq_single (src k j c) (fun d _ hd => Finset.sum_eq_zero fun i hi => term d i hi fun h => hd h.1) (fun h => absurd (Finset.mem_univ _) h),
    Finset.sum_eq_single (at_ j.val (6 + k.val)) (fun i hi hne => term _ i hi fun h => hne h.2) (fun h => absurd hmem h),
    show look (zOf (src k j c)) [] (at_ j.val (6 + k.val)) = _ from init_out _ _ _, actS_src]
  generalize actR (zOf c) k = b
  cases b
  · rfl
  · rw [if_pos (show (bif true then RS.ready else RS.unused).isReady = true from rfl), due_at, tgt_src, tallyAt_apply, if_pos ⟨rfl, rfl⟩, if_pos rfl]

theorem launch_tally {g : GSem nD τ sig} {n : ℕ} (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The credit a device is launched with. -/
def Creds (c : Dev nD) : sProp 𝕄 :=
  iprop(cred (tallyAt (exitCell c) () 4) ∗ cred (tallyAt (barCell c) () 4)
    ∗ bigSep Finset.univ fun kj : Fin 5 × Fin 8 => if actR (zOf c) kj.1 = true then cred (tallyAt (recvCell kj.1 kj.2 c) () N) else iprop(emp))

theorem creds (c : Dev nD) : (Pipeline.launchCred O₀ c : sProp 𝕄) ⊢ Creds c := by
  unfold Pipeline.launchCred
  refine BIBase.Entails.trans (bigSep_subset (Finset.subset_univ (Finset.univ.map ⟨csem, csem_injective⟩))) ?_
  rw [bigSep_map]
  refine BIBase.Entails.trans (Entails.of_eq (cells_split fun sm => cred (tallyOn ((c : Thread nD τ), sm) (launchCredit (Pipeline.owing O₀) 0 ((c : Thread nD τ), sm))))) ?_
  rw [launch_tally (owed_exit c), launch_tally (owed_bar c)]
  unfold Creds
  iintro ⟨-, H1, H2, -, H3⟩
  isplitl [H1]; · iexact H1
  isplitl [H2]; · iexact H2
  have e := big_mono (s := Finset.univ) fun kj : Fin 5 × Fin 8 =>
    (show (cred (tallyOn (recvCell kj.1 kj.2 c) (launchCredit (Pipeline.owing O₀) 0 (recvCell kj.1 kj.2 c))) : sProp 𝕄)
        ⊢ if actR (zOf c) kj.1 = true then cred (tallyAt (recvCell kj.1 kj.2 c) () N) else iprop(emp) from by
      rw [launch_tally (owed_recv kj.1 kj.2 c)]
      by_cases h : actR (zOf c) kj.1 = true
      · rw [if_pos h, if_pos h]
      · rw [if_neg h, if_neg h]; iintro -; iempintro)
  iapply e; iexact H3

/-! ## What the body starts from -/

/-- A device's places in the rounds of its cells, and the tokens it pays with. -/
def Stays (c : Dev nD) : sProp 𝕄 := iprop((bigSep Finset.univ fun i : Fin 83 => atPos ER (kcell (c, i)) 0 ∅ 0) ∗ payToks c)

variable (m : (ℓ : Loc nD τ sig) → Buf (Elt F) ℓ)

theorem out_intro (c : Dev nD) (kj : Fin 5 × Fin 8) :
    iprop(dutyTok ER (sendCell kj.1 kj.2 c) 0 0 ∗ dutyTok ER (recvCell kj.1 kj.2 (tgt kj.1 kj.2 c)) 0 0 ∗ atPos ER (sendCell kj.1 kj.2 c) 0 ∅ 0) ⊢ outPart (F := F) c kj := by
  unfold outPart
  by_cases h : actS (zOf c) kj.1 = true
  · rw [if_pos h]
  · rw [if_neg h]; iintro ⟨-, -, H⟩; iexact H
theorem in_intro (c : Dev nD) (kj : Fin 5 × Fin 8) :
    iprop((if actR (zOf c) kj.1 = true then cred (tallyAt (recvCell kj.1 kj.2 c) () N) else iprop(emp)) ∗ atPos ER (recvCell kj.1 kj.2 c) 0 ∅ 0) ⊢ inPart (F := F) c kj := by
  unfold inPart
  by_cases h : actR (zOf c) kj.1 = true
  · rw [if_pos h, if_pos h]
  · rw [if_neg h, if_neg h]; iintro ⟨-, H⟩; iexact H

/-- From its ghost state, its credit and its buffers a device has what its body starts from. -/
theorem e0_intro (K : Dev nD × Fin 83 → ℕ) (c : Dev nD) :
    iprop(Recs m K ∗ Stays c ∗ Creds c ∗ (xLoc c ↦{fullShare} m (xLoc c))
        ∗ ((∃ f, (c : Thread nD τ).loc cc0_stg0_0 ↦{fullShare} f) ∗ (∃ f, (c : Thread nD τ).loc cc0_scratch0 ↦{fullShare} f)
          ∗ (∃ f, (c : Thread nD τ).loc cc0_scratch1 ↦{fullShare} f))
        ∗ ∃ W, owes (c : Thread nD τ) (O₀ c) W)
      ⊢ E0 m K c := by
  have ep : (bigSep Finset.univ fun i : Fin 83 => atPos ER (kcell (c, i)) 0 ∅ 0 : sProp 𝕄) = _ := cells_split fun sm => atPos ER ((c : Thread nD τ), sm) 0 ∅ 0
  unfold Stays Creds payToks E0 Keep ExitP BarP
  rw [ep, four, four]
  iintro ⟨#HR, ⟨⟨P0, P1, P2, P3, P4⟩, T0, ⟨X0, X1, X2, X3⟩, ⟨B0, B1, B2, B3⟩, T3, T4⟩, ⟨C1, C2, C3⟩, Hx, Hmem, HO⟩
  ihave Hmem := (mem_start (F := F) c) $$ Hmem
  icases Hmem with ⟨Ho, Hl⟩
  ihave Hl := (lend (F := F) c) $$ Hl
  icases Hl with ⟨Hb, Hi⟩
  ihave Hb := (Entails.of_eq (four fun e => barPay (F := F) (sigTo e c) e)) $$ Hb
  icases Hb with ⟨L0, L1, L2, L3⟩
  isplitr; · iexact HR
  isplitl [P1 P3 P4 X0 X1 X2 X3 T3 T4 C1 C3 Hi]
  · isplitl [T3 T4 P3]
    · have e := big_mono (s := Finset.univ) fun kj : Fin 5 × Fin 8 => out_intro (F := F) c kj
      have e' := BIBase.Entails.trans (sep_mono_right (big_sep (fun kj : Fin 5 × Fin 8 => (dutyTok ER (recvCell kj.1 kj.2 (tgt kj.1 kj.2 c)) 0 0 : sProp 𝕄))
        fun kj => atPos ER (sendCell kj.1 kj.2 c) 0 ∅ 0)) (BIBase.Entails.trans (big_sep (fun kj : Fin 5 × Fin 8 => (dutyTok ER (sendCell kj.1 kj.2 c) 0 0 : sProp 𝕄)) _) e)
      iapply e'
      isplitl [T3]; · iexact T3
      isplitl [T4] <;> iassumption
    isplitl [C3 P4]
    · have e := big_mono (s := Finset.univ) fun kj : Fin 5 × Fin 8 => in_intro (F := F) c kj
      have e' := BIBase.Entails.trans (big_sep _ _) e
      iapply e'
      isplitl [C3] <;> iassumption
    isplitl [Hi]; · iexact Hi
    isplitl [P1]; · iexact P1
    isplitl [C1]; · iexact C1
    isplitl [X0]; · iexact X0
    isplitl [X1]; · iexact X1
    isplitl [X2]; · iexact X2
    iexact X3
  isplitl [P2 B0 B1 B2 B3 C2 L0 L1 L2 L3 HO]
  · isplitl [P2]; · iexact P2
    isplitl [C2]; · iexact C2
    isplitr [HO]
    · simp only [barToks]
      isplitl [B0]; · iexact B0
      isplitl [L0]; · iexact L0
      isplitl [B1]; · iexact B1
      isplitl [L1]; · iexact L1
      isplitl [B2]; · iexact B2
      isplitl [L2]; · iexact L2
      isplitl [B3]; · iexact B3
      isplitl [L3]; · iexact L3
      iempintro
    · iexact HO
  isplitl [T0 P0]; · isplitl [T0] <;> iassumption
  isplitl [Ho]; · iexact Ho
  iexact Hx

/-! ## What the body ends with -/

/-- A cell whose rounds are over gives its counter back, at zero. -/
theorem close_dma (K : Dev nD × Fin 83 → ℕ) (c : Dev nD) (s : DmaSem sig) (hs : 0 < s.val) {R : ℕ}
    (hR : ∀ r, R ≤ r → (rd (F := F) m).duties ((c : Thread nD τ), .dma s) r = ∅) :
    iprop(Recs m K ∗ atPos ER ((c : Thread nD τ), .dma s) R ∅ 0) ⊢ |={Set.univ}=> semVal ((c : Thread nD τ), .dma s) 0 := by
  iintro ⟨#HR, Hat⟩
  ihave Hi := (Recs_dma m K c s hs) $$ HR
  icases Hi with ⟨#HI, -⟩
  iapply (Rounds.cell_close ER (rd m) (Set.mem_univ (K (c, ix s))) (fun h => h) (R := R) hR)
  isplitr; · iexact HI
  iexact Hat

theorem fin_out (z : Fin 4) (k : Fin 5) (j : Fin 8) : fin z (at_ j.val (6 + k.val)) = bif actS z k then .done else .unused := by revert z k j; decide +kernel
theorem fin_in (z : Fin 4) (k : Fin 5) (j : Fin 8) : fin z (at_ j.val (11 + k.val)) = bif actR z k then .done else .unused := by revert z k j; decide +kernel

theorem close_out (K : Dev nD × Fin 83 → ℕ) (c : Dev nD) (kj : Fin 5 × Fin 8) :
    iprop(Recs m K ∗ res m c (at_ kj.2.val (6 + kj.1.val)) (fin (zOf c) (at_ kj.2.val (6 + kj.1.val)))) ⊢ |={Set.univ}=> semVal (sendCell kj.1 kj.2 c) 0 := by
  rw [fin_out, res_at m c kj.2 _ (by have := kj.1.isLt; omega)]
  rcases ha : actS (zOf c) kj.1 with _ | _
  · rw [show (bif false then RS.done else RS.unused) = RS.unused from rfl, resJ_outOff]
    exact close_dma m K c _ (send_val_pos _ _) fun r _ => duties_off m c _ (by rw [role_send]; exact ha) r
  · rw [show (bif true then RS.done else RS.unused) = RS.done from rfl, resJ_sent]
    exact close_dma m K c _ (send_val_pos _ _) (duties_later m _)
theorem close_in (K : Dev nD × Fin 83 → ℕ) (c : Dev nD) (kj : Fin 5 × Fin 8) :
    iprop(Recs m K ∗ res m c (at_ kj.2.val (11 + kj.1.val)) (fin (zOf c) (at_ kj.2.val (11 + kj.1.val)))) ⊢ |={Set.univ}=> semVal (recvCell kj.1 kj.2 c) 0 := by
  rw [fin_in, res_at m c kj.2 _ (by have := kj.1.isLt; omega)]
  rcases ha : actR (zOf c) kj.1 with _ | _
  · rw [show (bif false then RS.done else RS.unused) = RS.unused from rfl, resJ_inOff]
    exact close_dma m K c _ (recv_val_pos _ _) fun r _ => duties_off m c _ (by rw [role_recv]; exact ha) r
  · rw [show (bif true then RS.done else RS.unused) = RS.done from rfl, resJ_got]
    exact close_dma m K c _ (recv_val_pos _ _) (duties_later m _)

theorem big_close {I : Type} [DecidableEq I] {S : Finset I} {R : sProp 𝕄} [BI.Persistent R] {Φ Ψ : I → sProp 𝕄}
    (h : ∀ i, iprop(R ∗ Φ i) ⊢ |={Set.univ}=> Ψ i) : iprop(R ∗ bigSep S Φ) ⊢ |={Set.univ}=> bigSep S Ψ :=
  BIBase.Entails.trans (BI.bigSep_with_persistent fun i _ => h i) (bigSep_fupd _ _)

/-- What a device has after its body: the result, the two buffers at some contents, its counters at zero, its argument, nothing owed. -/
def Done (c : Dev nD) : sProp 𝕄 :=
  iprop(((c : Thread nD τ).loc cc0_stg0_0 ↦{fullShare} outAt m c)
    ∗ ((∃ f, (c : Thread nD τ).loc cc0_scratch0 ↦{fullShare} f) ∗ (∃ f, (c : Thread nD τ).loc cc0_scratch1 ↦{fullShare} f))
    ∗ (bigSep Finset.univ fun i : Fin 83 => semVal (kcell (c, i)) 0) ∗ (xLoc c ↦{fullShare} m (xLoc c)) ∗ ∃ W, owes (c : Thread nD τ) 0 W)

theorem out_done (K : Dev nD × Fin 83 → ℕ) (c : Dev nD) : Out m K c ⊢ |={Set.univ}=> Done m c := by
  have es : (bigSep Finset.univ fun i : Fin 83 => semVal (kcell (c, i)) 0 : sProp 𝕄) = _ := cells_split fun sm => semVal ((c : Thread nD τ), sm) 0
  unfold Out EndP Done
  rw [items_split, es]
  iintro ⟨#HR, ⟨⟨I0, I1, I2, I3⟩, Hb, Hc, Hx⟩, He, HO⟩
  ihave Hm := (mem_end m c) $$ [I0 I1]
  · isplitl [I0] <;> iassumption
  icases Hm with ⟨Ho, Hps⟩
  ihave Hi := (Recs_bar m K c) $$ HR
  icases Hi with ⟨#HIb, -⟩
  ihave Hi := (Recs_exit m K c) $$ HR
  icases Hi with ⟨#HIe, -⟩
  imod (Rounds.cell_close ER (rd m) (Set.mem_univ (K (c, 82))) (fun h => h) (R := 1) (duties_later m (barCell c))) $$ [Hb] with Hb
  · isplitr; · iexact HIb
    iexact Hb
  imod (Rounds.cell_close ER (rd m) (Set.mem_univ (K (c, 81))) (fun h => h) (R := 1) (duties_later m (exitCell c))) $$ [He] with He
  · isplitr; · iexact HIe
    iexact He
  imod (close_dma m K c copyS (by decide +kernel) (R := 1) (duties_later m (copyCell c))) $$ [Hc] with Hc
  · isplitr; · iexact HR
    iexact Hc
  imod (big_close (S := Finset.univ) (close_out m K c)) $$ [I2] with Hs
  · isplitr; · iexact HR
    iexact I2
  imod (big_close (S := Finset.univ) (close_in m K c)) $$ [I3] with Hr
  · isplitr; · iexact HR
    iexact I3
  imodintro
  isplitl [Ho]; · iexact Ho
  isplitl [Hps]; · iexact Hps
  isplitl [Hb He Hc Hs Hr]
  · isplitl [Hc]; · iexact Hc
    isplitl [He]; · iexact He
    isplitl [Hb]; · iexact Hb
    isplitl [Hs] <;> iassumption
  isplitl [Hx]; · iexact Hx
  iexact HO

end Cert.AllReduce

end
-- ==== Proof.Launch.lean ====
/-
The launch: the protocol's ghost state minted and dealt, each device's body run from what it is dealt, and what every final memory holds —
at any float values: the result array of each device is `outAt`, its argument is untouched, every semaphore counter is zero.
-/
module

public import proofs.«01_k».proof.Proof.Body
public import proofs.«01_k».proof.Proof.Ghost
public import Idealize.ShloMosaic.Lib.Pipeline.CollectiveSegs

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Minting -/

/-- Every cell of the protocol, and four tokens of round 0 for each. -/
def ringCells : Finset (GSem nD τ sig) := Finset.univ.map ⟨kcell, kcell_injective⟩
abbrev tokOf (x : (Dev nD × Fin 83) × Fin 4) : GSem nD τ sig × ℕ × Fin 4 := (kcell x.1, 0, x.2)
theorem tokOf_injective : Function.Injective tokOf := by
  rintro ⟨x, e⟩ ⟨x', e'⟩ h
  have h1 : x = x' := kcell_injective (congrArg Prod.fst h)
  have h2 : e = e' := congrArg (fun y : GSem nD τ sig × ℕ × Fin 4 => y.2.2) h
  rw [h1, h2]
def ringToks : Finset (GSem nD τ sig × ℕ × Fin 4) := Finset.univ.map ⟨tokOf, tokOf_injective⟩

def u₀ : UU := (initOf (Pipeline.cells cfgs cellOf_inj) (Pipeline.launchToks cfgs cellOf_inj), initOf ringCells ringToks)

/-- What the launch deals a device; -/
def G (c : Dev nD) : sProp 𝕄 :=
  iprop((bigSep Finset.univ fun k : Fin 83 => roundState ER (rd m) (kcell (c, k)) 0)
    ∗ (bigSep Finset.univ fun k : Fin 83 => iprop(atPos ER (kcell (c, k)) 0 ∅ 0 ∗ reached ER (kcell (c, k)) 0)) ∗ toks c)

/-- the invariants of all cells and that all are at round 0; -/
def Records (K : Dev nD × Fin 83 → ℕ) : sProp 𝕄 :=
  iprop((bigSep Finset.univ fun x : Dev nD × Fin 83 => cellInv ER (rd m) (K x) (kcell x)) ∗ bigSep Finset.univ fun x : Dev nD × Fin 83 => reached ER (kcell x) 0)
instance records_persistent (K : Dev nD × Fin 83 → ℕ) : BI.Persistent (Records m K) := by unfold Records; infer_instance

/-- what a device has once all invariants are allocated. -/
def G' (c : Dev nD) : sProp 𝕄 := iprop(∃ K, Records m K ∗ Stays c)

theorem fund : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 83 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod, bigSep_univ_prod]
    rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The kernel's own semaphores: all but the barrier's, which is the launch's. -/
def osem : Fin 82 → SemLoc sig := fun i => csem i.castSucc

theorem cells_last : (Finset.univ : Finset (Fin 83)) = Finset.univ.map ⟨(Fin.castSucc : Fin 82 → Fin 83), Fin.castSucc_injective 82⟩ ∪ {82} := by decide +kernel

theorem unscoped_eq (c : Dev nD) : (unscopedSems0 c : sProp 𝕄) = semVal (barCell c) 0 := by
  unfold unscopedSems0; rw [bigSep_eq_bigSepL_of_eq [SemLoc.reg barS] (by decide +kernel) (by decide +kernel)]; rfl

theorem sems0_eq (c : Dev nD) : (bigSep Finset.univ fun k : Fin 83 => semVal (kcell (c, k)) 0 : sProp 𝕄)
    = iprop(Pipeline.ownSems0 (Ix := Unit) (Name := ℕ) (U := UU) (Lvl := ℕ) (Val := Elt F) (τ := τ) osem c ∗ unscopedSems0 c) := by
  rw [cells_last, bigSep_union (by decide +kernel), bigSep_map, bigSep_singleton, unscoped_eq]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hos] <;> iassumption
  imod (show iprop((bigSep Finset.univ fun k : Fin 83 => semVal (kcell (c, k)) 0) ∗ bigSep Finset.univ fun k : Fin 83 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun x : Dev nD × Fin 83 => iprop(∃ κ : ℕ, cellInv ER (rd m) κ (kcell x))),
    bigSep_congr (s := Finset.univ) (fun (c : Dev nD) _ => bigSep_sep' Finset.univ (fun k : Fin 83 => (atPos ER (kcell (c, k)) 0 ∅ 0 : sProp 𝕄)) (fun k => reached ER (kcell (c, k)) 0)),
    bigSep_sep', ← bigSep_univ_prod (fun x : Dev nD × Fin 83 => (reached ER (kcell x) 0 : sProp 𝕄))]
  iintro ⟨HI, ⟨Hat, #HR⟩, Htok⟩
  ihave HK := (BI.bigSep_exists_pi Finset.univ (fun (x : Dev nD × Fin 83) (κ : ℕ) => (cellInv ER (rd m) κ (kcell x) : sProp 𝕄))) $$ HI
  icases HK with ⟨%K, #HI⟩
  ihave Htk := (toks_around (F := F)) $$ Htok
  iapply (BI.bigSep_with_persistent (R := Records m K) fun c _ => (show iprop(Records m K ∗ Stays c) ⊢ G' m c from by
    unfold G'; iintro H; iexists K; iexact H))
  isplitr
  · unfold Records; isplitl; · iexact HI
    iexact HR
  · unfold Stays
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device's body starts from, its buffers apart; -/
def start (c : Dev nD) : sProp 𝕄 := iprop(G' m c ∗ Creds c ∗ levAts L lv ∗ (xLoc c ↦{fullShare} m (xLoc c)))
/-- the two scratch buffers, at some contents; -/
def scratch (c : Dev nD) : sProp 𝕄 :=
  iprop((∃ f, (c : Thread nD τ).loc cc0_scratch0 ↦{fullShare} f) ∗ (∃ f, (c : Thread nD τ).loc cc0_scratch1 ↦{fullShare} f))
/-- before the body; -/
def Φ₀ (c : Dev nD) : sProp 𝕄 := iprop(start m c ∗ scratch c)
/-- after it. -/
def Φ₁ (c : Dev nD) : sProp 𝕄 := iprop(scratch c ∗ (bigSep Finset.univ fun k : Fin 83 => semVal (kcell (c, k)) 0) ∗ (xLoc c ↦{fullShare} m (xLoc c)))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def stg (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

def bodyPre (c : Dev nD) : sProp 𝕄 :=
  iprop(Φ₀ m c ∗ (dats m ρ 0 c).owesAt () t₀.castSucc ∗ (∃ d, stg c ((dats m ρ 0 c).before (0 : Fin 1) t₀ d)))
def bodyPost (c : Dev nD) : sProp 𝕄 := iprop(Φ₁ m c ∗ (dats m ρ 0 c).owesAt () t₀.succ ∗ stg c (outAt m c))

theorem done_post (c : Dev nD) : Done m c ⊢ bodyPost m ρ c := by
  unfold Done bodyPost Φ₁ stg scratch Dat.owesAt Pipeline.owesWithin
  rw [show (dats m ρ 0 c).owed t₀.succ = 0 from rfl]
  iintro ⟨Ho, Hps, Hs, Hx, ⟨%W, HO⟩⟩
  isplitl [Hps Hs Hx]
  · isplitl [Hps]; · iexact Hps
    isplitl [Hs] <;> iassumption
  isplitl [HO]
  · iexists W
    isplitr; · ipureintro; exact fun _ _ => Or.inl trivial
    iexact HO
  iexists _; isplitr; · (ipureintro; rfl)
  iexact Ho

theorem pre_e0 (c : Dev nD) : bodyPre m ρ c ⊢ ∃ K, E0 m K c := by
  unfold bodyPre Φ₀ start G' Records stg scratch Dat.owesAt Pipeline.owesWithin
  rw [show (dats m ρ 0 c).owed t₀.castSucc = O₀ c from rfl]
  iintro ⟨⟨⟨⟨%K, ⟨#HI, #HR⟩, Hs⟩, Hc, #Hl, Hx⟩, Hps⟩, ⟨%W, %hW, HO⟩, ⟨%d, %f, %hf, Ho⟩⟩
  iexists K
  iapply (e0_intro m K c)
  isplitr
  · unfold Recs
    isplitr; · iexact HI
    isplitr; · iexact HR
    iexact Hl
  isplitl [Hs]; · iexact Hs
  isplitl [Hc]; · iexact Hc
  isplitl [Hx]; · iexact Hx
  isplitl [Ho Hps]
  · isplitl [Ho]
    · iexists f; iexact Ho
    iexact Hps
  iexists W; iexact HO

theorem body_run (c : Dev nD) : bodyPre m ρ c ⊢ wp frame (wpE (defs₀ (F := F)) 𝒱₀ c none) Set.univ
    (cc0_body (Memref.whole main_arg0) (Memref.isWhole_whole _) (Memref.whole cc0_stg0_0) (Memref.isWhole_whole _) (Memref.whole cc0_scratch0) (Memref.isWhole_whole _)
      (Memref.whole cc0_scratch1) (Memref.isWhole_whole _) cc0_scratch2 cc0_scratch3 cc0_scratch4 cc0_scratch5 cc0_scratch6 cc0_scratch7 cc0_scratch8 cc0_scoped0)
    (fun _ => bodyPost m ρ c) := by
  refine BIBase.Entails.trans (pre_e0 m ρ c) ?_
  iintro ⟨%K, H⟩
  have e := body m K c (fun _ => iprop(|={Set.univ}=> bodyPost m ρ c)) (BIBase.Entails.trans (out_done m K c) (BI.fupd_mono (done_post m ρ c)))
  have e' := BIBase.Entails.trans (show E0 m K c ⊢ _ from e) (wp_fupd _ _ _ _ _)
  iapply e'; iexact H

/-- The library's body obligation. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact body_run m ρ c

/-! ## The launch's side conditions -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, Hlev, Hcr, -, HG⟩
  ihave Hc := (creds (F := F) c) $$ Hcr
  imodintro
  unfold start
  isplitl
  · isplitl [HG]; · iexact HG
    isplitl [Hc]; · iexact Hc
    isplitl [Hlev]; · iexact Hlev
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N)
      ⊢ iprop((unscopedSems0 c ∗ (xLoc c ↦{fullShare} m (xLoc c))) ∗ Pipeline.ownSems0 osem c ∗ Pipeline.scopedRest cfg0.spec c) := by
  rw [show (dats m ρ 0 c).Φ (Fin.last cfg0.N) = Φ₁ m c from rfl, scopedRest0_eq]
  unfold Φ₁ scratch
  rw [sems0_eq]
  iintro ⟨Hr, ⟨Hos, Hus⟩, Hx⟩
  isplitl [Hus Hx]
  · isplitl [Hus] <;> iassumption
  isplitl [Hos] <;> iassumption

theorem mayWait_stage (c : Dev nD) (q : DmaSem sig) (hq : role q = .other) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u h => (owed_above c _ g u h).1)
      (fun p hp => by rw [Finset.mem_singleton.mp hp]; show dmaLv c (role q) ≤ 0; rw [hq]; exact le_of_eq rfl)
      (fun g u h => (owed_above c _ g u h).2)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w; fin_cases s; decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- The result array ends as the body left its staging buffer. -/
theorem finalA_out (c : Dev nD) : finalA m ρ c (0 : Fin 1) = outAt m c := by
  have hz : (fun a => (win0_0.index (0 : Fin 1)) a * main_v1.ty.shape.size a) = fun _ => 0 := funext fun a => by fin_cases a <;> decide
  have hr := fun f => Memref.read_access_unit_zero (Elt F) main_v1 hz (fun a => by fin_cases a <;> decide) f
  have ho : (win0_0.blk (0 : Fin 1)).view.read (Elt F) (finalA m ρ c (0 : Fin 1)) = outAt m c := by
    unfold finalA
    rw [show cfg0.N = ((0 : Fin 1) : Fin cfg0.N).val + 1 from rfl, (dats m ρ 0 c).arrAt_succ (0 : Fin 1) (0 : Fin 1),
      show (cfg0.win (0 : Fin 1)).flush (0 : Fin 1) = true from by decide, if_pos rfl]
    exact View.read_write_univ _ _
  rw [hr] at ho
  exact ho

/-- What every final state holds: each device's result, its argument as it was, every counter at zero. -/
def QC : PUnit × MemSt nD τ sig (Elt F) → Prop := fun r =>
  (∀ c : Dev nD, r.2.mem ((c : Thread nD τ).loc main_v1) = outAt m c ∧ r.2.mem ((c : Thread nD τ).loc main_arg0) = m ((c : Thread nD τ).loc main_arg0))
    ∧ r.2.sem = fun _ => 0

set_option maxRecDepth 8000 in
/-- For any float values, from any memory with zero counters: every weakly fair execution of @main on the sixteen devices terminates, and
    every final state has each device's result array at `outAt`, its argument unchanged and every semaphore counter at zero. -/
theorem run_main : θ_run defs (onTc (τ := τ) (main (F := F))) (s₀ m ρ) (QC m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => iprop(unscopedSems0 c ∗ (xLoc c ↦{fullShare} m (xLoc c)))) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0))
    (hY := fun c s' => by
      iintro ⟨⟨Hu, Hx⟩, -, HSI⟩
      icombine HSI Hx gives %h
      imod (Pipeline.unscopedSems0_read (X := unscopedSems0 c) (c := c) fupd_intro s') $$ [Hu HSI] with ⟨%hs, HSI⟩
      · isplitl [Hu] <;> iassumption
      imodintro
      isplitr; · ipureintro; exact ⟨hs, Buf.eq_of_forall_mem_univ h⟩
      iexact HSI)
    (hQ := fun _ h hs => ⟨fun c => ⟨((h c).1 (0 : Fin 1)).trans (finalA_out m ρ c), (h c).2.2.2⟩, sem_eq_zero hs fun c => (h c).2.2.1⟩)

end Cert.AllReduce

end
-- ==== Proof.Value.lean ====
/-
The value: over the extended reals, at a finite argument, the chunk a device reduces is the sum of the four chunks of its `z` line —
`a + b - x` gives back the sum because `x`, which both hold, is a real number — and the result of every device is the reference's.
-/
module

public import proofs.«01_k».proof.Proof.Mem
public import proofs.«01_k».proof.Defs
public import proofs.«01_k».proof.Proof.Gen.ReferenceIdeal.Run
public import proofs.«01_k».proof.Proof.Gen.Pre_finite_KernelIdeal
public import Idealize.ShloMosaic.Lib.ReduceAll
public import Idealize.ShloMosaic.Lib.IdealHost
public import Idealize.ShloMosaic.Lib.Pointwise.Reduce
public import Idealize.ShloMosaic.Lib.Pipeline.Value

@[expose] public section

noncomputable section

namespace Cert.AllReduce

open Cert.KernelIdeal Cert.KernelIdeal.Gen

open Idealize.ShloMosaic
open Idealize.ShloMosaic.TcCoe

variable (m : (ℓ : Loc nD τ sig) → Buf (Elt Ideal) ℓ)

/-- The argument of device `c`, as extended reals. -/
def argAt (c : Dev nD) : S8192x1024.Idx → EReal := m ((c : Thread nD τ).loc main_arg0)

/-- Every element of every device's argument is a real number. -/
def Finite : Prop := ∀ c i, ∃ r : ℝ, argAt m c i = r

/-! ## The precondition -/

/-- An extended real whose absolute value is below the pattern of infinity is a real number. -/
theorem real_of_abs_lt {x : EReal} (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  induction x with
  | bot => simp [Ideal.cmp] at h
  | top => simp [Ideal.cmp] at h
  | coe r => exact ⟨r, rfl⟩

/-- The precondition says that the arguments are finite. -/
theorem finite_of_pre (h : Cert.Pre_KernelIdeal_finite_KernelIdeal m) : Finite m := fun c i =>
  real_of_abs_lt (Host.reduce_andi_all _ _ _ _ (fun a => a.elim0) (congrFun (h c) fun a => a.elim0) i)

/-! ## The kernel's three sums at an index -/

theorem cast_self (v : Vec Ideal S256x1024 .f32) (h : S256x1024.ShapeCasts S256x1024) : shapeCast S256x1024 v h = v :=
  funext fun i => congrArg v (Shape.reshapeEquiv_self h i)

theorem acc_at (a b : Vec Ideal S256x1024 .f32) (r : S256x1024.Idx) : (accV a b r : EReal) = (a r : EReal) + (b r : EReal) := by
  unfold accV k0_pay1; rw [cast_self, cast_self]; rfl
theorem add_at (a b : Vec Ideal S256x1024 .f32) (r : S256x1024.Idx) : (addV a b r : EReal) = (a r : EReal) + (b r : EReal) := by
  unfold addV k0_pay40; rw [cast_self]; rfl
theorem mix_at (a b x : Vec Ideal S256x1024 .f32) (r : S256x1024.Idx) :
    (mixV a b x r : EReal) = ((a r : EReal) + (b r : EReal)) - (x r : EReal) := by
  unfold mixV k0_pay30; rw [cast_self]; rfl

/-! ## A line's sum -/

theorem z_dev (q z : Fin 4) : zOf (devAt q z) = z := by revert q z; decide
theorem q_dev (q z : Fin 4) : qOf (devAt q z) = q := by revert q z; decide
theorem zl_devAt (q z : Fin 4) : zl (devAt q z) = devAt q (z + 3) := by revert q z; decide
theorem zr_devAt (q z : Fin 4) : zr (devAt q z) = devAt q (z + 1) := by revert q z; decide

/-- The sums along a line of reals that the prefixes (`s = 3`) and the suffixes (`s = 1`) are. -/
def walk (s : Fin 4) (f : Fin 4 → ℝ) : ℕ → Fin 4 → ℝ
  | 0, z => f z
  | n + 1, z => walk s f n (z + s) + f z

variable {m} in
theorem prefix_at {q : Fin 4} {j : Fin 8} {r : S256x1024.Idx} {f : Fin 4 → ℝ} (hf : ∀ z, (X m (devAt q z) j r : EReal) = f z) (n : ℕ) (z : Fin 4) :
    (prefixV m j n (devAt q z) r : EReal) = walk 3 f n z := by
  induction n generalizing z with
  | zero => exact hf z
  | succ n ih =>
    refine (acc_at _ _ r).trans ?_
    rw [zl_devAt, ih, hf, ← EReal.coe_add]; rfl

variable {m} in
theorem suffix_at {q : Fin 4} {j : Fin 8} {r : S256x1024.Idx} {f : Fin 4 → ℝ} (hf : ∀ z, (X m (devAt q z) j r : EReal) = f z) (n : ℕ) (z : Fin 4) :
    (suffixV m j n (devAt q z) r : EReal) = walk 1 f n z := by
  induction n generalizing z with
  | zero => exact hf z
  | succ n ih =>
    refine (acc_at _ _ r).trans ?_
    rw [zr_devAt, ih, hf, ← EReal.coe_add]; rfl

variable {m} in
/-- At reals, the chunk a device reduces is the sum of its line's four, whichever of the line's devices it is. -/
theorem red_at {q : Fin 4} {j : Fin 8} {r : S256x1024.Idx} {f : Fin 4 → ℝ} (hf : ∀ z, (X m (devAt q z) j r : EReal) = f z) (z : Fin 4) :
    (red m j (devAt q z) r : EReal) = ∑ k : Fin 4, (X m (devAt q k) j r : EReal) := by
  have hs : ∑ k : Fin 4, (X m (devAt q k) j r : EReal) = ((f 0 + f 1 + f 2 + f 3 : ℝ) : EReal) := by
    rw [Fin.sum_univ_four, hf, hf, hf, hf]; norm_cast
  rw [hs]
  have hz := z_dev q z
  unfold red
  rw [zr_devAt, z_dev, z_dev]
  fin_cases z
  · refine (add_at _ _ r).trans ?_
    rw [hf, suffix_at hf, ← EReal.coe_add]
    congr 1
    show f 0 + (((f 3) + f 2) + f 1) = _
    ring
  · refine (mix_at _ _ _ r).trans ?_
    rw [prefix_at hf, suffix_at hf, hf, ← EReal.coe_add, ← EReal.coe_sub]
    congr 1
    show (f 0 + f 1) + (((f 3) + f 2) + f 1) - f 1 = _
    ring
  · refine (mix_at _ _ _ r).trans ?_
    rw [prefix_at hf, suffix_at hf, hf, ← EReal.coe_add, ← EReal.coe_sub]
    congr 1
    show ((f 0 + f 1) + f 2) + (f 3 + f 2) - f 2 = _
    ring
  · exact (prefix_at hf _ _).trans (congrArg _ (by show ((f 0 + f 1) + f 2) + f 3 = _; ring))

/-! ## The result -/

/-- An index is its row of its chunk of its block. -/
theorem emb_row (i : S8192x1024.Idx) : (bigRect (blockOf i) (chunkOf i)).emb (rowOf i) = i := by
  have h0 : (i 0).val < 8192 := (i 0).isLt
  funext a
  refine Fin.ext ?_
  fin_cases a
  · show 2048 * ((i 0).val / 2048 % 4) + 256 * ((i 0).val % 2048 / 256 % 8) + 1 * ((i 0).val % 256) = (i 0).val
    omega
  · show 0 + 1 * (i 1).val = (i 1).val
    omega

theorem X_at (q z : Fin 4) (i : S8192x1024.Idx) (hq : q = blockOf i) : (X m (devAt q z) (chunkOf i) (rowOf i) : EReal) = argAt m (devAt q z) i := by
  show argAt m (devAt q z) ((bigRect (qOf (devAt q z)) (chunkOf i)).emb (rowOf i)) = _
  rw [q_dev, hq, emb_row]

/-- At finite arguments, each element of a device's result is the sum of that element over the line of devices of its block. -/
theorem out_at (h : Finite m) (c : Dev nD) (i : S8192x1024.Idx) :
    (outAt m c i : EReal) = ∑ k : Fin 4, argAt m (devAt (blockOf i) k) i := by
  choose f hf using fun z : Fin 4 => h (devAt (blockOf i) z) i
  refine (red_at (f := f) (fun z => (X_at m _ z i rfl).trans (hf z)) (zOf c)).trans (Finset.sum_congr rfl fun k _ => X_at m _ k i rfl)

/-! ## The reference -/

/-- What the reference returns of its argument: the sum over the four blocks of rows. -/
def refOut (x : (⟨2, ![32768, 1024]⟩ : Shape).Idx → EReal) : S8192x1024.Idx → EReal :=
  Host.reduceAdd (F := Ideal) (φ := .f32) (shapeCast Cert.ReferenceIdeal.S4x8192x1024 x Cert.ReferenceIdeal.Gen.shapeCasts_S32768x1024_S4x8192x1024)
    (constant Cert.ReferenceIdeal.S_ .f32 0x00000000#32) Cert.ReferenceIdeal.Gen.reducesTo_S4x8192x1024_S8192x1024_d0 Cert.ReferenceIdeal.Gen.h_S_

/-- Block `z` of the reference's argument. -/
def blk (x : (⟨2, ![32768, 1024]⟩ : Shape).Idx → EReal) (c : Dev nD) : S8192x1024.Idx → EReal :=
  Layout.blockN ⟨2, ![8192, 1024]⟩ ⟨2, ![32768, 1024]⟩ (Layout.meshBlock [2, 2, 4] ![[2], []] c) x

/-- The rows' block that a device holds is its place on its line. -/
theorem lin_devAt (q z : Fin 4) : Layout.meshLin [2, 2, 4] (devAt q z).val [2] = z.val := by revert q z; decide

theorem ref_at (x : (⟨2, ![32768, 1024]⟩ : Shape).Idx → EReal) (q : Fin 4) (i : S8192x1024.Idx) :
    refOut x i = ∑ k : Fin 4, blk x (devAt q k) i := by
  have e : refOut x i = 0 + ∑ k : Fin 4, shapeCast Cert.ReferenceIdeal.S4x8192x1024 x Cert.ReferenceIdeal.Gen.shapeCasts_S32768x1024_S4x8192x1024
      (ix3 k ⟨(i 0).val, (i 0).isLt⟩ ⟨(i 1).val, (i 1).isLt⟩) := by
    unfold refOut
    rw [ValueIdx.hostReduceAdd_apply, Ideal.hostReduceAdd_r3_a0]
    exact congrArg (· + _) Ideal.ofBits_zero_f32
  rw [e, zero_add]
  refine Finset.sum_congr rfl fun k _ => ?_
  refine shapeCast_apply x _ _ _ ?_
  rw [Shape.rowMajor_val_two, Shape.rowMajor_val_three]
  have h0 : ∀ h : Layout.TilesN ⟨2, ![8192, 1024]⟩ ⟨2, ![32768, 1024]⟩ (fun b => Layout.cutSize [2, 2, 4] ((![[2], []] : Fin 2 → List ℕ) b)),
      (h.idx (Layout.meshBlock [2, 2, 4] ![[2], []] (devAt q k)) i 0).val = k.val * 8192 + (i 0).val := fun h => by
    rw [Layout.TilesN.idx_val]
    show Layout.meshLin [2, 2, 4] (devAt q k).val [2] * 8192 + (i 0).val = _
    rw [lin_devAt]
  have h1 : ∀ h : Layout.TilesN ⟨2, ![8192, 1024]⟩ ⟨2, ![32768, 1024]⟩ (fun b => Layout.cutSize [2, 2, 4] ((![[2], []] : Fin 2 → List ℕ) b)),
      (h.idx (Layout.meshBlock [2, 2, 4] ![[2], []] (devAt q k)) i 1).val = (i 1).val := fun h => by
    rw [Layout.TilesN.idx_val]
    show 0 * 1024 + (i 1).val = _
    omega
  rw [h0, h1]
  rfl

/-- Where each device's argument is its block of the reference's and finite, each device's result is the reference's. -/
theorem out_eq (h : Finite m) (x : (⟨2, ![32768, 1024]⟩ : Shape).Idx → EReal) (hx : ∀ c, argAt m c = blk x c) (c : Dev nD) :
    outAt m c = refOut x :=
  funext fun i => (out_at m h c i).trans
    ((Finset.sum_congr rfl fun k _ => congrFun (hx _) i).trans (ref_at x (blockOf i) i).symm)

end Cert.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- At any float values and from any memory the kernel's text runs, leaves its argument as it was and every semaphore
    counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0 :=
  (θ_run Cert.KernelIdeal.defs _ _).mono (fun _ h => ⟨fun c => (h.1 c).2, h.2⟩) (Cert.AllReduce.run_main (F := F) m ρ)

/-- The two printings of the kernel have the same body, -/
theorem body_eq {F : FTy → Type} [FloatOps F] : @Cert.Kernel.cc0_body F _ _ = @Cert.KernelIdeal.cc0_body F _ _ := by with_unfolding_all rfl

/-- and so the same labels. -/
theorem defs_eq {F : FTy → Type} [FloatOps F] : Cert.Kernel.defs₀ (F := F) = Cert.KernelIdeal.defs₀ (F := F) := by
  refine congrArg Defs.onTc (funext fun l => ?_)
  match l with
  | 0 =>
    funext ⟨t, s⟩
    exact congrFun (congrFun (congrFun (congrFun (congrFun (congrFun (congrFun (congrFun (congrFun (congrFun (congrFun (congrFun (congrFun
      (congrFun (congrFun (congrFun body_eq _) _) _) _) _) _) _) _) _) _) _) _) _) _) _) _
  | ⟨_ + 1, h⟩ => exact absurd h (Nat.not_lt.2 (Nat.le_add_left _ _))

/-- The kernel's frame on the floats: its program has the same text. -/
theorem frame_kernel : Cert.quiescent_Kernel := fun m ρ _ =>
  Eq.mpr (congrArg (fun d => θ_run (Pipeline.defs (Cert.Kernel.pcfgs (F := Bits)) d) (onTc (τ := Cert.Kernel.τ) (Cert.Kernel.main (F := Bits)))
    ⟨m, fun _ => 0, ρ⟩ fun r => (∀ c : Dev Cert.Kernel.nD, r.2.mem ((c.tc : Thread Cert.Kernel.nD Cert.Kernel.τ).loc Cert.Kernel.main_arg0)
      = m ((c.tc : Thread Cert.Kernel.nD Cert.Kernel.τ).loc Cert.Kernel.main_arg0)) ∧ r.2.sem = fun _ => 0) defs_eq) (frame_any (F := Bits) m ρ)

/-- The reference runs and leaves its argument as it was; it declares no semaphore. -/
theorem frame_reference_any (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      (∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) ∧ r.2.sem = fun _ => 0 :=
  (θ_run Cert.ReferenceIdeal.defs _ _).mono (fun r h => ⟨fun c => (h c).2, sem_eq_zero_of_no_sems (by decide) r.2⟩)
    (Cert.ReferenceIdeal.Value.run (F := Ideal) m ρ)

/-- At finite arguments, where each device holds its block of the reference's argument, every device's result is the
    reference's: the sum over the four blocks. -/
theorem algebraic : Cert.algebraic_KernelIdeal_ReferenceIdeal_pre_finite_KernelIdeal := fun m ρ m' ρ' hpre hagree =>
  ⟨Cert.AllReduce.refOut (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).1.trans (Cert.AllReduce.out_eq m (Cert.AllReduce.finite_of_pre m hpre) _ hagree c), (h.1 c).2⟩)
      (Cert.AllReduce.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, fun m ρ _ => frame_any m ρ, fun m ρ _ => frame_any m ρ, fun m ρ _ => frame_reference_any m ρ,
  fun m ρ _ => frame_reference_any m ρ, trivial, algebraic⟩

end Cert.Proof

end
